-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_states_sound [hPre_states_sound : Cert.Pre_states_sound.Facts] (m : (ℓ : Loc Cert.KernelIdeal.nD Cert.KernelIdeal.τ Cert.KernelIdeal.sig) → Buf (Elt Ideal) ℓ) : Prop :=
  ∀ c : Dev Cert.KernelIdeal.nD,
    (Cert.Pre_states_sound.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_states_sound [hPre_states_sound : Cert.Pre_states_sound.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_states_sound.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_maxima_sound [hPre_maxima_sound : Cert.Pre_maxima_sound.Facts] (m : (ℓ : Loc Cert.StatsIdeal.nD Cert.StatsIdeal.τ Cert.StatsIdeal.sig) → Buf (Elt Ideal) ℓ) : Prop :=
  ∀ c : Dev Cert.StatsIdeal.nD,
    (Cert.Pre_maxima_sound.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3)) (m ((c.tc : Thread Cert.StatsIdeal.nD Cert.StatsIdeal.τ).loc Cert.StatsIdeal.main_arg4))) = (fun _ => 1#1)

def Pre_StatsReference (m : (ℓ : Loc Cert.StatsReference.nD Cert.StatsReference.τ Cert.StatsReference.sig) → Buf (Elt Bits) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def Pre_StatsReferenceIdeal_maxima_sound [hPre_maxima_sound : Cert.Pre_maxima_sound.Facts] (m : (ℓ : Loc Cert.StatsReferenceIdeal.nD Cert.StatsReferenceIdeal.τ Cert.StatsReferenceIdeal.sig) → Buf (Elt Ideal) ℓ) : Prop :=
  ∀ c : Dev Cert.StatsReferenceIdeal.nD,
    (Cert.Pre_maxima_sound.fn (F := Ideal) (m ((c.tc : Thread Cert.StatsReferenceIdeal.nD Cert.StatsReferenceIdeal.τ).loc Cert.StatsReferenceIdeal.main_arg0)) (m ((c.tc : Thread Cert.StatsReferenceIdeal.nD Cert.StatsReferenceIdeal.τ).loc Cert.StatsReferenceIdeal.main_arg1)) (m ((c.tc : Thread Cert.StatsReferenceIdeal.nD Cert.StatsReferenceIdeal.τ).loc Cert.StatsReferenceIdeal.main_arg2)) (m ((c.tc : Thread Cert.StatsReferenceIdeal.nD Cert.StatsReferenceIdeal.τ).loc Cert.StatsReferenceIdeal.main_arg3)) (m ((c.tc : Thread Cert.StatsReferenceIdeal.nD Cert.StatsReferenceIdeal.τ).loc Cert.StatsReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_states_sound [hKernelIdeal : Cert.KernelIdeal.Facts] [hPre_states_sound : Cert.Pre_states_sound.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_states_sound m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_states_sound [hReferenceIdeal : Cert.ReferenceIdeal.Facts] [hPre_states_sound : Cert.Pre_states_sound.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_states_sound m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3)
      ∧ r.2.mem ((c.tc : Thread Cert.Stats.nD Cert.Stats.τ).loc Cert.Stats.main_arg4) = m ((c.tc : Thread Cert.Stats.nD Cert.Stats.τ).loc Cert.Stats.main_arg4))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4))
      ∧ r.2.sem = fun _ => 0)

def quiescent_StatsIdeal_pre_maxima_sound [hStatsIdeal : Cert.StatsIdeal.Facts] [hPre_maxima_sound : Cert.Pre_maxima_sound.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_maxima_sound m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
      ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4))
      ∧ r.2.sem = fun _ => 0)

def quiescent_StatsReference [hStatsReference : Cert.StatsReference.Facts] : Prop :=
  ∀ (m : (ℓ : Loc Cert.StatsReference.nD Cert.StatsReference.τ Cert.StatsReference.sig) → Buf (Elt Bits) ℓ) (g : Dev Cert.StatsReference.nD → PrngReg), Pre_StatsReference m →
    θ_run (Cert.StatsReference.defs (F := Bits)) (onTc (τ := Cert.StatsReference.τ) (Cert.StatsReference.main (F := Bits))) ⟨m, fun _ => 0, g⟩ (fun r => (∀ c : Dev Cert.StatsReference.nD,
      r.2.mem ((c.tc : Thread Cert.StatsReference.nD Cert.StatsReference.τ).loc Cert.StatsReference.main_arg0) = m ((c.tc : Thread Cert.StatsReference.nD Cert.StatsReference.τ).loc Cert.StatsReference.main_arg0)
      ∧ r.2.mem ((c.tc : Thread Cert.StatsReference.nD Cert.StatsReference.τ).loc Cert.StatsReference.main_arg1) = m ((c.tc : Thread Cert.StatsReference.nD Cert.StatsReference.τ).loc Cert.StatsReference.main_arg1)
      ∧ r.2.mem ((c.tc : Thread Cert.StatsReference.nD Cert.StatsReference.τ).loc Cert.StatsReference.main_arg2) = m ((c.tc : Thread Cert.StatsReference.nD Cert.StatsReference.τ).loc Cert.StatsReference.main_arg2)
      ∧ r.2.mem ((c.tc : Thread Cert.StatsReference.nD Cert.StatsReference.τ).loc Cert.StatsReference.main_arg3) = m ((c.tc : Thread Cert.StatsReference.nD Cert.StatsReference.τ).loc Cert.StatsReference.main_arg3)
      ∧ r.2.mem ((c.tc : Thread Cert.StatsReference.nD Cert.StatsReference.τ).loc Cert.StatsReference.main_arg4) = m ((c.tc : Thread Cert.StatsReference.nD Cert.StatsReference.τ).loc Cert.StatsReference.main_arg4))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3)
      ∧ r.2.mem ((c.tc : Thread Cert.StatsReferenceIdeal.nD Cert.StatsReferenceIdeal.τ).loc Cert.StatsReferenceIdeal.main_arg4) = m ((c.tc : Thread Cert.StatsReferenceIdeal.nD Cert.StatsReferenceIdeal.τ).loc Cert.StatsReferenceIdeal.main_arg4))
      ∧ r.2.sem = fun _ => 0)

def quiescent_StatsReferenceIdeal_pre_maxima_sound [hStatsReferenceIdeal : Cert.StatsReferenceIdeal.Facts] [hPre_maxima_sound : Cert.Pre_maxima_sound.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal_maxima_sound m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3)
      ∧ r.2.mem ((c.tc : Thread Cert.StatsReferenceIdeal.nD Cert.StatsReferenceIdeal.τ).loc Cert.StatsReferenceIdeal.main_arg4) = m ((c.tc : Thread Cert.StatsReferenceIdeal.nD Cert.StatsReferenceIdeal.τ).loc Cert.StatsReferenceIdeal.main_arg4))
      ∧ r.2.sem = fun _ => 0)

def preserves_Kernel_KernelIdeal : Prop :=
  IdealRules.named_const.Statement Cert.KernelIdeal.κ "lr" .f32 0x399D4952#32 ((3 / 10000 : ℝ) : EReal)
  ∧ IdealRules.named_const.Statement Cert.KernelIdeal.κ "tenth" .f32 0x3DCCCCCD#32 ((1 / 10 : ℝ) : EReal)
  ∧ IdealRules.named_const.Statement Cert.KernelIdeal.κ "row_unit" .f32 0x3F1FD70A#32 ((16760439 / 26843546 : ℝ) : EReal)
  ∧ IdealRules.named_const.Statement Cert.KernelIdeal.κ "lr_decay" .f32 0x37FBA882#32 ((3 / 100000 : ℝ) : EReal)
  ∧ IdealRules.named_const.Statement Cert.KernelIdeal.κ "cap" .f32 0x7E967699#32 ⊤

def preserves_Reference_ReferenceIdeal : Prop :=
  IdealRules.named_const.Statement Cert.ReferenceIdeal.κ "tenth" .f32 0x3DCCCCCD#32 ((1 / 10 : ℝ) : EReal)
  ∧ IdealRules.named_const.Statement Cert.ReferenceIdeal.κ "one_less_beta2" .f32 0x3A83126F#32 ((13421773 / 13421772800 : ℝ) : EReal)
  ∧ IdealRules.named_const.Statement Cert.ReferenceIdeal.κ "lr" .f32 0x399D4952#32 ((3 / 10000 : ℝ) : EReal)

def algebraic_KernelIdeal_ReferenceIdeal_pre_states_sound [hKernelIdeal : Cert.KernelIdeal.Facts] [hReferenceIdeal : Cert.ReferenceIdeal.Facts] [hPre_states_sound : Cert.Pre_states_sound.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_states_sound m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)) (v3 : (c : Dev Cert.KernelIdeal.nD) → Buf (Elt Ideal) ((c.tc : Thread Cert.KernelIdeal.nD Cert.KernelIdeal.τ).loc Cert.KernelIdeal.main_v49_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_v49_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Stats_StatsIdeal : Prop :=
  IdealRules.named_const.Statement Cert.StatsIdeal.κ "tenth" .f32 0x3DCCCCCD#32 ((1 / 10 : ℝ) : EReal)
  ∧ IdealRules.named_const.Statement Cert.StatsIdeal.κ "row_unit" .f32 0x3F1FD70A#32 ((83802195 / 134217728 : ℝ) : EReal)

def preserves_StatsReference_StatsReferenceIdeal : Prop :=
  IdealRules.named_const.Statement Cert.StatsReferenceIdeal.κ "one_less_beta2" .f32 0x3A83126F#32 ((1 / 1000 : ℝ) : EReal)

def algebraic_StatsIdeal_StatsReferenceIdeal_pre_maxima_sound [hStatsIdeal : Cert.StatsIdeal.Facts] [hStatsReferenceIdeal : Cert.StatsReferenceIdeal.Facts] [hPre_maxima_sound : Cert.Pre_maxima_sound.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal_maxima_sound m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
      ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)
      ∧ m' ((c.tc : Thread Cert.StatsReferenceIdeal.nD Cert.StatsReferenceIdeal.τ).loc Cert.StatsReferenceIdeal.main_arg4) = m ((c.tc : Thread Cert.StatsIdeal.nD Cert.StatsIdeal.τ).loc Cert.StatsIdeal.main_arg4)) →
    ∃ (v0 : (c : Dev Cert.StatsIdeal.nD) → Buf (Elt Ideal) ((c.tc : Thread Cert.StatsIdeal.nD Cert.StatsIdeal.τ).loc Cert.StatsIdeal.main_v15_0)) (v1 : (c : Dev Cert.StatsIdeal.nD) → Buf (Elt Ideal) ((c.tc : Thread Cert.StatsIdeal.nD Cert.StatsIdeal.τ).loc Cert.StatsIdeal.main_v15_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v15_0) = v0 c
          ∧ r.2.mem ((c.tc : Thread Cert.StatsIdeal.nD Cert.StatsIdeal.τ).loc Cert.StatsIdeal.main_v15_1) = v1 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3)
          ∧ r.2.mem ((c.tc : Thread Cert.StatsIdeal.nD Cert.StatsIdeal.τ).loc Cert.StatsIdeal.main_arg4) = m ((c.tc : Thread Cert.StatsIdeal.nD Cert.StatsIdeal.τ).loc Cert.StatsIdeal.main_arg4))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v0_0) = v0 c
          ∧ r.2.mem ((c.tc : Thread Cert.StatsReferenceIdeal.nD Cert.StatsReferenceIdeal.τ).loc Cert.StatsReferenceIdeal.main_v0_1) = v1 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2)
          ∧ r.2.mem ((c.tc : Thread Cert.StatsReferenceIdeal.nD Cert.StatsReferenceIdeal.τ).loc Cert.StatsReferenceIdeal.main_arg3) = m' ((c.tc : Thread Cert.StatsReferenceIdeal.nD Cert.StatsReferenceIdeal.τ).loc Cert.StatsReferenceIdeal.main_arg3)
          ∧ r.2.mem ((c.tc : Thread Cert.StatsReferenceIdeal.nD Cert.StatsReferenceIdeal.τ).loc Cert.StatsReferenceIdeal.main_arg4) = m' ((c.tc : Thread Cert.StatsReferenceIdeal.nD Cert.StatsReferenceIdeal.τ).loc Cert.StatsReferenceIdeal.main_arg4))

def Claim : Prop :=
  ∃ (hKernel : Cert.Kernel.Facts) (hKernelIdeal : Cert.KernelIdeal.Facts) (hReference : Cert.Reference.Facts) (hReferenceIdeal : Cert.ReferenceIdeal.Facts) (hStats : Cert.Stats.Facts) (hStatsIdeal : Cert.StatsIdeal.Facts) (hStatsReference : Cert.StatsReference.Facts) (hStatsReferenceIdeal : Cert.StatsReferenceIdeal.Facts) (hPre_states_sound : Cert.Pre_states_sound.Facts) (hPre_maxima_sound : Cert.Pre_maxima_sound.Facts),
    quiescent_Kernel (hKernel := hKernel)
    ∧ quiescent_KernelIdeal (hKernelIdeal := hKernelIdeal)
    ∧ quiescent_KernelIdeal_pre_states_sound (hKernelIdeal := hKernelIdeal) (hPre_states_sound := hPre_states_sound)
    ∧ quiescent_Reference (hReference := hReference)
    ∧ quiescent_ReferenceIdeal (hReferenceIdeal := hReferenceIdeal)
    ∧ quiescent_ReferenceIdeal_pre_states_sound (hReferenceIdeal := hReferenceIdeal) (hPre_states_sound := hPre_states_sound)
    ∧ quiescent_Stats (hStats := hStats)
    ∧ quiescent_StatsIdeal (hStatsIdeal := hStatsIdeal)
    ∧ quiescent_StatsIdeal_pre_maxima_sound (hStatsIdeal := hStatsIdeal) (hPre_maxima_sound := hPre_maxima_sound)
    ∧ quiescent_StatsReference (hStatsReference := hStatsReference)
    ∧ quiescent_StatsReferenceIdeal (hStatsReferenceIdeal := hStatsReferenceIdeal)
    ∧ quiescent_StatsReferenceIdeal_pre_maxima_sound (hStatsReferenceIdeal := hStatsReferenceIdeal) (hPre_maxima_sound := hPre_maxima_sound)
    ∧ preserves_Kernel_KernelIdeal
    ∧ preserves_Reference_ReferenceIdeal
    ∧ algebraic_KernelIdeal_ReferenceIdeal_pre_states_sound (hKernelIdeal := hKernelIdeal) (hReferenceIdeal := hReferenceIdeal) (hPre_states_sound := hPre_states_sound)
    ∧ preserves_Stats_StatsIdeal
    ∧ preserves_StatsReference_StatsReferenceIdeal
    ∧ algebraic_StatsIdeal_StatsReferenceIdeal_pre_maxima_sound (hStatsIdeal := hStatsIdeal) (hStatsReferenceIdeal := hStatsReferenceIdeal) (hPre_maxima_sound := hPre_maxima_sound)
-- ==== Pre_maxima_sound.lean ====
abbrev S7x5760x2880 : Shape := ⟨3, ![7, 5760, 2880]⟩
abbrev S7x5760 : Shape := ⟨2, ![7, 5760]⟩
abbrev S7x5760x1440 : Shape := ⟨3, ![7, 5760, 1440]⟩
abbrev S7x2880 : Shape := ⟨2, ![7, 2880]⟩
abbrev S7x5760x1 : Shape := ⟨3, ![7, 5760, 1]⟩
abbrev S_ : Shape := ⟨0, ![]⟩
abbrev S7x1x2880 : Shape := ⟨3, ![7, 1, 2880]⟩

class Facts : Prop where
  bcast_S7x5760_S7x5760x1_0_1 : S7x5760.BroadcastsInDim S7x5760x1 (![0, 1] : Fin 2 → Fin S7x5760x1.rank)
  bcast_S_S7x5760x1 : S_.BroadcastsInDim S7x5760x1 (![] : Fin 0 → Fin S7x5760x1.rank)
  bcast_S7x2880_S7x1x2880_0_2 : S7x2880.BroadcastsInDim S7x1x2880 (![0, 2] : Fin 2 → Fin S7x1x2880.rank)
  bcast_S_S7x1x2880 : S_.BroadcastsInDim S7x1x2880 (![] : Fin 0 → Fin S7x1x2880.rank)
  bcast_S7x5760x1_S7x5760x2880_0_1_2 : S7x5760x1.BroadcastsInDim S7x5760x2880 (![0, 1, 2] : Fin 3 → Fin S7x5760x2880.rank)
  bcast_S7x1x2880_S7x5760x2880_0_1_2 : S7x1x2880.BroadcastsInDim S7x5760x2880 (![0, 1, 2] : Fin 3 → Fin S7x5760x2880.rank)

variable [Facts]

def fn {F : FTy → Type} [FloatOps F] (main_arg0 : FVec F S7x5760x2880 .fp8e4m3) (main_arg1 : FVec F S7x5760 .f32) (main_arg2 : IVec S7x5760x1440 8) (main_arg3 : FVec F S7x5760 .f32) (main_arg4 : FVec F S7x2880 .f32) : IVec S7x5760x2880 1 :=
  let main_v0 : FVec F S7x5760x1 .f32 := broadcastInDim S7x5760x1 ![0, 1] bcast_S7x5760_S7x5760x1_0_1 main_arg3
  let main_cst : FVec F S_ .f32 := constant S_ .f32 0x00000000#32
  let main_v1 : FVec F S7x5760x1 .f32 := broadcastInDim S7x5760x1 ![] bcast_S_S7x5760x1 main_cst
  let main_v2 : IVec S7x5760x1 1 := cmpf .oge main_v0 main_v1
  let main_v3 : FVec F S7x1x2880 .f32 := broadcastInDim S7x1x2880 ![0, 2] bcast_S7x2880_S7x1x2880_0_2 main_arg4
  let main_cst_0 : FVec F S_ .f32 := constant S_ .f32 0x00000000#32
  let main_v4 : FVec F S7x1x2880 .f32 := broadcastInDim S7x1x2880 ![] bcast_S_S7x1x2880 main_cst_0
  let main_v5 : IVec S7x1x2880 1 := cmpf .oge main_v3 main_v4
  let main_v6 : IVec S7x5760x2880 1 := broadcastInDim S7x5760x2880 ![0, 1, 2] bcast_S7x5760x1_S7x5760x2880_0_1_2 main_v2
  let main_v7 : IVec S7x5760x2880 1 := broadcastInDim S7x5760x2880 ![0, 1, 2] bcast_S7x1x2880_S7x5760x2880_0_1_2 main_v5
  let main_v8 : IVec S7x5760x2880 1 := andi main_v6 main_v7
  main_v8
-- ==== Pre_states_sound.lean ====
abbrev S7x5760x2880 : Shape := ⟨3, ![7, 5760, 2880]⟩
abbrev S7x5760 : Shape := ⟨2, ![7, 5760]⟩
abbrev S_ : Shape := ⟨0, ![]⟩
abbrev S7x5760x1440 : Shape := ⟨3, ![7, 5760, 1440]⟩
abbrev S7x5760x45 : Shape := ⟨3, ![7, 5760, 45]⟩
abbrev S7x2880 : Shape := ⟨2, ![7, 2880]⟩
abbrev S7x1x45x64 : Shape := ⟨4, ![7, 1, 45, 64]⟩
abbrev S7x5760x45x1 : Shape := ⟨4, ![7, 5760, 45, 1]⟩
abbrev S7x5760x1x1 : Shape := ⟨4, ![7, 5760, 1, 1]⟩
abbrev S7x5760x45x64 : Shape := ⟨4, ![7, 5760, 45, 64]⟩

class Facts : Prop where
  shapeCasts_S7x2880_S7x1x45x64 : S7x2880.ShapeCasts S7x1x45x64
  bcast_S7x5760x45_S7x5760x45x1_0_1_2 : S7x5760x45.BroadcastsInDim S7x5760x45x1 (![0, 1, 2] : Fin 3 → Fin S7x5760x45x1.rank)
  bcast_S_S7x5760x45x1 : S_.BroadcastsInDim S7x5760x45x1 (![] : Fin 0 → Fin S7x5760x45x1.rank)
  bcast_S7x5760_S7x5760x1x1_0_1 : S7x5760.BroadcastsInDim S7x5760x1x1 (![0, 1] : Fin 2 → Fin S7x5760x1x1.rank)
  bcast_S_S7x5760x1x1 : S_.BroadcastsInDim S7x5760x1x1 (![] : Fin 0 → Fin S7x5760x1x1.rank)
  bcast_S7x5760x1x1_S7x5760x45x1_0_1_2_3 : S7x5760x1x1.BroadcastsInDim S7x5760x45x1 (![0, 1, 2, 3] : Fin 4 → Fin S7x5760x45x1.rank)
  bcast_S_S7x1x45x64 : S_.BroadcastsInDim S7x1x45x64 (![] : Fin 0 → Fin S7x1x45x64.rank)
  bcast_S7x5760x45x1_S7x5760x45x64_0_1_2_3 : S7x5760x45x1.BroadcastsInDim S7x5760x45x64 (![0, 1, 2, 3] : Fin 4 → Fin S7x5760x45x64.rank)
  bcast_S7x1x45x64_S7x5760x45x64_0_1_2_3 : S7x1x45x64.BroadcastsInDim S7x5760x45x64 (![0, 1, 2, 3] : Fin 4 → Fin S7x5760x45x64.rank)
  bcast_S7x5760x1x1_S7x5760x45x64_0_1_2_3 : S7x5760x1x1.BroadcastsInDim S7x5760x45x64 (![0, 1, 2, 3] : Fin 4 → Fin S7x5760x45x64.rank)

variable [Facts]

def fn_part1 {F : FTy → Type} [FloatOps F] (main_v1 : FVec F S7x1x45x64 .f32) (main_v18 : IVec S7x5760x45x64 1) (main_v19 : FVec F S7x5760x1x1 .f32) : IVec S7x5760x45x64 1 :=
  let main_cst_2 : FVec F S_ .f32 := constant S_ .f32 0x00000000#32
  let main_v20 : FVec F S7x5760x1x1 .f32 := broadcastInDim S7x5760x1x1 ![] bcast_S_S7x5760x1x1 main_cst_2
  let main_v21 : IVec S7x5760x1x1 1 := cmpf .ogt main_v19 main_v20
  let main_v22 : IVec S7x5760x45x64 1 := broadcastInDim S7x5760x45x64 ![0, 1, 2, 3] bcast_S7x5760x1x1_S7x5760x45x64_0_1_2_3 main_v21
  let main_v23 : IVec S7x5760x45x64 1 := andi main_v18 main_v22
  let main_cst_3 : FVec F S_ .f32 := constant S_ .f32 0x00000000#32
  let main_v24 : FVec F S7x1x45x64 .f32 := broadcastInDim S7x1x45x64 ![] bcast_S_S7x1x45x64 main_cst_3
  let main_v25 : IVec S7x1x45x64 1 := cmpf .ogt main_v1 main_v24
  let main_v26 : IVec S7x5760x45x64 1 := broadcastInDim S7x5760x45x64 ![0, 1, 2, 3] bcast_S7x1x45x64_S7x5760x45x64_0_1_2_3 main_v25
  let main_v27 : IVec S7x5760x45x64 1 := andi main_v23 main_v26
  main_v27

def fn {F : FTy → Type} [FloatOps F] (main_arg0 : FVec F S7x5760x2880 .bf16) (main_arg1 : FVec F S7x5760x2880 .fp8e4m3) (main_arg2 : FVec F S7x5760 .f32) (main_arg3 : IVec S_ 32) (main_arg4 : IVec S7x5760x1440 8) (main_arg5 : FVec F S7x5760x45 .f32) (main_arg6 : IVec S7x5760x1440 8) (main_arg7 : FVec F S7x5760 .f32) (main_arg8 : FVec F S7x2880 .f32) (main_arg9 : FVec F S7x5760 .f32) (main_arg10 : FVec F S7x2880 .f32) : IVec S7x5760x45x64 1 :=
  let main_v0 : FVec F S7x1x45x64 .f32 := shapeCast S7x1x45x64 main_arg8 shapeCasts_S7x2880_S7x1x45x64
  let main_v1 : FVec F S7x1x45x64 .f32 := shapeCast S7x1x45x64 main_arg10 shapeCasts_S7x2880_S7x1x45x64
  let main_c : IVec S_ 32 := constantI S_ 32 1#32
  let main_v2 : IVec S_ 1 := cmpi .sge main_arg3 main_c
  let main_v3 : FVec F S7x5760x45 .f32 := Host.absf main_arg5
  let main_v4 : FVec F S7x5760x45x1 .f32 := broadcastInDim S7x5760x45x1 ![0, 1, 2] bcast_S7x5760x45_S7x5760x45x1_0_1_2 main_v3
  let main_cst : FVec F S_ .f32 := constant S_ .f32 0x7F800000#32
  let main_v5 : FVec F S7x5760x45x1 .f32 := broadcastInDim S7x5760x45x1 ![] bcast_S_S7x5760x45x1 main_cst
  let main_v6 : IVec S7x5760x45x1 1 := cmpf .olt main_v4 main_v5
  let main_v7 : IVec S7x5760x45x1 1 := broadcastInDim S7x5760x45x1 ![] bcast_S_S7x5760x45x1 main_v2
  let main_v8 : IVec S7x5760x45x1 1 := andi main_v7 main_v6
  let main_v9 : FVec F S7x5760x1x1 .f32 := broadcastInDim S7x5760x1x1 ![0, 1] bcast_S7x5760_S7x5760x1x1_0_1 main_arg7
  let main_cst_0 : FVec F S_ .f32 := constant S_ .f32 0x00000000#32
  let main_v10 : FVec F S7x5760x1x1 .f32 := broadcastInDim S7x5760x1x1 ![] bcast_S_S7x5760x1x1 main_cst_0
  let main_v11 : IVec S7x5760x1x1 1 := cmpf .oge main_v9 main_v10
  let main_v12 : IVec S7x5760x45x1 1 := broadcastInDim S7x5760x45x1 ![0, 1, 2, 3] bcast_S7x5760x1x1_S7x5760x45x1_0_1_2_3 main_v11
  let main_v13 : IVec S7x5760x45x1 1 := andi main_v8 main_v12
  let main_cst_1 : FVec F S_ .f32 := constant S_ .f32 0x00000000#32
  let main_v14 : FVec F S7x1x45x64 .f32 := broadcastInDim S7x1x45x64 ![] bcast_S_S7x1x45x64 main_cst_1
  let main_v15 : IVec S7x1x45x64 1 := cmpf .oge main_v0 main_v14
  let main_v16 : IVec S7x5760x45x64 1 := broadcastInDim S7x5760x45x64 ![0, 1, 2, 3] bcast_S7x5760x45x1_S7x5760x45x64_0_1_2_3 main_v13
  let main_v17 : IVec S7x5760x45x64 1 := broadcastInDim S7x5760x45x64 ![0, 1, 2, 3] bcast_S7x1x45x64_S7x5760x45x64_0_1_2_3 main_v15
  let main_v18 : IVec S7x5760x45x64 1 := andi main_v16 main_v17
  let main_v19 : FVec F S7x5760x1x1 .f32 := broadcastInDim S7x5760x1x1 ![0, 1] bcast_S7x5760_S7x5760x1x1_0_1 main_arg9
  fn_part1 (F := F) main_v1 main_v18 main_v19
-- ==== Kernel.lean ====
abbrev S7x5760x2880 : Shape := ⟨3, ![7, 5760, 2880]⟩
abbrev S7x5760 : Shape := ⟨2, ![7, 5760]⟩
abbrev S_ : Shape := ⟨0, ![]⟩
abbrev S7x5760x1440 : Shape := ⟨3, ![7, 5760, 1440]⟩
abbrev S7x5760x45 : Shape := ⟨3, ![7, 5760, 45]⟩
abbrev S7x2880 : Shape := ⟨2, ![7, 2880]⟩
abbrev S1 : Shape := ⟨1, ![1]⟩
abbrev S2 : Shape := ⟨1, ![2]⟩
abbrev S1x2 : Shape := ⟨2, ![1, 2]⟩
abbrev S256x256 : Shape := ⟨2, ![256, 256]⟩
abbrev S256x128 : Shape := ⟨2, ![256, 128]⟩
abbrev S192x2880 : Shape := ⟨2, ![192, 2880]⟩
abbrev S7x15x1x384 : Shape := ⟨4, ![7, 15, 1, 384]⟩
abbrev S7x1x2880 : Shape := ⟨3, ![7, 1, 2880]⟩
abbrev S1x384x2880 : Shape := ⟨3, ![1, 384, 2880]⟩
abbrev S1x1x1x384 : Shape := ⟨4, ![1, 1, 1, 384]⟩
abbrev S1x384x1440 : Shape := ⟨3, ![1, 384, 1440]⟩
abbrev S1x384x45 : Shape := ⟨3, ![1, 384, 45]⟩
abbrev S1x1x2880 : Shape := ⟨3, ![1, 1, 2880]⟩
abbrev S128x2880 : Shape := ⟨2, ![128, 2880]⟩
abbrev S1x1 : Shape := ⟨2, ![1, 1]⟩
abbrev S1x1x1x128 : Shape := ⟨4, ![1, 1, 1, 128]⟩
abbrev S1x128 : Shape := ⟨2, ![1, 128]⟩
abbrev S128x128 : Shape := ⟨2, ![128, 128]⟩
abbrev S1x128x45 : Shape := ⟨3, ![1, 128, 45]⟩
abbrev S128x45 : Shape := ⟨2, ![128, 45]⟩
abbrev S1x128x256 : Shape := ⟨3, ![1, 128, 256]⟩
abbrev S128x256 : Shape := ⟨2, ![128, 256]⟩
abbrev S1x128x128 : Shape := ⟨3, ![1, 128, 128]⟩
abbrev S32x128 : Shape := ⟨2, ![32, 128]⟩
abbrev S45x256 : Shape := ⟨2, ![45, 256]⟩
abbrev S1x1x256 : Shape := ⟨3, ![1, 1, 256]⟩
abbrev S1x256 : Shape := ⟨2, ![1, 256]⟩
abbrev S64x128 : Shape := ⟨2, ![64, 128]⟩
abbrev S128 : Shape := ⟨1, ![128]⟩
abbrev S1x128x64 : Shape := ⟨3, ![1, 128, 64]⟩
abbrev S128x64 : Shape := ⟨2, ![128, 64]⟩
abbrev S1x128x32 : Shape := ⟨3, ![1, 128, 32]⟩
abbrev S128x32 : Shape := ⟨2, ![128, 32]⟩
abbrev S32x32 : Shape := ⟨2, ![32, 32]⟩
abbrev S32x64 : Shape := ⟨2, ![32, 64]⟩
abbrev S45x64 : Shape := ⟨2, ![45, 64]⟩
abbrev S1x1x64 : Shape := ⟨3, ![1, 1, 64]⟩
abbrev S1x64 : Shape := ⟨2, ![1, 64]⟩
abbrev S64x32 : Shape := ⟨2, ![64, 32]⟩
abbrev S45x128 : Shape := ⟨2, ![45, 128]⟩

abbrev nBuf : Space → Nat
  | .hbm => 91
  | .vmem => 32
  | .smem => 1
  | _ => 0

abbrev bufTy : (tb : Table) → Fin (tcTables nBuf tb) → BufTy
  | .hbm, ⟨0, _⟩ => ⟨S7x5760x2880, .bf16⟩
  | .hbm, ⟨1, _⟩ => ⟨S7x5760x2880, .fp8e4m3⟩
  | .hbm, ⟨2, _⟩ => ⟨S7x5760, .f32⟩
  | .hbm, ⟨3, _⟩ => ⟨S_, .i32⟩
  | .hbm, ⟨4, _⟩ => ⟨S7x5760x1440, .i8⟩
  | .hbm, ⟨5, _⟩ => ⟨S7x5760x45, .f32⟩
  | .hbm, ⟨6, _⟩ => ⟨S7x5760x1440, .i8⟩
  | .hbm, ⟨7, _⟩ => ⟨S7x5760, .f32⟩
  | .hbm, ⟨8, _⟩ => ⟨S7x2880, .f32⟩
  | .hbm, ⟨9, _⟩ => ⟨S7x5760, .f32⟩
  | .hbm, ⟨10, _⟩ => ⟨S7x2880, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S2, .f32⟩
  | .hbm, ⟨26, _⟩ => ⟨S1x2, .f32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S_, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S256x128, .i32⟩
  | .hbm, ⟨47, _⟩ => ⟨S256x128, .i32⟩
  | .hbm, ⟨48, _⟩ => ⟨S_, .i32⟩
  | .hbm, ⟨49, _⟩ => ⟨S256x128, .i32⟩
  | .hbm, ⟨50, _⟩ => ⟨S256x128, .i32⟩
  | .hbm, ⟨51, _⟩ => ⟨S256x128, .i1⟩
  | .hbm, ⟨52, _⟩ => ⟨S_, .i32⟩
  | .hbm, ⟨53, _⟩ => ⟨S256x128, .i32⟩
  | .hbm, ⟨54, _⟩ => ⟨S256x128, .i32⟩
  | .hbm, ⟨55, _⟩ => ⟨S_, .i32⟩
  | .hbm, ⟨56, _⟩ => ⟨S256x128, .i32⟩
  | .hbm, ⟨57, _⟩ => ⟨S256x128, .i1⟩
  | .hbm, ⟨58, _⟩ => ⟨S_, .f32⟩
  | .hbm, ⟨59, _⟩ => ⟨S_, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S256x128, .bf16⟩
  | .hbm, ⟨67, _⟩ => ⟨S192x2880, .i32⟩
  | .hbm, ⟨68, _⟩ => ⟨S192x2880, .i32⟩
  | .hbm, ⟨69, _⟩ => ⟨S_, .i32⟩
  | .hbm, ⟨70, _⟩ => ⟨S192x2880, .i32⟩
  | .hbm, ⟨71, _⟩ => ⟨S192x2880, .i32⟩
  | .hbm, ⟨72, _⟩ => ⟨S_, .i32⟩
  | .hbm, ⟨73, _⟩ => ⟨S192x2880, .i32⟩
  | .hbm, ⟨74, _⟩ => ⟨S192x2880, .i32⟩
  | .hbm, ⟨75, _⟩ => ⟨S192x2880, .i1⟩
  | .hbm, ⟨76, _⟩ => ⟨S_, .f32⟩
  | .hbm, ⟨77, _⟩ => ⟨S_, .f32⟩
  | .hbm, ⟨78, _⟩ => ⟨S192x2880, .f32⟩
  | .hbm, ⟨79, _⟩ => ⟨S192x2880, .f32⟩
  | .hbm, ⟨80, _⟩ => ⟨S192x2880, .f32⟩
  | .hbm, ⟨81, _⟩ => ⟨S192x2880, .bf16⟩
  | .hbm, ⟨82, _⟩ => ⟨S7x15x1x384, .f32⟩
  | .hbm, ⟨83, _⟩ => ⟨S7x15x1x384, .f32⟩
  | .hbm, ⟨84, _⟩ => ⟨S7x1x2880, .f32⟩
  | .hbm, ⟨85, _⟩ => ⟨S7x15x1x384, .f32⟩
  | .hbm, ⟨86, _⟩ => ⟨S7x1x2880, .f32⟩
  | .hbm, ⟨87, _⟩ => ⟨S7x5760x2880, .f32⟩
  | .hbm, ⟨88, _⟩ => ⟨S7x5760x1440, .i8⟩
  | .hbm, ⟨89, _⟩ => ⟨S7x5760x45, .f32⟩
  | .hbm, ⟨90, _⟩ => ⟨S7x5760x1440, .i8⟩
  | .local _ .vmem, ⟨0, _⟩ => ⟨S1x384x2880, .bf16⟩
  | .local _ .vmem, ⟨1, _⟩ => ⟨S1x384x2880, .bf16⟩
  | .local _ .vmem, ⟨2, _⟩ => ⟨S1x384x2880, .fp8e4m3⟩
  | .local _ .vmem, ⟨3, _⟩ => ⟨S1x384x2880, .fp8e4m3⟩
  | .local _ .vmem, ⟨4, _⟩ => ⟨S1x1x1x384, .f32⟩
  | .local _ .vmem, ⟨5, _⟩ => ⟨S1x1x1x384, .f32⟩
  | .local _ .vmem, ⟨6, _⟩ => ⟨S1x384x1440, .i8⟩
  | .local _ .vmem, ⟨7, _⟩ => ⟨S1x384x1440, .i8⟩
  | .local _ .vmem, ⟨8, _⟩ => ⟨S1x384x45, .f32⟩
  | .local _ .vmem, ⟨9, _⟩ => ⟨S1x384x45, .f32⟩
  | .local _ .vmem, ⟨10, _⟩ => ⟨S1x384x1440, .i8⟩
  | .local _ .vmem, ⟨11, _⟩ => ⟨S1x384x1440, .i8⟩
  | .local _ .vmem, ⟨12, _⟩ => ⟨S1x1x1x384, .f32⟩
  | .local _ .vmem, ⟨13, _⟩ => ⟨S1x1x1x384, .f32⟩
  | .local _ .vmem, ⟨14, _⟩ => ⟨S1x1x2880, .f32⟩
  | .local _ .vmem, ⟨15, _⟩ => ⟨S1x1x2880, .f32⟩
  | .local _ .vmem, ⟨16, _⟩ => ⟨S1x1x1x384, .f32⟩
  | .local _ .vmem, ⟨17, _⟩ => ⟨S1x1x1x384, .f32⟩
  | .local _ .vmem, ⟨18, _⟩ => ⟨S1x1x2880, .f32⟩
  | .local _ .vmem, ⟨19, _⟩ => ⟨S1x1x2880, .f32⟩
  | .local _ .vmem, ⟨20, _⟩ => ⟨S256x256, .bf16⟩
  | .local _ .vmem, ⟨21, _⟩ => ⟨S256x128, .bf16⟩
  | .local _ .vmem, ⟨22, _⟩ => ⟨S192x2880, .bf16⟩
  | .local _ .vmem, ⟨23, _⟩ => ⟨S1x384x2880, .f32⟩
  | .local _ .vmem, ⟨24, _⟩ => ⟨S1x384x2880, .f32⟩
  | .local _ .vmem, ⟨25, _⟩ => ⟨S1x384x1440, .i8⟩
  | .local _ .vmem, ⟨26, _⟩ => ⟨S1x384x1440, .i8⟩
  | .local _ .vmem, ⟨27, _⟩ => ⟨S1x384x45, .f32⟩
  | .local _ .vmem, ⟨28, _⟩ => ⟨S1x384x45, .f32⟩
  | .local _ .vmem, ⟨29, _⟩ => ⟨S1x384x1440, .i8⟩
  | .local _ .vmem, ⟨30, _⟩ => ⟨S1x384x1440, .i8⟩
  | .local _ .vmem, ⟨31, _⟩ => ⟨S128x2880, .f32⟩
  | .local _ .smem, ⟨0, _⟩ => ⟨S1x2, .f32⟩
  | _, _ => ⟨S7x5760x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_cst_3 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_cst_7 : Ref sig .tc := ⟨.hbm, 41, rfl⟩
abbrev main_call0_v0 : Ref sig .tc := ⟨.hbm, 42, rfl⟩
abbrev main_call0_v1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_9 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v32 : Ref sig .tc := ⟨.hbm, 62, rfl⟩
abbrev main_cst_13 : Ref sig .tc := ⟨.hbm, 63, rfl⟩
abbrev main_call2_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_14 : Ref sig .tc := ⟨.hbm, 69, rfl⟩
abbrev main_v37 : Ref sig .tc := ⟨.hbm, 70, rfl⟩
abbrev main_v38 : Ref sig .tc := ⟨.hbm, 71, rfl⟩
abbrev main_c_15 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_16 : Ref sig .tc := ⟨.hbm, 76, rfl⟩
abbrev main_cst_17 : Ref sig .tc := ⟨.hbm, 77, rfl⟩
abbrev main_call3_v0 : Ref sig .tc := ⟨.hbm, 78, rfl⟩
abbrev main_call3_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49_0 : Ref sig .tc := ⟨.hbm, 87, rfl⟩
abbrev main_v49_1 : Ref sig .tc := ⟨.hbm, 88, rfl⟩
abbrev main_v49_2 : Ref sig .tc := ⟨.hbm, 89, rfl⟩
abbrev main_v49_3 : Ref sig .tc := ⟨.hbm, 90, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![7, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x384x2880 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x2880 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x384x1440 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x45 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x1440 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2880 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2880 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S192x2880 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x384x2880 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x384x1440 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x384x45 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x384x1440 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "cap" => some ⊤
  | "lr" => some ((3 / 10000 : ℝ) : EReal)
  | "lr_decay" => some ((3 / 100000 : ℝ) : EReal)
  | "row_unit" => some ((16760439 / 26843546 : ℝ) : EReal)
  | "tenth" => some ((1 / 10 : ℝ) : EReal)
  | _ => none
-- ==== Reference.lean ====
abbrev S7x5760x2880 : Shape := ⟨3, ![7, 5760, 2880]⟩
abbrev S7x5760 : Shape := ⟨2, ![7, 5760]⟩
abbrev S_ : Shape := ⟨0, ![]⟩
abbrev S7x5760x1440 : Shape := ⟨3, ![7, 5760, 1440]⟩
abbrev S7x5760x45 : Shape := ⟨3, ![7, 5760, 45]⟩
abbrev S7x2880 : Shape := ⟨2, ![7, 2880]⟩
abbrev S1 : Shape := ⟨1, ![1]⟩
abbrev S2 : Shape := ⟨1, ![2]⟩
abbrev S1x2 : Shape := ⟨2, ![1, 2]⟩
abbrev S1x1 : Shape := ⟨2, ![1, 1]⟩
abbrev S7x5760x1440x2 : Shape := ⟨4, ![7, 5760, 1440, 2]⟩
abbrev S7x5760x1440x1 : Shape := ⟨4, ![7, 5760, 1440, 1]⟩
abbrev S7x5760x1 : Shape := ⟨3, ![7, 5760, 1]⟩
abbrev S7x1440x2 : Shape := ⟨3, ![7, 1440, 2]⟩
abbrev S7x1440x1 : Shape := ⟨3, ![7, 1440, 1]⟩
abbrev S7x1440 : Shape := ⟨2, ![7, 1440]⟩
abbrev S7x5760x45x1 : Shape := ⟨4, ![7, 5760, 45, 1]⟩
abbrev S7x5760x45x32 : Shape := ⟨4, ![7, 5760, 45, 32]⟩
abbrev S7x1x1440 : Shape := ⟨3, ![7, 1, 1440]⟩

abbrev nBuf : Space → Nat
  | .hbm => 28
  | .vmem => 15
  | .smem => 0
  | _ => 0

abbrev bufTy : (tb : Table) → Fin (tcTables nBuf tb) → BufTy
  | .hbm, ⟨0, _⟩ => ⟨S7x5760x2880, .bf16⟩
  | .hbm, ⟨1, _⟩ => ⟨S7x5760x2880, .fp8e4m3⟩
  | .hbm, ⟨2, _⟩ => ⟨S7x5760, .f32⟩
  | .hbm, ⟨3, _⟩ => ⟨S_, .i32⟩
  | .hbm, ⟨4, _⟩ => ⟨S7x5760x1440, .i8⟩
  | .hbm, ⟨5, _⟩ => ⟨S7x5760x45, .f32⟩
  | .hbm, ⟨6, _⟩ => ⟨S7x5760x1440, .i8⟩
  | .hbm, ⟨7, _⟩ => ⟨S7x5760, .f32⟩
  | .hbm, ⟨8, _⟩ => ⟨S7x2880, .f32⟩
  | .hbm, ⟨9, _⟩ => ⟨S7x5760, .f32⟩
  | .hbm, ⟨10, _⟩ => ⟨S7x2880, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S2, .f32⟩
  | .hbm, ⟨23, _⟩ => ⟨S1x2, .f32⟩
  | .hbm, ⟨24, _⟩ => ⟨S7x5760x2880, .f32⟩
  | .hbm, ⟨25, _⟩ => ⟨S7x5760x1440, .i8⟩
  | .hbm, ⟨26, _⟩ => ⟨S7x5760x45, .f32⟩
  | .hbm, ⟨27, _⟩ => ⟨S7x5760x1440, .i8⟩
  | .local _ .vmem, ⟨0, _⟩ => ⟨S1x2, .f32⟩
  | .local _ .vmem, ⟨1, _⟩ => ⟨S7x5760x2880, .bf16⟩
  | .local _ .vmem, ⟨2, _⟩ => ⟨S7x5760x2880, .fp8e4m3⟩
  | .local _ .vmem, ⟨3, _⟩ => ⟨S7x5760, .f32⟩
  | .local _ .vmem, ⟨4, _⟩ => ⟨S7x5760x1440, .i8⟩
  | .local _ .vmem, ⟨5, _⟩ => ⟨S7x5760x45, .f32⟩
  | .local _ .vmem, ⟨6, _⟩ => ⟨S7x5760x1440, .i8⟩
  | .local _ .vmem, ⟨7, _⟩ => ⟨S7x5760, .f32⟩
  | .local _ .vmem, ⟨8, _⟩ => ⟨S7x2880, .f32⟩
  | .local _ .vmem, ⟨9, _⟩ => ⟨S7x5760, .f32⟩
  | .local _ .vmem, ⟨10, _⟩ => ⟨S7x2880, .f32⟩
  | .local _ .vmem, ⟨11, _⟩ => ⟨S7x5760x2880, .f32⟩
  | .local _ .vmem, ⟨12, _⟩ => ⟨S7x5760x1440, .i8⟩
  | .local _ .vmem, ⟨13, _⟩ => ⟨S7x5760x45, .f32⟩
  | .local _ .vmem, ⟨14, _⟩ => ⟨S7x5760x1440, .i8⟩
  | _, _ => ⟨S7x5760x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x5760x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x5760x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x5760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x5760x1440 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x5760x45 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x5760x1440 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x5760 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x2880 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7x5760 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x2880 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7x5760x2880 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S7x5760x1440 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7x5760x45 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S7x5760x1440 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
variable {F : FTy → Type} [FloatOps F] [Named F]
def κ : String → Option EReal := fun
  | "lr" => some ((3 / 10000 : ℝ) : EReal)
  | "one_less_beta2" => some ((13421773 / 13421772800 : ℝ) : EReal)
  | "tenth" => some ((1 / 10 : ℝ) : EReal)
  | _ => none
-- ==== Stats.lean ====
abbrev S7x5760x2880 : Shape := ⟨3, ![7, 5760, 2880]⟩
abbrev S7x5760 : Shape := ⟨2, ![7, 5760]⟩
abbrev S7x5760x1440 : Shape := ⟨3, ![7, 5760, 1440]⟩
abbrev S7x2880 : Shape := ⟨2, ![7, 2880]⟩
abbrev S256x256 : Shape := ⟨2, ![256, 256]⟩
abbrev S_ : Shape := ⟨0, ![]⟩
abbrev S7x15x1x384 : Shape := ⟨4, ![7, 15, 1, 384]⟩
abbrev S7x1x2880 : Shape := ⟨3, ![7, 1, 2880]⟩
abbrev S1x384x2880 : Shape := ⟨3, ![1, 384, 2880]⟩
abbrev S1x1x1x384 : Shape := ⟨4, ![1, 1, 1, 384]⟩
abbrev S1x384x1440 : Shape := ⟨3, ![1, 384, 1440]⟩
abbrev S1x1x2880 : Shape := ⟨3, ![1, 1, 2880]⟩
abbrev S1x1x1x128 : Shape := ⟨4, ![1, 1, 1, 128]⟩
abbrev S1x128 : Shape := ⟨2, ![1, 128]⟩
abbrev S128x128 : Shape := ⟨2, ![128, 128]⟩
abbrev S1x128x128 : Shape := ⟨3, ![1, 128, 128]⟩
abbrev S32x128 : Shape := ⟨2, ![32, 128]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩
abbrev S256 : Shape := ⟨1, ![256]⟩
abbrev S1x128x32 : Shape := ⟨3, ![1, 128, 32]⟩
abbrev S128x32 : Shape := ⟨2, ![128, 32]⟩
abbrev S32x32 : Shape := ⟨2, ![32, 32]⟩
abbrev S32x64 : Shape := ⟨2, ![32, 64]⟩
abbrev S128x64 : Shape := ⟨2, ![128, 64]⟩
abbrev S1x128x64 : Shape := ⟨3, ![1, 128, 64]⟩
abbrev S1x1x64 : Shape := ⟨3, ![1, 1, 64]⟩
abbrev S1x64 : Shape := ⟨2, ![1, 64]⟩
abbrev S64 : Shape := ⟨1, ![64]⟩
abbrev S128 : Shape := ⟨1, ![128]⟩
abbrev S128x1 : Shape := ⟨2, ![128, 1]⟩

abbrev nBuf : Space → Nat
  | .hbm => 29
  | .vmem => 15
  | .smem => 0
  | _ => 0

abbrev bufTy : (tb : Table) → Fin (tcTables nBuf tb) → BufTy
  | .hbm, ⟨0, _⟩ => ⟨S7x5760x2880, .fp8e4m3⟩
  | .hbm, ⟨1, _⟩ => ⟨S7x5760, .f32⟩
  | .hbm, ⟨2, _⟩ => ⟨S7x5760x1440, .i8⟩
  | .hbm, ⟨3, _⟩ => ⟨S7x5760, .f32⟩
  | .hbm, ⟨4, _⟩ => ⟨S7x2880, .f32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .bf16⟩
  | .hbm, ⟨24, _⟩ => ⟨S7x15x1x384, .f32⟩
  | .hbm, ⟨25, _⟩ => ⟨S7x15x1x384, .f32⟩
  | .hbm, ⟨26, _⟩ => ⟨S7x1x2880, .f32⟩
  | .hbm, ⟨27, _⟩ => ⟨S7x15x1x384, .f32⟩
  | .hbm, ⟨28, _⟩ => ⟨S7x1x2880, .f32⟩
  | .local _ .vmem, ⟨0, _⟩ => ⟨S1x384x2880, .fp8e4m3⟩
  | .local _ .vmem, ⟨1, _⟩ => ⟨S1x384x2880, .fp8e4m3⟩
  | .local _ .vmem, ⟨2, _⟩ => ⟨S1x1x1x384, .f32⟩
  | .local _ .vmem, ⟨3, _⟩ => ⟨S1x1x1x384, .f32⟩
  | .local _ .vmem, ⟨4, _⟩ => ⟨S1x384x1440, .i8⟩
  | .local _ .vmem, ⟨5, _⟩ => ⟨S1x384x1440, .i8⟩
  | .local _ .vmem, ⟨6, _⟩ => ⟨S1x1x1x384, .f32⟩
  | .local _ .vmem, ⟨7, _⟩ => ⟨S1x1x1x384, .f32⟩
  | .local _ .vmem, ⟨8, _⟩ => ⟨S1x1x2880, .f32⟩
  | .local _ .vmem, ⟨9, _⟩ => ⟨S1x1x2880, .f32⟩
  | .local _ .vmem, ⟨10, _⟩ => ⟨S256x256, .bf16⟩
  | .local _ .vmem, ⟨11, _⟩ => ⟨S1x1x1x384, .f32⟩
  | .local _ .vmem, ⟨12, _⟩ => ⟨S1x1x1x384, .f32⟩
  | .local _ .vmem, ⟨13, _⟩ => ⟨S1x1x2880, .f32⟩
  | .local _ .vmem, ⟨14, _⟩ => ⟨S1x1x2880, .f32⟩
  | _, _ => ⟨S7x5760x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![7, 15], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x2880 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x1440 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2880 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2880 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StatsIdeal.lean ====
variable {F : FTy → Type} [FloatOps F] [Named F]
def κ : String → Option EReal := fun
  | "row_unit" => some ((83802195 / 134217728 : ℝ) : EReal)
  | "tenth" => some ((1 / 10 : ℝ) : EReal)
  | _ => none
-- ==== StatsReference.lean ====
abbrev S7x5760x2880 : Shape := ⟨3, ![7, 5760, 2880]⟩
abbrev S7x5760 : Shape := ⟨2, ![7, 5760]⟩
abbrev S7x5760x1440 : Shape := ⟨3, ![7, 5760, 1440]⟩
abbrev S7x2880 : Shape := ⟨2, ![7, 2880]⟩
abbrev S7x15x1x384 : Shape := ⟨4, ![7, 15, 1, 384]⟩
abbrev S7x1x2880 : Shape := ⟨3, ![7, 1, 2880]⟩
abbrev S7x5760x1440x2 : Shape := ⟨4, ![7, 5760, 1440, 2]⟩
abbrev S7x5760x1 : Shape := ⟨3, ![7, 5760, 1]⟩
abbrev S7x5760x1440x1 : Shape := ⟨4, ![7, 5760, 1440, 1]⟩
abbrev S7x1440x2 : Shape := ⟨3, ![7, 1440, 2]⟩
abbrev S7x1440x1 : Shape := ⟨3, ![7, 1440, 1]⟩
abbrev S7x1440 : Shape := ⟨2, ![7, 1440]⟩
abbrev S7x1x1440 : Shape := ⟨3, ![7, 1, 1440]⟩

abbrev nBuf : Space → Nat
  | .hbm => 7
  | .vmem => 7
  | .smem => 0
  | _ => 0

abbrev bufTy : (tb : Table) → Fin (tcTables nBuf tb) → BufTy
  | .hbm, ⟨0, _⟩ => ⟨S7x5760x2880, .fp8e4m3⟩
  | .hbm, ⟨1, _⟩ => ⟨S7x5760, .f32⟩
  | .hbm, ⟨2, _⟩ => ⟨S7x5760x1440, .i8⟩
  | .hbm, ⟨3, _⟩ => ⟨S7x5760, .f32⟩
  | .hbm, ⟨4, _⟩ => ⟨S7x2880, .f32⟩
  | .hbm, ⟨5, _⟩ => ⟨S7x15x1x384, .f32⟩
  | .hbm, ⟨6, _⟩ => ⟨S7x1x2880, .f32⟩
  | .local _ .vmem, ⟨0, _⟩ => ⟨S7x5760x2880, .fp8e4m3⟩
  | .local _ .vmem, ⟨1, _⟩ => ⟨S7x5760, .f32⟩
  | .local _ .vmem, ⟨2, _⟩ => ⟨S7x5760x1440, .i8⟩
  | .local _ .vmem, ⟨3, _⟩ => ⟨S7x5760, .f32⟩
  | .local _ .vmem, ⟨4, _⟩ => ⟨S7x2880, .f32⟩
  | .local _ .vmem, ⟨5, _⟩ => ⟨S7x15x1x384, .f32⟩
  | .local _ .vmem, ⟨6, _⟩ => ⟨S7x1x2880, .f32⟩
  | _, _ => ⟨S7x5760x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S7x5760x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x5760 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x5760x1440 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x5760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x15x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x1x2880 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== StatsReferenceIdeal.lean ====
variable {F : FTy → Type} [FloatOps F] [Named F]
def κ : String → Option EReal := fun
  | "one_less_beta2" => some ((1 / 1000 : ℝ) : EReal)
  | _ => none
-- ==== Proof.Consts.lean ====
/- The named constants: each name is sanctioned, for the kernel and for the reference. -/
module

public import proofs.«01_k».proof.Defs

@[expose] public section

noncomputable section

namespace Cert.Consts

open Idealize.ShloMosaic

/-- Every constant the kernel's ideal program names stands for the number in its table. -/
theorem preserves_kernel : preserves_Kernel_KernelIdeal :=
  ⟨IdealRules.named_const.statement Cert.KernelIdeal.κ "lr" .f32 0x399D4952#32 ((3 / 10000 : ℝ) : EReal) rfl,
   IdealRules.named_const.statement Cert.KernelIdeal.κ "tenth" .f32 0x3DCCCCCD#32 ((1 / 10 : ℝ) : EReal) rfl,
   IdealRules.named_const.statement Cert.KernelIdeal.κ "row_unit" .f32 0x3F1FD70A#32 ((16760439 / 26843546 : ℝ) : EReal) rfl,
   IdealRules.named_const.statement Cert.KernelIdeal.κ "lr_decay" .f32 0x37FBA882#32 ((3 / 100000 : ℝ) : EReal) rfl,
   IdealRules.named_const.statement Cert.KernelIdeal.κ "cap" .f32 0x7E967699#32 ⊤ rfl⟩

/-- Every constant the reference's ideal program names stands for the number in its table. -/
theorem preserves_reference : preserves_Reference_ReferenceIdeal :=
  ⟨IdealRules.named_const.statement Cert.ReferenceIdeal.κ "tenth" .f32 0x3DCCCCCD#32 ((1 / 10 : ℝ) : EReal) rfl,
   IdealRules.named_const.statement Cert.ReferenceIdeal.κ "one_less_beta2" .f32 0x3A83126F#32 ((13421773 / 13421772800 : ℝ) : EReal) rfl,
   IdealRules.named_const.statement Cert.ReferenceIdeal.κ "lr" .f32 0x399D4952#32 ((3 / 10000 : ℝ) : EReal) rfl⟩

/-- Every constant the ideal program of the maxima's run names stands for the number in its table. -/
theorem preserves_stats : preserves_Stats_StatsIdeal :=
  ⟨IdealRules.named_const.statement Cert.StatsIdeal.κ "tenth" .f32 0x3DCCCCCD#32 ((1 / 10 : ℝ) : EReal) rfl,
   IdealRules.named_const.statement Cert.StatsIdeal.κ "row_unit" .f32 0x3F1FD70A#32 ((83802195 / 134217728 : ℝ) : EReal) rfl⟩

/-- Every constant its reference's ideal program names stands for the number in its table. -/
theorem preserves_stats_reference : preserves_StatsReference_StatsReferenceIdeal :=
  IdealRules.named_const.statement Cert.StatsReferenceIdeal.κ "one_less_beta2" .f32 0x3A83126F#32 ((1 / 1000 : ℝ) : EReal) rfl

end Cert.Consts

end
-- ==== Proof.Bytes.lean ====
/- Four rows of bytes read as one row of words: a word operation that acts on each byte alone, between the two
   reinterpretations, is that byte operation on every element. The nibble masks of the kernel are such operations. -/
module

public import Idealize.ShloMosaic.Lib.BitcastFour
public import Idealize.ShloMosaic.Lib.Pointwise

@[expose] public section

set_option maxRecDepth 16384

noncomputable section

namespace Cert.Bytes

open Idealize.ShloMosaic

/-- The word of four bytes, the first the lowest. -/
def word (b : Fin 4 → BitVec 8) : BitVec 32 := ((b 3 ++ b 2 : BitVec 16) ++ (b 1 ++ b 0 : BitVec 16) : BitVec 32)

theorem word_getLsbD (b : Fin 4 → BitVec 8) (q : Nat) (hq : q < 32) :
    (word b).getLsbD q = (b ⟨q / 8, by omega⟩).getLsbD (q % 8) := by
  unfold word
  have hc : q / 8 = 0 ∨ q / 8 = 1 ∨ q / 8 = 2 ∨ q / 8 = 3 := by omega
  simp only [BitVec.getLsbD_append]
  rcases hc with h | h | h | h
  · have e : (⟨q / 8, by omega⟩ : Fin 4) = 0 := Fin.ext h
    rw [e, if_pos (by omega), if_pos (by omega), show q % 8 = q by omega]
  · have e : (⟨q / 8, by omega⟩ : Fin 4) = 1 := Fin.ext h
    rw [e, if_pos (by omega), if_neg (by omega), show q % 8 = q - 8 by omega]
  · have e : (⟨q / 8, by omega⟩ : Fin 4) = 2 := Fin.ext h
    rw [e, if_neg (by omega), if_pos (by omega), show q % 8 = q - 16 by omega]
  · have e : (⟨q / 8, by omega⟩ : Fin 4) = 3 := Fin.ext h
    rw [e, if_neg (by omega), if_neg (by omega), show q % 8 = q - 16 - 8 by omega]

theorem append_toNat {m n : Nat} (a : BitVec m) (b : BitVec n) : (a ++ b).toNat = a.toNat * 2 ^ n + b.toNat := by
  rw [BitVec.toNat_append, ← Nat.shiftLeft_add_eq_or_of_lt b.isLt, Nat.shiftLeft_eq]

theorem word_toNat (b : Fin 4 → BitVec 8) :
    (word b).toNat = ((b 3).toNat * 256 + (b 2).toNat) * 65536 + ((b 1).toNat * 256 + (b 0).toNat) := by
  unfold word
  simp only [append_toNat]
  rfl

/-- Two words that are equal bit by bit through their bytes. -/
theorem eq_word (w : BitVec 32) (b : Fin 4 → BitVec 8)
    (h : ∀ q (hq : q < 32), w.getLsbD q = (b ⟨q / 8, by omega⟩).getLsbD (q % 8)) : w = word b := by
  apply BitVec.eq_of_getLsbD_eq
  intro i hi
  rw [h i hi, word_getLsbD b i hi]

theorem word_and (b c : Fin 4 → BitVec 8) : word b &&& word c = word (fun k => b k &&& c k) :=
  eq_word _ _ fun q hq => by simp only [BitVec.getLsbD_and, word_getLsbD _ q hq]

theorem word_xor (b c : Fin 4 → BitVec 8) : word b ^^^ word c = word (fun k => b k ^^^ c k) :=
  eq_word _ _ fun q hq => by simp only [BitVec.getLsbD_xor, word_getLsbD _ q hq]

/-- Bytes added in one word, where no byte's sum passes 255. -/
theorem word_add (b c : Fin 4 → BitVec 8) (h : ∀ k, (b k).toNat + (c k).toNat < 256) :
    word b + word c = word (fun k => b k + c k) := by
  apply BitVec.eq_of_toNat_eq
  have e (k : Fin 4) : (b k + c k).toNat = (b k).toNat + (c k).toNat := by
    rw [BitVec.toNat_add]; exact Nat.mod_eq_of_lt (h k)
  rw [BitVec.toNat_add]
  simp only [word_toNat, e]
  have := h 0; have := h 1; have := h 2; have := h 3
  omega

/-- The word that repeats one byte. -/
theorem word_const (b : BitVec 8) (w : BitVec 32) (h : ∀ q : Fin 32, w.getLsbD q = b.getLsbD (q % 8)) :
    w = word (fun _ => b) := eq_word _ _ fun q hq => h ⟨q, hq⟩

theorem w0F : 252645135#32 = word (fun _ => 0x0F#8) := word_const _ _ (by decide)
theorem w01 : 16843009#32 = word (fun _ => 0x01#8) := word_const _ _ (by decide)
theorem w08 : 134744072#32 = word (fun _ => 0x08#8) := word_const _ _ (by decide)
theorem w78 : 2021161080#32 = word (fun _ => 0x78#8) := word_const _ _ (by decide)
theorem w80 : 2155905152#32 = word (fun _ => 0x80#8) := word_const _ _ (by decide)
theorem w88 : 2290649224#32 = word (fun _ => 0x88#8) := word_const _ _ (by decide)

/-- The high nibbles of a word's bytes: shifted down four and masked. -/
theorem word_high (b : Fin 4 → BitVec 8) :
    (word b).sshiftRight 4 &&& word (fun _ => 0x0F#8) = word (fun k => b k >>> 4) :=
  eq_word _ _ fun q hq => by
    rw [BitVec.getLsbD_and, word_getLsbD _ q hq, BitVec.getLsbD_sshiftRight, BitVec.getLsbD_ushiftRight]
    by_cases h4 : q % 8 < 4
    · have hq4 : 4 + q < 32 := by omega
      have e : (0x0F#8).getLsbD (q % 8) = true := by
        have hm : q % 8 = 0 ∨ q % 8 = 1 ∨ q % 8 = 2 ∨ q % 8 = 3 := by omega
        rcases hm with h | h | h | h <;> rw [h] <;> rfl
      rw [e, if_pos hq4, word_getLsbD _ _ hq4]
      have e1 : (⟨(4 + q) / 8, by omega⟩ : Fin 4) = ⟨q / 8, by omega⟩ := Fin.ext (by show (4 + q) / 8 = q / 8; omega)
      rw [e1, show (4 + q) % 8 = 4 + q % 8 by omega]
      simp [show ¬ 32 ≤ q by omega]
    · have e : (0x0F#8).getLsbD (q % 8) = false := by
        have hm : q % 8 = 4 ∨ q % 8 = 5 ∨ q % 8 = 6 ∨ q % 8 = 7 := by omega
        rcases hm with h | h | h | h <;> rw [h] <;> rfl
      rw [e, BitVec.getLsbD_of_ge _ _ (show 8 ≤ 4 + q % 8 by omega), Bool.and_false]

variable {n : Nat}

/-- A word of the reinterpretation is the word of its four rows' bytes. -/
theorem bitcast_word (x : (⟨2, ![128, n]⟩ : Shape).Idx → BitVec 8)
    (h : (⟨2, ![128, n]⟩ : Shape).Bitcasts 8 ⟨2, ![32, n]⟩ 32) (a : Fin 32) (l : Fin n) :
    bitcast ⟨2, ![32, n]⟩ 32 x h (ix2 a l) = word fun k => x (ix2 ⟨4 * a.val + k.val, by omega⟩ l) :=
  eq_word _ _ fun q hq => by
    rw [bitcast_8_32_getLsbD x h _ q hq]
    congr 2
    funext c
    match c with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))

/-- A byte of a row of words read back as bytes. -/
theorem bitcast_byte (y : (⟨2, ![32, n]⟩ : Shape).Idx → BitVec 32)
    (h : (⟨2, ![32, n]⟩ : Shape).Bitcasts 32 ⟨2, ![128, n]⟩ 8) (p : Fin 128) (l : Fin n) (b : Fin 4 → BitVec 8)
    (hb : y (ix2 ⟨p.val / 4, by omega⟩ l) = word b) :
    bitcast ⟨2, ![128, n]⟩ 8 y h (ix2 p l) = b ⟨p.val % 4, by omega⟩ := by
  apply BitVec.eq_of_getLsbD_eq
  intro q hq
  rw [bitcast_getLsbD y h _ q hq (by decide)]
  have hrow : (⟨2, ![128, n]⟩ : Shape).row (ix2 p l) = p.val := rfl
  have hs : h.srcIdx (ix2 p l) (((⟨2, ![128, n]⟩ : Shape).row (ix2 p l) * 8 + q) / 32) (fun a ha =>
          (Nat.div_lt_iff_lt_mul (by decide)).2 (h.pos_lt (ix2 p l) q hq a ha)) = ix2 ⟨p.val / 4, by omega⟩ l := by
    funext c
    match c with
    | ⟨0, _⟩ =>
      refine Fin.ext ((h.srcIdx_row _ _ _ ⟨0, Nat.zero_lt_two⟩ rfl).trans ?_)
      show (p.val * 8 + q) / 32 = p.val / 4
      omega
    | ⟨1, _⟩ => exact Fin.ext (h.srcIdx_other _ _ _ ⟨1, Nat.one_lt_two⟩ (by show ¬ 1 + 2 = 2; omega))
  rw [hs, hb, hrow, word_getLsbD _ _ (by omega)]
  have e1 : (⟨(p.val * 8 + q) % 32 / 8, by omega⟩ : Fin 4) = ⟨p.val % 4, by omega⟩ :=
    Fin.ext (by show (p.val * 8 + q) % 32 / 8 = p.val % 4; omega)
  rw [e1, show (p.val * 8 + q) % 32 % 8 = q by omega]

/-- A word operation that acts byte by byte, between the two reinterpretations. -/
theorem bytes_map (x : (⟨2, ![128, n]⟩ : Shape).Idx → BitVec 8)
    (h : (⟨2, ![128, n]⟩ : Shape).Bitcasts 8 ⟨2, ![32, n]⟩ 32) (h' : (⟨2, ![32, n]⟩ : Shape).Bitcasts 32 ⟨2, ![128, n]⟩ 8)
    (F : BitVec 32 → BitVec 32) (f : BitVec 8 → BitVec 8) (hF : ∀ b, F (word b) = word fun k => f (b k))
    (y : (⟨2, ![32, n]⟩ : Shape).Idx → BitVec 32) (hy : ∀ j, y j = F (bitcast ⟨2, ![32, n]⟩ 32 x h j))
    (p : Fin 128) (l : Fin n) :
    bitcast ⟨2, ![128, n]⟩ 8 y h' (ix2 p l) = f (x (ix2 p l)) := by
  rw [bitcast_byte y h' p l _ (by rw [hy, bitcast_word, hF])]
  have e : (⟨4 * (p.val / 4) + p.val % 4, by omega⟩ : Fin 128) = p := Fin.ext (by show 4 * (p.val / 4) + p.val % 4 = p.val; omega)
  show f (x (ix2 ⟨4 * (p.val / 4) + p.val % 4, _⟩ l)) = _
  rw [e]

/-! The five word operations the kernel uses, each on one byte. -/

theorem v_low (b : Fin 4 → BitVec 8) :
    (word b &&& 252645135#32) + 16843009#32 = word fun k => (b k &&& 0x0F#8) + 1#8 := by
  rw [w0F, w01, word_and, word_add _ _ fun k => ?_]
  have : ∀ c : BitVec 8, (c &&& 0x0F#8).toNat + (1#8).toNat < 256 := by decide +kernel
  exact this _

theorem v_high (b : Fin 4 → BitVec 8) :
    ((word b).sshiftRight 4 &&& 252645135#32) + 16843009#32 = word fun k => (b k >>> 4) + 1#8 := by
  rw [w0F, w01, word_high, word_add _ _ fun k => ?_]
  have : ∀ c : BitVec 8, (c >>> 4).toNat + (1#8).toNat < 256 := by decide +kernel
  exact this _

theorem m_low (b : Fin 4 → BitVec 8) :
    (((word b &&& 252645135#32) ^^^ 134744072#32) + 2021161080#32) ^^^ 2155905152#32
      = word fun k => (((b k &&& 0x0F#8) ^^^ 0x08#8) + 0x78#8) ^^^ 0x80#8 := by
  rw [w0F, w08, w78, w80, word_and, word_xor, word_add _ _ fun k => ?_, word_xor]
  have : ∀ c : BitVec 8, ((c &&& 0x0F#8) ^^^ 0x08#8).toNat + (0x78#8).toNat < 256 := by decide +kernel
  exact this _

theorem m_high (b : Fin 4 → BitVec 8) :
    ((((word b).sshiftRight 4 &&& 252645135#32) ^^^ 134744072#32) + 2021161080#32) ^^^ 2155905152#32
      = word fun k => (((b k >>> 4) ^^^ 0x08#8) + 0x78#8) ^^^ 0x80#8 := by
  rw [w0F, w08, w78, w80, word_high, word_xor, word_add _ _ fun k => ?_, word_xor]
  have : ∀ c : BitVec 8, ((c >>> 4) ^^^ 0x08#8).toNat + (0x78#8).toNat < 256 := by decide +kernel
  exact this _

theorem flip (b : Fin 4 → BitVec 8) : word b ^^^ 2290649224#32 = word fun k => b k ^^^ 0x88#8 := by
  rw [w88, word_xor]

end Cert.Bytes

end
-- ==== Proof.Scalar.lean ====
/- The numbers: a code's level, rounding and clipping read as an integer, two codes packed into a byte, and sums that
   a table of zeros and ones turns into one or two of their terms. -/
module

public import Idealize.ShloMosaic.Lib.Pointwise

@[expose] public section

set_option maxRecDepth 16384

noncomputable section

namespace Cert.Scalar

open Idealize.ShloMosaic

/-- The nibble of a byte that column `q` uses: the low one for an even column, the high one for an odd column. -/
def nib (b : BitVec 8) (q : ℕ) : BitVec 8 := if q % 2 = 0 then b &&& 0x0F#8 else b >>> 4

/-- A nibble as a signed first-moment level, the way a byte is filled with its sign. -/
def mLev (n : BitVec 8) : EReal := ((((((n ^^^ 0x08#8) + 0x78#8) ^^^ 0x80#8).toInt : ℤ) : ℝ) : EReal)

/-- A nibble as a second-moment level: one more than the code. -/
def vLev (n : BitVec 8) : EReal := ((((n + 1#8).toInt : ℤ) : ℝ) : EReal)

/-- A value rounded to the nearest integer and clipped to `[a, b]`. -/
def code (a b : ℤ) : EReal → ℤ
  | ⊥ => a
  | ⊤ => b
  | (r : ℝ) => min b (max a (Ideal.roundHalfEven r))

theorem code_mem {a b : ℤ} (h : a ≤ b) (y : EReal) : a ≤ code a b y ∧ code a b y ≤ b := by
  induction y with
  | bot => exact ⟨le_refl _, h⟩
  | top => exact ⟨h, le_refl _⟩
  | coe r =>
    show a ≤ min b (max a _) ∧ min b (max a _) ≤ b
    omega

theorem coe_int_max (a b : ℤ) : max (((a : ℤ) : ℝ) : EReal) ((b : ℤ) : ℝ) = (((max a b : ℤ) : ℝ) : EReal) := by
  rw [Int.cast_max, EReal.coe_strictMono.monotone.map_max]

theorem coe_int_min (a b : ℤ) : min (((a : ℤ) : ℝ) : EReal) ((b : ℤ) : ℝ) = (((min a b : ℤ) : ℝ) : EReal) := by
  rw [Int.cast_min, EReal.coe_strictMono.monotone.map_min]

/-- Rounding, adding an integer and clipping to the moved range is the code moved by that integer. -/
theorem clip_code {a b : ℤ} (h : a ≤ b) (k : ℤ) (y : EReal) :
    min ((((b + k : ℤ)) : ℝ) : EReal) (max ((((a + k : ℤ)) : ℝ) : EReal)
        (Ideal.liftRound Ideal.roundHalfEven y + ((k : ℝ) : EReal))) = (((code a b y + k : ℤ) : ℝ) : EReal) := by
  induction y with
  | bot =>
    rw [Ideal.liftRound_bot, EReal.bot_add, max_eq_left bot_le, coe_int_min]
    congr 2
    show min (b + k) (a + k) = a + k
    omega
  | top =>
    rw [Ideal.liftRound_top, EReal.top_add_coe, max_eq_right le_top, min_eq_left le_top]
    rfl
  | coe r =>
    rw [Ideal.liftRound_coe, ← EReal.coe_add, ← Int.cast_add, coe_int_max, coe_int_min]
    congr 2
    show min (b + k) (max (a + k) _) = min b (max a _) + k
    omega

theorem clip_code_zero {a b : ℤ} (h : a ≤ b) (y : EReal) :
    min ((b : ℝ) : EReal) (max ((a : ℝ) : EReal) (Ideal.liftRound Ideal.roundHalfEven y)) = ((code a b y : ℝ) : EReal) := by
  have := clip_code h 0 y
  simpa using this

/-- The conversion of an integer that the word holds. -/
theorem fptosi_int (w : ℕ) (n : ℤ) (h1 : -((2 ^ (w - 1) : ℕ) : ℤ) ≤ n) (h2 : n ≤ ((2 ^ (w - 1) : ℕ) : ℤ) - 1) :
    Ideal.fptosi w ((n : ℝ) : EReal) = BitVec.ofInt w n := by
  unfold Ideal.fptosi
  congr 1
  show max _ (min _ (if 0 ≤ (n : ℝ) then ⌊(n : ℝ)⌋ else ⌈(n : ℝ)⌉)) = n
  have e : (if 0 ≤ (n : ℝ) then ⌊(n : ℝ)⌋ else ⌈(n : ℝ)⌉) = n := by
    split
    · exact Int.floor_intCast n
    · exact Int.ceil_intCast n
  rw [e]
  omega

/-! Sums picked out by a table of zeros and ones. -/

theorem sum_pick {n : ℕ} (f : Fin n → EReal) (c : Fin n → Prop) [DecidablePred c] (k : Fin n) (hk : ∀ x, c x ↔ x = k) :
    ∑ x, f x * (if c x then (1 : EReal) else 0) = f k := by
  rw [Finset.sum_eq_single k]
  · rw [if_pos ((hk k).2 rfl), mul_one]
  · intro b _ hb
    rw [if_neg (fun h => hb ((hk b).1 h)), mul_zero]
  · intro h; exact absurd (Finset.mem_univ k) h

theorem sum_none {n : ℕ} (f : Fin n → EReal) (c : Fin n → Prop) [DecidablePred c] (hk : ∀ x, ¬ c x) :
    ∑ x, f x * (if c x then (1 : EReal) else 0) = 0 :=
  Finset.sum_eq_zero fun x _ => by rw [if_neg (hk x), mul_zero]

/-- The two halves of the levels' table: an even column takes the low nibble's level, an odd one the high nibble's. -/
theorem pair_sum {n : ℕ} (f g : Fin n → EReal) (q : ℕ) (hq : q / 2 < n) :
    ∑ x, f x * (if q = 2 * x.val then (1 : EReal) else 0) + ∑ x, g x * (if q = 2 * x.val + 1 then (1 : EReal) else 0)
      = if q % 2 = 0 then f ⟨q / 2, hq⟩ else g ⟨q / 2, hq⟩ := by
  by_cases h : q % 2 = 0
  · rw [if_pos h, sum_pick f _ ⟨q / 2, hq⟩, sum_none g, add_zero]
    · intro x hx; omega
    · intro x; rw [Fin.ext_iff]; show q = 2 * x.val ↔ x.val = q / 2; omega
  · rw [if_neg h, sum_none f, sum_pick g _ ⟨q / 2, hq⟩, zero_add]
    · intro x; rw [Fin.ext_iff]; show q = 2 * x.val + 1 ↔ x.val = q / 2; omega
    · intro x hx; omega

/-- A finite number has no remainder after itself, so the split's later parts add nothing. -/
theorem split_sum {n : ℕ} (x : Fin n → EReal) (hx : ∀ k, ∃ r : ℝ, x k = r) (c : Fin n → Prop) [DecidablePred c]
    (w0 w1 w2 : Fin n → EReal) (h0 : ∀ k, w0 k = if c k then 1 else 0) (k : Fin n) (hk : ∀ x, c x ↔ x = k) :
    ∑ i, x i * w0 i + ∑ i, (x i - x i) * w1 i + ∑ i, (x i - x i - (x i - x i)) * w2 i = x k := by
  have e (i : Fin n) : x i - x i = 0 := by
    obtain ⟨r, hr⟩ := hx i
    rw [hr, ← EReal.coe_sub, sub_self, EReal.coe_zero]
  have e1 : ∑ i, (x i - x i) * w1 i = 0 := Finset.sum_eq_zero fun i _ => by rw [e, zero_mul]
  have e2 : ∑ i, (x i - x i - (x i - x i)) * w2 i = 0 :=
    Finset.sum_eq_zero fun i _ => by rw [e, sub_zero, zero_mul]
  rw [e1, e2, add_zero, add_zero, Finset.sum_congr rfl fun i _ => by rw [h0]]
  exact sum_pick x c k hk

/-- The packing table: a pair of columns weighs 1 and 16. -/
theorem pack_sum {n : ℕ} (f : Fin n → ℤ) (q : ℕ) (h0 : 2 * q < n) (h1 : 2 * q + 1 < n) :
    ∑ x, ((f x : ℝ) : EReal) * (if x.val / 2 = q then (if x.val % 2 = 0 then (1 : EReal) else ((16 : ℝ) : EReal)) else 0)
      = (((f ⟨2 * q, h0⟩ + 16 * f ⟨2 * q + 1, h1⟩ : ℤ) : ℝ) : EReal) := by
  have e (x : Fin n) : ((f x : ℝ) : EReal) * (if x.val / 2 = q then (if x.val % 2 = 0 then (1 : EReal) else ((16 : ℝ) : EReal)) else 0)
      = ((f x : ℝ) : EReal) * (if x = ⟨2 * q, h0⟩ then (1 : EReal) else 0)
        + (((f x : ℝ) : EReal) * ((16 : ℝ) : EReal)) * (if x = ⟨2 * q + 1, h1⟩ then (1 : EReal) else 0) := by
    simp only [Fin.ext_iff]
    by_cases hx : x.val / 2 = q
    · by_cases hp : x.val % 2 = 0
      · rw [if_pos hx, if_pos hp, if_pos (by omega), if_neg (by omega), mul_zero, add_zero]
      · rw [if_pos hx, if_neg hp, if_neg (by omega), if_pos (by omega), mul_zero, zero_add, mul_one]
    · rw [if_neg hx, if_neg (by omega), if_neg (by omega), mul_zero, mul_zero, add_zero]
  rw [Finset.sum_congr rfl fun x _ => e x, Finset.sum_add_distrib, sum_pick _ _ ⟨2 * q, h0⟩ fun _ => Iff.rfl,
    sum_pick _ _ ⟨2 * q + 1, h1⟩ fun _ => Iff.rfl, ← EReal.coe_mul, ← EReal.coe_add]
  congr 1
  push_cast
  ring

/-! A packed byte. -/

/-- The kernel's byte of two codes, moved by `k` and packed in one sum, less 2176. -/
theorem pack_byte {n : ℕ} (f : Fin n → ℤ) (q : ℕ) (h0 : 2 * q < n) (h1 : 2 * q + 1 < n) (w : Fin n → EReal)
    (hw : ∀ x, w x = if x.val / 2 = q then (if x.val % 2 = 0 then (1 : EReal) else ((16 : ℝ) : EReal)) else 0)
    (hf : ∀ x, 128 ≤ f x ∧ f x ≤ 143) :
    BitVec.setWidth 8 (Ideal.fptosi 32 (∑ x, ((f x : ℝ) : EReal) * w x - ((2176 : ℝ) : EReal)))
      = BitVec.ofInt 8 (f ⟨2 * q, h0⟩ + 16 * f ⟨2 * q + 1, h1⟩ - 2176) := by
  rw [Finset.sum_congr rfl fun x _ => by rw [hw], pack_sum f q h0 h1,
    show ((2176 : ℝ) : EReal) = (((2176 : ℤ) : ℝ) : EReal) by norm_num, ← EReal.coe_sub, ← Int.cast_sub, fptosi_int]
  · apply BitVec.eq_of_toNat_eq
    rw [BitVec.toNat_setWidth, BitVec.toNat_ofInt, BitVec.toNat_ofInt]
    have := hf ⟨2 * q, h0⟩; have := hf ⟨2 * q + 1, h1⟩
    simp only [Nat.reducePow]
    omega
  · have := hf ⟨2 * q, h0⟩; have := hf ⟨2 * q + 1, h1⟩
    simp only [Nat.reduceSub, Nat.reducePow]; omega
  · have := hf ⟨2 * q, h0⟩; have := hf ⟨2 * q + 1, h1⟩
    simp only [Nat.reduceSub, Nat.reducePow]; omega

/-- The reference's byte of two codes: each code's low nibble, the second shifted up. -/
def packRef (a b : BitVec 8) : BitVec 8 :=
  BitVec.setWidth 8 ((BitVec.signExtend 32 a &&& 15#32) ||| ((BitVec.signExtend 32 b &&& 15#32) <<< 4))

theorem pack_v (a b : ℤ) (ha : 0 ≤ a ∧ a ≤ 15) (hb : 0 ≤ b ∧ b ≤ 15) :
    BitVec.ofInt 8 ((a + 128) + 16 * (b + 128) - 2176) = packRef (BitVec.ofInt 8 a) (BitVec.ofInt 8 b) := by
  have : ∀ x y : Fin 16, BitVec.ofInt 8 (((x : ℕ) : ℤ) + 128 + 16 * (((y : ℕ) : ℤ) + 128) - 2176)
      = packRef (BitVec.ofInt 8 ((x : ℕ) : ℤ)) (BitVec.ofInt 8 ((y : ℕ) : ℤ)) := by decide +kernel
  have h := this ⟨a.toNat, by omega⟩ ⟨b.toNat, by omega⟩
  simp only [Int.toNat_of_nonneg ha.1, Int.toNat_of_nonneg hb.1] at h
  exact h

theorem pack_m (a b : ℤ) (ha : -7 ≤ a ∧ a ≤ 7) (hb : -7 ≤ b ∧ b ≤ 7) :
    BitVec.ofInt 8 ((a + 136) + 16 * (b + 136) - 2176) ^^^ 0x88#8 = packRef (BitVec.ofInt 8 a) (BitVec.ofInt 8 b) := by
  have : ∀ x y : Fin 15, BitVec.ofInt 8 (((x : ℕ) : ℤ) - 7 + 136 + 16 * (((y : ℕ) : ℤ) - 7 + 136) - 2176) ^^^ 0x88#8
      = packRef (BitVec.ofInt 8 (((x : ℕ) : ℤ) - 7)) (BitVec.ofInt 8 (((y : ℕ) : ℤ) - 7)) := by decide +kernel
  have h := this ⟨(a + 7).toNat, by omega⟩ ⟨(b + 7).toNat, by omega⟩
  simp only [Int.toNat_of_nonneg (show 0 ≤ a + 7 by omega), Int.toNat_of_nonneg (show 0 ≤ b + 7 by omega),
    add_sub_cancel_right] at h
  exact h

end Cert.Scalar

end
-- ==== Proof.Cells.lean ====
/- What one group of columns computes, element by element. Every 128-row tile treats its columns in groups of 256, and
   the last 64 columns alone. Each reading below is of the payloads of the first tile's first group, or of its last
   64 columns; the other tiles and groups are the same terms on other slices of the arguments. -/
module

public import proofs.«01_k».proof.Proof.Gen.KernelIdeal.Skeleton
public import proofs.«01_k».proof.Proof.Bytes
public import proofs.«01_k».proof.Proof.Scalar

@[expose] public section

set_option maxRecDepth 16384

noncomputable section

namespace Cert.Cells

open Idealize.ShloMosaic Idealize.ShloMosaic.TcCoe Idealize.SL.Sem
open Cert.KernelIdeal Cert.KernelIdeal.Gen Cert.Bytes Cert.Scalar

/-! The named constants and the float words that occur. -/

theorem c_lr : Named.named (F := Ideal) κ "lr" (φ := .f32) 0x399D4952#32 = ((3 / 10000 : ℝ) : EReal) :=
  IdealRules.named_const.ideal_named_scalar _ _ _ _ rfl
theorem c_tenth : Named.named (F := Ideal) κ "tenth" (φ := .f32) 0x3DCCCCCD#32 = ((1 / 10 : ℝ) : EReal) :=
  IdealRules.named_const.ideal_named_scalar _ _ _ _ rfl
theorem c_row_unit : Named.named (F := Ideal) κ "row_unit" (φ := .f32) 0x3F1FD70A#32 = ((16760439 / 26843546 : ℝ) : EReal) :=
  IdealRules.named_const.ideal_named_scalar _ _ _ _ rfl
theorem c_lr_decay : Named.named (F := Ideal) κ "lr_decay" (φ := .f32) 0x37FBA882#32 = ((3 / 100000 : ℝ) : EReal) :=
  IdealRules.named_const.ideal_named_scalar _ _ _ _ rfl
theorem c_cap : Named.named (F := Ideal) κ "cap" (φ := .f32) 0x7E967699#32 = ⊤ :=
  IdealRules.named_const.ideal_named_scalar _ _ _ _ rfl

theorem b_128 : Ideal.ofBits .f32 0x43000000#32 = (((128 : ℤ) : ℝ) : EReal) := by
  simp [Ideal.ofBits, Ideal.ieee]; rw [← EReal.coe_mul]; norm_num
theorem b_136 : Ideal.ofBits .f32 0x43080000#32 = (((136 : ℤ) : ℝ) : EReal) := by
  simp [Ideal.ofBits, Ideal.ieee]; rw [← EReal.coe_mul]; norm_num
theorem b_2176 : Ideal.ofBits .f32 0x45080000#32 = ((2176 : ℝ) : EReal) := by
  simp [Ideal.ofBits, Ideal.ieee]; rw [← EReal.coe_mul]; norm_num
theorem h_128 : Ideal.ofBits .bf16 0x4300#16 = (((0 + 128 : ℤ) : ℝ) : EReal) := by
  simp [Ideal.ofBits, Ideal.ieee]
theorem h_129 : Ideal.ofBits .bf16 0x4301#16 = (((-7 + 136 : ℤ) : ℝ) : EReal) := by
  simp [Ideal.ofBits, Ideal.ieee]
theorem h_143 : Ideal.ofBits .bf16 0x430F#16 = (((15 + 128 : ℤ) : ℝ) : EReal) := by
  simp [Ideal.ofBits, Ideal.ieee]
theorem b_ninf : Ideal.ofBits .f32 0xFF800000#32 = ⊥ := by
  simp [Ideal.ofBits, Ideal.ieee]

/-! The element's functions, in the kernel's order of operations. -/

/-- The scaled gradient times one less the first decay. -/
def gK (g gs : EReal) : EReal := g * (gs * ((1 / 10 : ℝ) : EReal))
/-- The new first moment. -/
def mK (lev ms gg : EReal) : EReal := lev * (ms * Ideal.ofBits .f32 0x3F666666#32) + gg
/-- The new second moment in the kernel's unit. -/
def vK (lev vr vc gg : EReal) : EReal :=
  lev * min (vr * ((16760439 / 26843546 : ℝ) : EReal)) (vc * ((16760439 / 26843546 : ℝ) : EReal)) + gg * gg
/-- The weight's step. -/
def dwK (k0 k1 m v w : EReal) : EReal :=
  m * Ideal.div 1 (Ideal.div 1 (Ideal.rsqrt v) + Ideal.ofBits .f32 0x322BCC77#32 * k0)
    * Ideal.div (((3 / 10000 : ℝ) : EReal) * k0) k1 + w * ((3 / 100000 : ℝ) : EReal)
/-- A maximum's reciprocal in the kernel's unit. -/
def rK (x : EReal) : EReal := if x = 0 then 0 else Ideal.div (Ideal.ofBits .f32 0x3FCCCCCD#32) x
/-- The second moment's code before rounding. -/
def yK (v vrn vcn : EReal) : EReal := v * max (rK vrn) (rK vcn) - 1

/-! Byte operations at an element. -/

section bytes
variable {n : Nat} (x : (⟨2, ![128, n]⟩ : Shape).Idx → BitVec 8)
  (h : (⟨2, ![128, n]⟩ : Shape).Bitcasts 8 ⟨2, ![32, n]⟩ 32) (h' : (⟨2, ![32, n]⟩ : Shape).Bitcasts 32 ⟨2, ![128, n]⟩ 8)
  (p : Fin 128) (l : Fin n)

theorem m_low_at : bitcast ⟨2, ![128, n]⟩ 8 (xori (addi (xori (andi (bitcast ⟨2, ![32, n]⟩ 32 x h)
      (broadcast ⟨2, ![32, n]⟩ 252645135#32)) (broadcast ⟨2, ![32, n]⟩ 134744072#32)) (broadcast ⟨2, ![32, n]⟩ 2021161080#32))
      (broadcast ⟨2, ![32, n]⟩ 2155905152#32)) h' (ix2 p l)
    = (((x (ix2 p l) &&& 0x0F#8) ^^^ 0x08#8) + 0x78#8) ^^^ 0x80#8 :=
  bytes_map x h h' (fun w => (((w &&& 252645135#32) ^^^ 134744072#32) + 2021161080#32) ^^^ 2155905152#32)
    (fun b => (((b &&& 0x0F#8) ^^^ 0x08#8) + 0x78#8) ^^^ 0x80#8) m_low _ (fun _ => rfl) p l

theorem m_high_at : bitcast ⟨2, ![128, n]⟩ 8 (xori (addi (xori (andi (shrsi (bitcast ⟨2, ![32, n]⟩ 32 x h)
      (broadcast ⟨2, ![32, n]⟩ 4#32)) (broadcast ⟨2, ![32, n]⟩ 252645135#32)) (broadcast ⟨2, ![32, n]⟩ 134744072#32))
      (broadcast ⟨2, ![32, n]⟩ 2021161080#32)) (broadcast ⟨2, ![32, n]⟩ 2155905152#32)) h' (ix2 p l)
    = (((x (ix2 p l) >>> 4) ^^^ 0x08#8) + 0x78#8) ^^^ 0x80#8 :=
  bytes_map x h h' (fun w => (((w.sshiftRight 4 &&& 252645135#32) ^^^ 134744072#32) + 2021161080#32) ^^^ 2155905152#32)
    (fun b => (((b >>> 4) ^^^ 0x08#8) + 0x78#8) ^^^ 0x80#8) m_high _ (fun _ => rfl) p l

theorem v_low_at : bitcast ⟨2, ![128, n]⟩ 8 (addi (andi (bitcast ⟨2, ![32, n]⟩ 32 x h)
      (broadcast ⟨2, ![32, n]⟩ 252645135#32)) (broadcast ⟨2, ![32, n]⟩ 16843009#32)) h' (ix2 p l)
    = (x (ix2 p l) &&& 0x0F#8) + 1#8 :=
  bytes_map x h h' (fun w => (w &&& 252645135#32) + 16843009#32) (fun b => (b &&& 0x0F#8) + 1#8) v_low _ (fun _ => rfl) p l

theorem v_high_at : bitcast ⟨2, ![128, n]⟩ 8 (addi (andi (shrsi (bitcast ⟨2, ![32, n]⟩ 32 x h)
      (broadcast ⟨2, ![32, n]⟩ 4#32)) (broadcast ⟨2, ![32, n]⟩ 252645135#32)) (broadcast ⟨2, ![32, n]⟩ 16843009#32)) h' (ix2 p l)
    = (x (ix2 p l) >>> 4) + 1#8 :=
  bytes_map x h h' (fun w => (w.sshiftRight 4 &&& 252645135#32) + 16843009#32) (fun b => (b >>> 4) + 1#8) v_high _
    (fun _ => rfl) p l

theorem flip_at : bitcast ⟨2, ![128, n]⟩ 8 (xori (bitcast ⟨2, ![32, n]⟩ 32 x h) (broadcast ⟨2, ![32, n]⟩ 2290649224#32)) h' (ix2 p l)
    = x (ix2 p l) ^^^ 0x88#8 :=
  bytes_map x h h' (fun w => w ^^^ 2290649224#32) (fun b => b ^^^ 0x88#8) flip _ (fun _ => rfl) p l

end bytes

theorem mLev_if (b : BitVec 8) (q : ℕ) : (if q % 2 = 0
      then (((((((b &&& 0x0F#8) ^^^ 0x08#8) + 0x78#8) ^^^ 0x80#8).toInt : ℤ) : ℝ) : EReal)
      else (((((((b >>> 4) ^^^ 0x08#8) + 0x78#8) ^^^ 0x80#8).toInt : ℤ) : ℝ) : EReal)) = mLev (nib b q) := by
  unfold mLev nib; split <;> rfl

theorem vLev_if (b : BitVec 8) (q : ℕ) : (if q % 2 = 0
      then (((((b &&& 0x0F#8) + 1#8).toInt : ℤ) : ℝ) : EReal)
      else (((((b >>> 4) + 1#8).toInt : ℤ) : ℝ) : EReal)) = vLev (nib b q) := by
  unfold vLev nib; split <;> rfl

/-! A group of 256 columns. -/

section wide

/-- The levels' table. -/
def IsWe (we : Vec Ideal S256x256 .bf16) : Prop :=
  ∀ k c : Fin 256, we (ix2 k c) = if c.val = 2 * (k.val % 128) + k.val / 128 then (1 : EReal) else 0

theorem we_lo {we : Vec Ideal S256x256 .bf16} (hwe : IsWe we) (x c : ℕ) (hx : x < 128) (hx' : x < 256) (hc : c < 256) :
    we (ix2 ⟨x, hx'⟩ ⟨c, hc⟩) = if c = 2 * x then (1 : EReal) else 0 := by
  rw [hwe]; congr 1; show (c = 2 * (x % 128) + x / 128) = _; rw [Nat.mod_eq_of_lt hx, Nat.div_eq_of_lt hx, add_zero]

theorem we_hi {we : Vec Ideal S256x256 .bf16} (hwe : IsWe we) (x c : ℕ) (hx : x < 128) (hx' : 128 + x < 256) (hc : c < 256) :
    we (ix2 ⟨128 + x, hx'⟩ ⟨c, hc⟩) = if c = 2 * x + 1 then (1 : EReal) else 0 := by
  rw [hwe]; congr 1
  show (c = 2 * ((128 + x) % 128) + (128 + x) / 128) = _
  rw [show (128 + x) % 128 = x by omega, show (128 + x) / 128 = 1 by omega]

variable (we : Vec Ideal S256x256 .bf16) (hwe : IsWe we) (p : Fin 128)

include hwe in
theorem mlev_at (mc : Vec Ideal S1x128x128 .i8) (q : Fin 256) :
    k0_pay9 (F := Ideal) mc we (ix2 p q) = mLev (nib (mc (ix3 0 p ⟨q.val / 2, by omega⟩)) q.val) := by
  pointwise [k0_pay9]
  simp only [m_low_at, m_high_at]
  rw [← mLev_if]
  refine Eq.trans ?_ (pair_sum (fun x => FloatOps.sitofp (F := Ideal) .bf16 ((((mc (ix3 0 p x) &&& 0x0F#8) ^^^ 0x08#8) + 0x78#8) ^^^ 0x80#8))
    (fun x => FloatOps.sitofp (F := Ideal) .bf16 ((((mc (ix3 0 p x) >>> 4) ^^^ 0x08#8) + 0x78#8) ^^^ 0x80#8)) q.val (by omega))
  refine congrArg₂ (· + ·) (Finset.sum_congr rfl fun x _ => ?_) (Finset.sum_congr rfl fun x _ => ?_)
  · rw [we_lo hwe _ _ x.isLt]; pointwise []
  · rw [we_hi hwe _ _ x.isLt]; pointwise []

include hwe in
theorem vlev_at (vc : Vec Ideal S1x128x128 .i8) (q : Fin 256) :
    k0_pay15 (F := Ideal) vc we (ix2 p q) = vLev (nib (vc (ix3 0 p ⟨q.val / 2, by omega⟩)) q.val) := by
  pointwise [k0_pay15]
  simp only [v_low_at, v_high_at]
  rw [← vLev_if]
  refine Eq.trans ?_ (pair_sum (fun x => FloatOps.sitofp (F := Ideal) .bf16 ((vc (ix3 0 p x) &&& 0x0F#8) + 1#8))
    (fun x => FloatOps.sitofp (F := Ideal) .bf16 ((vc (ix3 0 p x) >>> 4) + 1#8)) q.val (by omega))
  refine congrArg₂ (· + ·) (Finset.sum_congr rfl fun x _ => ?_) (Finset.sum_congr rfl fun x _ => ?_)
  · rw [we_lo hwe _ _ x.isLt]; pointwise []
  · rw [we_hi hwe _ _ x.isLt]; pointwise []

include hwe in
theorem mlevT_at (mc : Vec Ideal S1x128x32 .i8) (q : Fin 64) :
    k0_pay235 (F := Ideal) mc we (ix2 p q) = mLev (nib (mc (ix3 0 p ⟨q.val / 2, by omega⟩)) q.val) := by
  pointwise [k0_pay235]
  simp only [m_low_at, m_high_at]
  rw [← mLev_if]
  refine Eq.trans ?_ (pair_sum (fun x => FloatOps.sitofp (F := Ideal) .bf16 ((((mc (ix3 0 p x) &&& 0x0F#8) ^^^ 0x08#8) + 0x78#8) ^^^ 0x80#8))
    (fun x => FloatOps.sitofp (F := Ideal) .bf16 ((((mc (ix3 0 p x) >>> 4) ^^^ 0x08#8) + 0x78#8) ^^^ 0x80#8)) q.val (by omega))
  refine congrArg₂ (· + ·) (Finset.sum_congr rfl fun x _ => ?_) (Finset.sum_congr rfl fun x _ => ?_)
  · rw [we_lo hwe _ _ (by omega)]; pointwise []
  · rw [we_hi hwe _ _ (by omega)]; pointwise []

include hwe in
theorem vlevT_at (vc : Vec Ideal S1x128x32 .i8) (q : Fin 64) :
    k0_pay241 (F := Ideal) vc we (ix2 p q) = vLev (nib (vc (ix3 0 p ⟨q.val / 2, by omega⟩)) q.val) := by
  pointwise [k0_pay241]
  simp only [v_low_at, v_high_at]
  rw [← vLev_if]
  refine Eq.trans ?_ (pair_sum (fun x => FloatOps.sitofp (F := Ideal) .bf16 ((vc (ix3 0 p x) &&& 0x0F#8) + 1#8))
    (fun x => FloatOps.sitofp (F := Ideal) .bf16 ((vc (ix3 0 p x) >>> 4) + 1#8)) q.val (by omega))
  refine congrArg₂ (· + ·) (Finset.sum_congr rfl fun x _ => ?_) (Finset.sum_congr rfl fun x _ => ?_)
  · rw [we_lo hwe _ _ (by omega)]; pointwise []
  · rw [we_hi hwe _ _ (by omega)]; pointwise []

end wide

/-! The scales' table: column `C + q` of the group that starts at column `C` belongs to block `(C + q) / 64`. -/

def IsWs {n : ℕ} (C : ℕ) (ws : (⟨2, ![45, n]⟩ : Shape).Idx → EReal) : Prop :=
  ∀ (k : Fin 45) (q : Fin n), ws (ix2 k q) = if (C + q.val) / 64 = k.val then (1 : EReal) else 0

/-- The packing table. -/
def IsWp {n k : ℕ} (wp : (⟨2, ![n, k]⟩ : Shape).Idx → EReal) : Prop :=
  ∀ (x : Fin n) (q : Fin k), wp (ix2 x q) = if x.val / 2 = q.val then (if x.val % 2 = 0 then (1 : EReal) else ((16 : ℝ) : EReal)) else 0

/-- A number times the first decay is finite where the number is. -/
theorem mul_beta1_real {x : EReal} (h : ∃ r : ℝ, x = r) : ∃ r : ℝ, x * Ideal.ofBits .f32 0x3F666666#32 = r := by
  obtain ⟨r, rfl⟩ := h
  have : ∃ b : ℝ, Ideal.ofBits .f32 0x3F666666#32 = (b : EReal) :=
    ⟨_, by simp only [Ideal.ofBits, Ideal.ieee]; rfl⟩
  obtain ⟨b, hb⟩ := this
  exact ⟨r * b, by rw [hb, EReal.coe_mul]⟩

section groups
variable (p : Fin 128)

theorem gg_at (gs : Vec Ideal S1x1x1x128 .f32) (g : Vec Ideal S1x128x256 .fp8e4m3) (q : Fin 256) :
    k0_pay8 (F := Ideal) (k0_pay3 gs) g (ix2 p q) = gK (g (ix3 0 p q)) (gs (ix4 0 0 0 p)) := by
  pointwise [k0_pay8, k0_pay3]
  rw [c_tenth, dite_eq_ite, ite_self]; rfl

theorem ggT_at (gs : Vec Ideal S1x1x1x128 .f32) (g : Vec Ideal S1x128x64 .fp8e4m3) (q : Fin 64) :
    k0_pay234 (F := Ideal) (k0_pay3 gs) g (ix2 p q) = gK (g (ix3 0 p q)) (gs (ix4 0 0 0 p)) := by
  pointwise [k0_pay234, k0_pay3]
  rw [c_tenth]; rfl

theorem m_at (C : ℕ) (hC : C + 256 ≤ 2880) (ms : Vec Ideal S1x128x45 .f32) (hms : ∀ k, ∃ r : ℝ, ms (ix3 0 p k) = r)
    (w0 w1 w2 : Vec Ideal S45x256 .bf16) (hw : IsWs C w0) (gg ml : FVec Ideal S128x256 .f32) (q : Fin 256) :
    k0_pay14 (F := Ideal) gg ml (k0_pay10 (k0_pay6 ms)) (k0_pay11 (k0_pay6 ms)) (k0_pay12 (k0_pay6 ms)) (k0_pay13 (k0_pay6 ms))
        w0 w1 w2 (ix2 p q)
      = mK (ml (ix2 p q)) (ms (ix3 0 p ⟨(C + q.val) / 64, by omega⟩)) (gg (ix2 p q)) := by
  pointwise [k0_pay14, k0_pay13, k0_pay12, k0_pay11, k0_pay10, k0_pay7, k0_pay6]
  rw [split_sum (fun x => ms (ix3 0 p x) * Ideal.ofBits .f32 0x3F666666#32) (fun k => mul_beta1_real (hms k))
    (fun k => (C + q.val) / 64 = k.val) _ _ _ (fun k => hw k q) ⟨(C + q.val) / 64, by omega⟩
    (fun x => by rw [Fin.ext_iff]; exact eq_comm)]
  rfl

theorem mT_at (ms : Vec Ideal S1x128x45 .f32) (hms : ∀ k, ∃ r : ℝ, ms (ix3 0 p k) = r)
    (w0 w1 w2 : Vec Ideal S45x64 .bf16) (hw : IsWs 2816 w0) (gg ml : FVec Ideal S128x64 .f32) (q : Fin 64) :
    k0_pay240 (F := Ideal) gg ml (k0_pay236 (k0_pay7 (k0_pay6 ms))) (k0_pay238 (k0_pay7 (k0_pay6 ms))) (k0_pay239 (k0_pay7 (k0_pay6 ms)))
        w0 w1 w2 (ix2 p q)
      = mK (ml (ix2 p q)) (ms (ix3 0 p ⟨(2816 + q.val) / 64, by omega⟩)) (gg (ix2 p q)) := by
  pointwise [k0_pay240, k0_pay239, k0_pay238, k0_pay237, k0_pay236, k0_pay7, k0_pay6]
  rw [split_sum (fun x => ms (ix3 0 p x) * Ideal.ofBits .f32 0x3F666666#32) (fun k => mul_beta1_real (hms k))
    (fun k => (2816 + q.val) / 64 = k.val) _ _ _ (fun k => hw k q) ⟨(2816 + q.val) / 64, by omega⟩
    (fun x => by rw [Fin.ext_iff]; exact eq_comm)]
  rfl

theorem dw_at (k0 k1 : Elt Ideal .f32) (gg m vl : FVec Ideal S128x256 .f32) (vr : Vec Ideal S1x1x1x128 .f32)
    (vc : Vec Ideal S1x1x256 .f32) (w : Vec Ideal S1x128x256 .bf16) (q : Fin 256) :
    k0_pay18 (F := Ideal) (k0_pay1 k0 k1) (k0_pay2 k0) gg m vl (k0_pay16 (k0_pay4 vr)) vc w (ix3 0 p q)
      = dwK k0 k1 (m (ix2 p q)) (vK (vl (ix2 p q)) (vr (ix4 0 0 0 p)) (vc (ix3 0 0 q)) (gg (ix2 p q))) (w (ix3 0 p q)) := by
  pointwise [k0_pay18, k0_pay17, k0_pay16, k0_pay4, k0_pay1, k0_pay2]
  rw [c_row_unit, c_lr, c_lr_decay, dite_eq_ite, ite_self]; rfl

theorem dwT_at (k0 k1 : Elt Ideal .f32) (gg m vl : FVec Ideal S128x64 .f32) (vr : Vec Ideal S1x1x1x128 .f32)
    (vc : Vec Ideal S1x1x64 .f32) (w : Vec Ideal S1x128x64 .bf16) (q : Fin 64) :
    k0_pay244 (F := Ideal) (k0_pay1 k0 k1) (k0_pay2 k0) gg m vl (k0_pay242 (k0_pay4 vr)) vc w (ix3 0 p q)
      = dwK k0 k1 (m (ix2 p q)) (vK (vl (ix2 p q)) (vr (ix4 0 0 0 p)) (vc (ix3 0 0 q)) (gg (ix2 p q))) (w (ix3 0 p q)) := by
  pointwise [k0_pay244, k0_pay243, k0_pay242, k0_pay4, k0_pay1, k0_pay2]
  rw [c_row_unit, c_lr, c_lr_decay]; rfl

theorem y_at (gg vl : FVec Ideal S128x256 .f32) (vr vrn : Vec Ideal S1x1x1x128 .f32) (vc vcn : Vec Ideal S1x1x256 .f32)
    (q : Fin 256) :
    k0_pay19 (F := Ideal) (k0_pay5 vrn) gg vl (k0_pay16 (k0_pay4 vr)) vc vcn (ix2 p q)
      = yK (vK (vl (ix2 p q)) (vr (ix4 0 0 0 p)) (vc (ix3 0 0 q)) (gg (ix2 p q))) (vrn (ix4 0 0 0 p)) (vcn (ix3 0 0 q)) := by
  pointwise [k0_pay19, k0_pay17, k0_pay16, k0_pay4, k0_pay5]
  simp only [c_row_unit, dite_eq_ite, ite_self]; rfl

theorem vc_at (y : FVec Ideal S128x256 .f32) (wp : Vec Ideal S256x128 .bf16) (hwp : IsWp wp) (q : Fin 128) :
    k0_pay20 (F := Ideal) y wp (ix3 0 p q)
      = packRef (BitVec.ofInt 8 (code 0 15 (y (ix2 p ⟨2 * q.val, by omega⟩))))
          (BitVec.ofInt 8 (code 0 15 (y (ix2 p ⟨2 * q.val + 1, by omega⟩)))) := by
  have hc (e : EReal) := code_mem (a := 0) (b := 15) (by decide) e
  pointwise [k0_pay20]
  simp only [b_128, b_2176, h_128, h_143, clip_code (show (0 : ℤ) ≤ 15 by decide)]
  rw [← pack_v _ _ (hc _) (hc _)]
  exact pack_byte (fun x => code 0 15 (y (ix2 p x)) + 128) q.val (by omega) (by omega) _ (fun x => hwp x q)
    (fun x => by have := hc (y (ix2 p x)); omega)

theorem vcT_at (gg vl : FVec Ideal S128x64 .f32) (vr vrn : Vec Ideal S1x1x1x128 .f32) (vc vcn : Vec Ideal S1x1x64 .f32)
    (wp : Vec Ideal S64x32 .bf16) (hwp : IsWp wp) (q : Fin 32) (y : Fin 64 → EReal)
    (hy : ∀ l, y l = yK (vK (vl (ix2 p l)) (vr (ix4 0 0 0 p)) (vc (ix3 0 0 l)) (gg (ix2 p l))) (vrn (ix4 0 0 0 p)) (vcn (ix3 0 0 l))) :
    k0_pay246 (F := Ideal) (k0_pay245 (k0_pay5 vrn) gg vl (k0_pay242 (k0_pay4 vr)) vc vcn) (Scalar.ofBits .f32 0x3F800000#32) wp (ix3 0 p q)
      = packRef (BitVec.ofInt 8 (code 0 15 (y ⟨2 * q.val, by omega⟩))) (BitVec.ofInt 8 (code 0 15 (y ⟨2 * q.val + 1, by omega⟩))) := by
  have hc (e : EReal) := code_mem (a := 0) (b := 15) (by decide) e
  pointwise [k0_pay246, k0_pay245, k0_pay243, k0_pay242, k0_pay4, k0_pay5]
  simp only [c_row_unit, b_128, b_2176, h_128, h_143, clip_code (show (0 : ℤ) ≤ 15 by decide)]
  rw [← pack_v _ _ (hc _) (hc _)]
  refine Eq.trans ?_ (pack_byte (fun x => code 0 15 (y x) + 128) q.val (by omega) (by omega) _ (fun x => hwp x q)
    (fun x => by have := hc (y x); omega))
  simp only [hy]
  rfl

theorem mc_at (C : ℕ) (hC : C + 256 ≤ 2880) (inv : FVec Ideal S128x45 .f32) (hinv : ∀ k, ∃ r : ℝ, inv (ix2 p k) = r)
    (m : Vec Ideal S128x256 .f32) (w0 w1 w2 : Vec Ideal S45x256 .bf16) (hw : IsWs C w0) (wp : Vec Ideal S256x128 .bf16)
    (hwp : IsWp wp) (q : Fin 128) (y : Fin 256 → EReal)
    (hy : ∀ l : Fin 256, y l = m (ix2 p l) * inv (ix2 p ⟨(C + l.val) / 64, by omega⟩)) :
    k0_pay253 (k0_pay252 (F := Ideal) inv m w0 w1 w2 wp) (ix3 0 p q)
      = packRef (BitVec.ofInt 8 (code (-7) 7 (y ⟨2 * q.val, by omega⟩))) (BitVec.ofInt 8 (code (-7) 7 (y ⟨2 * q.val + 1, by omega⟩))) := by
  have hc (e : EReal) := code_mem (a := -7) (b := 7) (by decide) e
  pointwise [k0_pay253]
  rw [flip_at]
  pointwise [k0_pay252]
  have e (l : Fin 256) := split_sum (fun x => inv (ix2 p x)) hinv
    (fun k => (C + l.val) / 64 = k.val) _ (fun k => w1 (ix2 k l)) (fun k => w2 (ix2 k l)) (fun k => hw k l) ⟨(C + l.val) / 64, by omega⟩
    (fun x => by rw [Fin.ext_iff]; exact eq_comm)
  have h143 : Ideal.ofBits .bf16 0x430F#16 = (((7 + 136 : ℤ) : ℝ) : EReal) := h_143
  simp only [e, b_136, b_2176, h_129, h143, clip_code (show (-7 : ℤ) ≤ 7 by decide)]
  rw [← pack_m _ _ (hc _) (hc _)]
  congr 1
  refine Eq.trans ?_ (pack_byte (fun x => code (-7) 7 (y x) + 136) q.val (by omega) (by omega) _ (fun x => hwp x q)
    (fun x => by have := hc (y x); omega))
  simp only [hy]
  rfl

theorem mcT_at (inv : FVec Ideal S128x45 .f32) (hinv : ∀ k, ∃ r : ℝ, inv (ix2 p k) = r)
    (m : Vec Ideal S128x64 .f32) (w0 w1 w2 : Vec Ideal S45x64 .bf16) (hw : IsWs 2816 w0) (wp : Vec Ideal S64x32 .bf16)
    (hwp : IsWp wp) (q : Fin 32) (y : Fin 64 → EReal)
    (hy : ∀ l : Fin 64, y l = m (ix2 p l) * inv (ix2 p ⟨(2816 + l.val) / 64, by omega⟩)) :
    k0_pay294 (k0_pay293 (F := Ideal) inv m w0 w1 w2 wp) (ix3 0 p q)
      = packRef (BitVec.ofInt 8 (code (-7) 7 (y ⟨2 * q.val, by omega⟩))) (BitVec.ofInt 8 (code (-7) 7 (y ⟨2 * q.val + 1, by omega⟩))) := by
  have hc (e : EReal) := code_mem (a := -7) (b := 7) (by decide) e
  pointwise [k0_pay294, k0_pay293]
  rw [flip_at]
  pointwise []
  have e (l : Fin 64) := split_sum (fun x => inv (ix2 p x)) hinv
    (fun k => (2816 + l.val) / 64 = k.val) _ (fun k => w1 (ix2 k l)) (fun k => w2 (ix2 k l)) (fun k => hw k l) ⟨(2816 + l.val) / 64, by omega⟩
    (fun x => by rw [Fin.ext_iff]; exact eq_comm)
  have h143 : Ideal.ofBits .bf16 0x430F#16 = (((7 + 136 : ℤ) : ℝ) : EReal) := h_143
  simp only [e, b_136, b_2176, h_129, h143, clip_code (show (-7 : ℤ) ≤ 7 by decide)]
  rw [← pack_m _ _ (hc _) (hc _)]
  congr 1
  refine Eq.trans ?_ (pack_byte (fun x => code (-7) 7 (y x) + 136) q.val (by omega) (by omega) _ (fun x => hwp x q)
    (fun x => by have := hc (y x); omega))
  simp only [hy]
  rfl

end groups

end Cert.Cells
end
-- ==== Proof.Spec.lean ====
/- The step of one call as numbers: the arrays it is given, and what the kernel makes of them, element by element. -/
module

public import proofs.«01_k».proof.Proof.Cells

@[expose] public section

set_option maxRecDepth 16384

noncomputable section

namespace Cert.Spec

open Idealize.ShloMosaic Cert.Bytes Cert.Scalar Cert.Cells

/-- A bias correction: one less a decay to the power of the step count. -/
def bias (b : BitVec 32) (t : BitVec 32) : EReal := 1 - Ideal.pow (Ideal.ofBits .f32 b) (FloatOps.sitofp (F := Ideal) .f32 t)

/-- The arrays. -/
structure Arrs where
  w : Fin 7 → Fin 5760 → Fin 2880 → EReal
  g : Fin 7 → Fin 5760 → Fin 2880 → EReal
  gs : Fin 7 → Fin 5760 → EReal
  t : BitVec 32
  mc : Fin 7 → Fin 5760 → Fin 1440 → BitVec 8
  ms : Fin 7 → Fin 5760 → Fin 45 → EReal
  vc : Fin 7 → Fin 5760 → Fin 1440 → BitVec 8
  vr : Fin 7 → Fin 5760 → EReal
  vl : Fin 7 → Fin 2880 → EReal
  vrn : Fin 7 → Fin 5760 → EReal
  vln : Fin 7 → Fin 2880 → EReal

/-- A block's scale from its largest magnitude. -/
def scaleOf (a : EReal) : EReal := if a = 0 then 1 else Ideal.div a ((7 : ℝ) : EReal)

section defs
variable (A : Arrs) (e : Fin 7) (s : Fin 5760)

def K0 : EReal := Ideal.sqrt (Ideal.div (bias 0x3F7FBE77#32 A.t) (Ideal.ofBits .f32 0x3DCCCCCD#32))
def K1 : EReal := bias 0x3F666666#32 A.t
def KG (q : Fin 2880) : EReal := gK (A.g e s q) (A.gs e s)
def KM (q : Fin 2880) : EReal :=
  mK (mLev (nib (A.mc e s ⟨q.val / 2, by omega⟩) q.val)) (A.ms e s ⟨q.val / 64, by omega⟩) (KG A e s q)
def KV (q : Fin 2880) : EReal :=
  vK (vLev (nib (A.vc e s ⟨q.val / 2, by omega⟩) q.val)) (A.vr e s) (A.vl e q) (KG A e s q)
def KD (q : Fin 2880) : EReal := dwK (K0 A) (K1 A) (KM A e s q) (KV A e s q) (A.w e s q)
def KY (q : Fin 2880) : EReal := yK (KV A e s q) (A.vrn e s) (A.vln e q)
def KVC (q : Fin 1440) : BitVec 8 :=
  packRef (BitVec.ofInt 8 (code 0 15 (KY A e s ⟨2 * q.val, by omega⟩))) (BitVec.ofInt 8 (code 0 15 (KY A e s ⟨2 * q.val + 1, by omega⟩)))
/-- A block's largest magnitude. -/
def KA (k : Fin 45) : EReal :=
  Finset.fold max (⊥ : EReal) (fun x : Fin 64 => FloatOps.absf (F := Ideal) (φ := .f32) (KM A e s ⟨64 * k.val + x.val, by omega⟩)) Finset.univ
def KS (k : Fin 45) : EReal := scaleOf (KA A e s k)
def KZ (q : Fin 2880) : EReal := KM A e s q * Ideal.div 1 (KS A e s ⟨q.val / 64, by omega⟩)
def KMC (q : Fin 1440) : BitVec 8 :=
  packRef (BitVec.ofInt 8 (code (-7) 7 (KZ A e s ⟨2 * q.val, by omega⟩))) (BitVec.ofInt 8 (code (-7) 7 (KZ A e s ⟨2 * q.val + 1, by omega⟩)))

end defs

end Cert.Spec
end
-- ==== Proof.RefSpec.lean ====
/- The reference's results as functions of the arrays, element by element: the optimiser step as it is written down. -/
module

public import proofs.«01_k».proof.Proof.Spec

@[expose] public section

set_option maxRecDepth 16384

noncomputable section

namespace Cert.RefSpec

open Idealize.ShloMosaic Cert.Scalar Cert.Spec

/-- The new first moment. -/
def mR (lev ms gg : EReal) : EReal := Ideal.ofBits .f32 0x3F666666#32 * (lev * ms) + ((1 / 10 : ℝ) : EReal) * gg
/-- The new second moment. -/
def vR (lev vr vl gg : EReal) : EReal :=
  Ideal.ofBits .f32 0x3F7FBE77#32 * (lev * Ideal.ofBits .f32 0x3D800000#32 * min vr vl) + ((13421773 / 13421772800 : ℝ) : EReal) * gg * gg
/-- The step. -/
def dR (bc1 bc2 m v w : EReal) : EReal :=
  ((3 / 10000 : ℝ) : EReal) * (Ideal.div (Ideal.div m bc1) (Ideal.sqrt (Ideal.div v bc2) + Ideal.ofBits .f32 0x322BCC77#32) + ((1 / 10 : ℝ) : EReal) * w)
/-- The second moment's code before rounding. -/
def yR (v vrn vln : EReal) : EReal := Ideal.div (Ideal.ofBits .f32 0x41800000#32 * v) (min vrn vln) - 1

section defs
variable (A : Arrs) (e : Fin 7) (s : Fin 5760)

def RG (q : Fin 2880) : EReal := A.g e s q * A.gs e s
def RM (q : Fin 2880) : EReal :=
  mR (mLev (nib (A.mc e s ⟨q.val / 2, by omega⟩) q.val)) (A.ms e s ⟨q.val / 64, by omega⟩) (RG A e s q)
def RV (q : Fin 2880) : EReal :=
  vR (vLev (nib (A.vc e s ⟨q.val / 2, by omega⟩) q.val)) (A.vr e s) (A.vl e q) (RG A e s q)
def RD (q : Fin 2880) : EReal := dR (bias 0x3F666666#32 A.t) (bias 0x3F7FBE77#32 A.t) (RM A e s q) (RV A e s q) (A.w e s q)
def RY (q : Fin 2880) : EReal := yR (RV A e s q) (A.vrn e s) (A.vln e q)
def RVC (q : Fin 1440) : BitVec 8 :=
  packRef (BitVec.ofInt 8 (code 0 15 (RY A e s ⟨q.val * 2, by omega⟩))) (BitVec.ofInt 8 (code 0 15 (RY A e s ⟨q.val * 2 + 1, by omega⟩)))
/-- A block's largest magnitude, over its even columns and its odd columns. -/
def RA (k : Fin 45) : EReal :=
  max (Finset.fold max (Ideal.ofBits .f32 0xFF800000#32) (fun x : Fin 32 => FloatOps.absf (F := Ideal) (φ := .f32) (RM A e s ⟨(k.val * 32 + x.val) * 2, by omega⟩)) Finset.univ)
    (Finset.fold max (Ideal.ofBits .f32 0xFF800000#32) (fun x : Fin 32 => FloatOps.absf (F := Ideal) (φ := .f32) (RM A e s ⟨(k.val * 32 + x.val) * 2 + 1, by omega⟩)) Finset.univ)
def RS (k : Fin 45) : EReal := if RA A e s k = 0 then 1 else Ideal.div (RA A e s k) (Ideal.ofBits .f32 0x40E00000#32)
def RMC (q : Fin 1440) : BitVec 8 :=
  packRef (BitVec.ofInt 8 (code (-7) 7 (Ideal.div (RM A e s ⟨q.val * 2, by omega⟩) (RS A e s ⟨q.val / 32, by omega⟩))))
    (BitVec.ofInt 8 (code (-7) 7 (Ideal.div (RM A e s ⟨q.val * 2 + 1, by omega⟩) (RS A e s ⟨q.val / 32, by omega⟩))))

end defs

end Cert.RefSpec
end
-- ==== Proof.Equation.lean ====
/- The kernel's formulas equal the reference's, on states that are sound. -/
module

public import proofs.«01_k».proof.Proof.RefSpec
public import proofs.«01_k».proof.Proof.Cells

@[expose] public section

set_option maxRecDepth 16384

noncomputable section

namespace Cert.Equation

open Idealize.ShloMosaic Cert.Scalar Cert.Cells Cert.Spec Cert.RefSpec

/-- What the precondition says of the arrays. -/
structure Sound (A : Arrs) : Prop where
  t : 1 ≤ A.t.toInt
  ms : ∀ e s k, ∃ r : ℝ, A.ms e s k = r
  vr : ∀ e s, 0 ≤ A.vr e s
  vl : ∀ e q, 0 ≤ A.vl e q
  vrn : ∀ e s, 0 < A.vrn e s
  vln : ∀ e q, 0 < A.vln e q

/-! The float words. -/

theorem b_unit : Ideal.ofBits .f32 0x3DCCCCCD#32 = ((13421773 / 134217728 : ℝ) : EReal) := by
  simp [Ideal.ofBits, Ideal.ieee]; rw [← EReal.coe_mul]; norm_num
theorem b_unit16 : Ideal.ofBits .f32 0x3FCCCCCD#32 = ((13421773 / 8388608 : ℝ) : EReal) := by
  simp [Ideal.ofBits, Ideal.ieee]; rw [← EReal.coe_mul]; norm_num
theorem b_beta2 : Ideal.ofBits .f32 0x3F7FBE77#32 = ((16760439 / 16777216 : ℝ) : EReal) := by
  simp [Ideal.ofBits, Ideal.ieee]; rw [← EReal.coe_mul]; norm_num
theorem b_beta1 : Ideal.ofBits .f32 0x3F666666#32 = ((15099494 / 16777216 : ℝ) : EReal) := by
  simp [Ideal.ofBits, Ideal.ieee]; rw [← EReal.coe_mul]; norm_num
theorem b_sixteenth : Ideal.ofBits .f32 0x3D800000#32 = ((1 / 16 : ℝ) : EReal) := by
  simp [Ideal.ofBits, Ideal.ieee]; rw [← EReal.coe_mul]; norm_num
theorem b_sixteen : Ideal.ofBits .f32 0x41800000#32 = ((16 : ℝ) : EReal) := by
  simp [Ideal.ofBits, Ideal.ieee]; rw [← EReal.coe_mul]; norm_num
theorem b_eps : Ideal.ofBits .f32 0x322BCC77#32 = ((11258999 / 1125899906842624 : ℝ) : EReal) := by
  simp [Ideal.ofBits, Ideal.ieee]; rw [← EReal.coe_mul]; norm_num
theorem b_seven : Ideal.ofBits .f32 0x40E00000#32 = ((7 : ℝ) : EReal) := by
  simp [Ideal.ofBits, Ideal.ieee]; rw [← EReal.coe_mul]; norm_num

/-! A bias correction lies between 0 and 1. -/

theorem bias_real {b t : BitVec 32} {x : ℝ} (hb : Ideal.ofBits .f32 b = (x : EReal)) (h0 : 0 < x) (h1 : x < 1) (ht : 1 ≤ t.toInt) :
    ∃ r : ℝ, bias b t = r ∧ 0 < r ∧ r < 1 := by
  have hp : (x : ℝ) ^ ((t.toInt : ℝ)) < 1 := Real.rpow_lt_one h0.le h1 (by exact_mod_cast (by omega : (0 : ℤ) < t.toInt))
  have hq : 0 < (x : ℝ) ^ ((t.toInt : ℝ)) := Real.rpow_pos_of_pos h0 _
  refine ⟨1 - (x : ℝ) ^ ((t.toInt : ℝ)), ?_, by linarith, by linarith⟩
  unfold bias
  rw [hb]
  show (1 : EReal) - Ideal.pow (x : EReal) (((t.toInt : ℝ)) : EReal) = _
  rw [Ideal.pow_coe_coe, ← EReal.coe_one, ← EReal.coe_sub]
  rfl

/-! The moments. -/

theorem m_eq (lev ms g gs : EReal) : mK lev ms (gK g gs) = mR lev ms (g * gs) := by
  unfold mK gK mR
  congr 1
  · ac_rfl
  · ac_rfl

theorem min_mul_real (a b : EReal) (r : ℝ) (hr : 0 ≤ r) : min (a * (r : EReal)) (b * (r : EReal)) = min a b * (r : EReal) := by
  have h : Monotone fun x : EReal => x * (r : EReal) := fun x y hxy => mul_le_mul_of_nonneg_right hxy (EReal.coe_nonneg.2 hr)
  exact (h.map_min (a := a) (b := b)).symm

theorem fold_consts (a b c : ℝ) (x : EReal) (h : a * b = c) : (a : EReal) * ((b : EReal) * x) = (c : EReal) * x := by
  rw [← mul_assoc, ← EReal.coe_mul, h]

theorem v_eq (lev vr vl g gs : EReal) :
    ((13421773 / 134217728 : ℝ) : EReal) * vK lev vr vl (gK g gs) = vR lev vr vl (g * gs) := by
  unfold vK gK vR
  rw [b_beta2, b_sixteenth, min_mul_real _ _ _ (by norm_num),
    EReal.left_distrib_of_nonneg_of_ne_top (EReal.coe_nonneg.2 (by norm_num)) (EReal.coe_ne_top _)]
  congr 1
  · rw [show ((13421773 / 134217728 : ℝ) : EReal) * (lev * (min vr vl * ((16760439 / 26843546 : ℝ) : EReal)))
        = ((13421773 / 134217728 : ℝ) : EReal) * (((16760439 / 26843546 : ℝ) : EReal) * (lev * min vr vl)) by ac_rfl,
      show ((16760439 / 16777216 : ℝ) : EReal) * (lev * ((1 / 16 : ℝ) : EReal) * min vr vl)
        = ((16760439 / 16777216 : ℝ) : EReal) * (((1 / 16 : ℝ) : EReal) * (lev * min vr vl)) by ac_rfl,
      fold_consts _ _ _ _ rfl, fold_consts _ _ _ _ rfl]
    norm_num
  · rw [show ((13421773 / 134217728 : ℝ) : EReal) * (g * (gs * ((1 / 10 : ℝ) : EReal)) * (g * (gs * ((1 / 10 : ℝ) : EReal))))
        = ((13421773 / 134217728 : ℝ) : EReal) * (((1 / 10 : ℝ) : EReal) * (((1 / 10 : ℝ) : EReal) * ((g * gs) * (g * gs)))) by ac_rfl,
      fold_consts _ _ _ _ rfl, fold_consts _ _ _ _ rfl, mul_assoc _ (g * gs) (g * gs)]
    norm_num

theorem vLev_nonneg (b : BitVec 8) (q : ℕ) : 0 ≤ vLev (nib b q) := by
  have h1 : ∀ x : Fin 256, 0 ≤ (((BitVec.ofFin (w := 8) x) &&& 0x0F#8) + 1#8).toInt := by decide +kernel
  have h2 : ∀ x : Fin 256, 0 ≤ (((BitVec.ofFin (w := 8) x) >>> 4) + 1#8).toInt := by decide +kernel
  unfold vLev nib
  refine EReal.coe_nonneg.2 ?_
  split
  · exact_mod_cast h1 b.toFin
  · exact_mod_cast h2 b.toFin

theorem sq_nonneg (x : EReal) : 0 ≤ x * x := by
  rcases le_total 0 x with h | h
  · exact EReal.mul_nonneg h h
  · exact EReal.mul_nonneg_iff.2 (.inr ⟨h, h⟩)

theorem v_nonneg {lev vr vl : EReal} (gg : EReal) (h : 0 ≤ lev) (hr : 0 ≤ vr) (hl : 0 ≤ vl) : 0 ≤ vK lev vr vl gg := by
  unfold vK
  rw [min_mul_real _ _ _ (by norm_num)]
  exact add_nonneg (EReal.mul_nonneg h (EReal.mul_nonneg (le_min hr hl) (EReal.coe_nonneg.2 (by norm_num)))) (sq_nonneg _)

/-! The step. -/

theorem rsqrt_inv (r : ℝ) (h : 0 ≤ r) : Ideal.div 1 (Ideal.rsqrt (r : EReal)) = ((Real.sqrt r : ℝ) : EReal) := by
  rw [Ideal.rsqrt_coe, if_neg (not_lt.2 h)]
  split
  · rename_i h0
    rw [Ideal.div, if_neg EReal.top_ne_zero, EReal.inv_top, mul_zero, h0, Real.sqrt_zero, EReal.coe_zero]
  · rename_i h0
    have hs : 0 < Real.sqrt r := Real.sqrt_pos.2 (lt_of_le_of_ne h (Ne.symm h0))
    rw [Ideal.div_coe (inv_ne_zero hs.ne'), one_mul, one_div, inv_inv]

theorem div_top (x : EReal) : Ideal.div x ⊤ = 0 := by
  rw [Ideal.div, if_neg EReal.top_ne_zero, EReal.inv_top, mul_zero]

theorem d_eq (b1 b2 : ℝ) (h1 : 0 < b1) (h2 : 0 < b2) (m v w : EReal) (hv : 0 ≤ v) :
    dwK (Ideal.sqrt (Ideal.div (b2 : EReal) ((13421773 / 134217728 : ℝ) : EReal))) (b1 : EReal) m v w
      = dR (b1 : EReal) (b2 : EReal) m (((13421773 / 134217728 : ℝ) : EReal) * v) w := by
  have hU : (0 : ℝ) < 13421773 / 134217728 := by norm_num
  have hq : 0 < b2 * (1 / (13421773 / 134217728)) := by positivity
  obtain ⟨ρ, hρ⟩ : ∃ ρ : ℝ, ρ = Real.sqrt (b2 * (1 / (13421773 / 134217728))) := ⟨_, rfl⟩
  have hρ0 : 0 < ρ := by rw [hρ]; exact Real.sqrt_pos.2 hq
  have hρ2 : ρ * ρ = b2 * (1 / (13421773 / 134217728)) := by rw [hρ]; exact Real.mul_self_sqrt hq.le
  have hroot : Ideal.sqrt (Ideal.div (b2 : EReal) ((13421773 / 134217728 : ℝ) : EReal)) = (ρ : EReal) := by
    rw [Ideal.div_coe hU.ne', ← EReal.coe_mul, Ideal.sqrt_coe, if_neg (not_lt.2 hq.le), hρ]
  have hlast : ((3 / 10000 : ℝ) : EReal) * (((1 / 10 : ℝ) : EReal) * w) = w * ((3 / 100000 : ℝ) : EReal) := by
    rw [fold_consts _ _ _ _ rfl, mul_comm]; norm_num
  unfold dwK dR
  rw [hroot, b_eps, Ideal.div_coe h1.ne', Ideal.div_coe h1.ne', Ideal.div_coe h2.ne',
    EReal.left_distrib_of_nonneg_of_ne_top (EReal.coe_nonneg.2 (by norm_num)) (EReal.coe_ne_top _), hlast]
  congr 1
  induction v with
  | bot => exact absurd hv (by simp)
  | top =>
    rw [Ideal.rsqrt_top, EReal.coe_mul_top_of_pos hU, EReal.top_mul_coe_of_pos (by positivity), Ideal.sqrt_top]
    rw [show Ideal.div 1 0 = (⊤ : EReal) by rw [Ideal.div, if_pos rfl, if_pos zero_lt_one], ← EReal.coe_mul,
      EReal.top_add_coe, EReal.top_add_coe, div_top, div_top, mul_zero, zero_mul, mul_zero]
  | coe r =>
    have hr : 0 ≤ r := EReal.coe_nonneg.1 hv
    have hs : 0 ≤ Real.sqrt r := Real.sqrt_nonneg r
    have hd : (0 : ℝ) < Real.sqrt r + 11258999 / 1125899906842624 * ρ := by positivity
    have hd' : (0 : ℝ) < Real.sqrt r / ρ + 11258999 / 1125899906842624 := by positivity
    have hsq : Ideal.sqrt (((13421773 / 134217728 : ℝ) : EReal) * (r : EReal) * ((1 / b2 : ℝ) : EReal)) = ((Real.sqrt r / ρ : ℝ) : EReal) := by
      rw [← EReal.coe_mul, ← EReal.coe_mul, Ideal.sqrt_coe, if_neg (not_lt.2 (by positivity))]
      congr 1
      have : 13421773 / 134217728 * r * (1 / b2) = (Real.sqrt r / ρ) * (Real.sqrt r / ρ) := by
        rw [div_mul_div_comm, Real.mul_self_sqrt hr, hρ2]; field_simp
      rw [this]
      exact Real.sqrt_mul_self (by positivity)
    rw [rsqrt_inv r hr, hsq, ← EReal.coe_mul, ← EReal.coe_add, ← EReal.coe_add, Ideal.div_coe hd.ne', Ideal.div_coe hd'.ne', one_mul,
      ← EReal.coe_mul, ← EReal.coe_mul, mul_assoc m, ← EReal.coe_mul, mul_assoc m, ← EReal.coe_mul,
      mul_left_comm _ m, ← EReal.coe_mul]
    congr 2
    field_simp

/-! The codes. -/

theorem r_pos {x : EReal} (hx : 0 < x) : rK x = ((13421773 / 8388608 : ℝ) : EReal) * x⁻¹ := by
  rw [rK, if_neg hx.ne', Ideal.div, if_neg hx.ne', b_unit16]

theorem y_eq (v : EReal) {a b : EReal} (ha : 0 < a) (hb : 0 < b) :
    yK v a b = yR (((13421773 / 134217728 : ℝ) : EReal) * v) a b := by
  have key (x : EReal) : v * (((13421773 / 8388608 : ℝ) : EReal) * x⁻¹) = ((16 : ℝ) : EReal) * (((13421773 / 134217728 : ℝ) : EReal) * v) * x⁻¹ := by
    rw [fold_consts _ _ (13421773 / 8388608) _ (by norm_num)]; ac_rfl
  have anti {x y : EReal} (hx : 0 < x) (hxy : x ≤ y) :
      ((13421773 / 8388608 : ℝ) : EReal) * y⁻¹ ≤ ((13421773 / 8388608 : ℝ) : EReal) * x⁻¹ :=
    mul_le_mul_of_nonneg_left (EReal.inv_strictAntiOn.antitoneOn hx (lt_of_lt_of_le hx hxy) hxy) (EReal.coe_nonneg.2 (by norm_num))
  unfold yK yR
  rw [r_pos ha, r_pos hb, b_sixteen, Ideal.div, if_neg (lt_min ha hb).ne']
  congr 1
  rcases le_total a b with h | h
  · rw [max_eq_left (anti ha h), min_eq_left h, key]
  · rw [max_eq_right (anti hb h), min_eq_right h, key]

theorem scale_ne (a : EReal) : scaleOf a ≠ 0 := by
  unfold scaleOf
  split
  · exact one_ne_zero
  · rename_i h
    rw [Ideal.div_coe (by norm_num : (7 : ℝ) ≠ 0)]
    exact mul_ne_zero h (by rw [← EReal.coe_zero]; exact fun h' => by have := EReal.coe_injective h'; norm_num at this)

theorem z_eq (m : EReal) {s : EReal} (hs : s ≠ 0) : m * Ideal.div 1 s = Ideal.div m s := by
  rw [Ideal.div, if_neg hs, Ideal.div, if_neg hs, one_mul]

section arrays
variable (A : Arrs) (e : Fin 7) (s : Fin 5760) (h : Sound A)

theorem KM_eq (q : Fin 2880) : KM A e s q = RM A e s q := m_eq _ _ _ _

include h in
theorem KD_eq (q : Fin 2880) : KD A e s q = RD A e s q := by
  obtain ⟨b1, e1, p1, _⟩ := bias_real (t := A.t) b_beta1 (by norm_num) (by norm_num) h.t
  obtain ⟨b2, e2, p2, _⟩ := bias_real (t := A.t) b_beta2 (by norm_num) (by norm_num) h.t
  unfold KD RD K0 K1
  rw [KM_eq, e1, e2, b_unit]
  refine (d_eq b1 b2 p1 p2 _ _ _ (v_nonneg _ (vLev_nonneg _ _) (h.vr e s) (h.vl e q))).trans ?_
  unfold KG
  rw [v_eq]
  rfl

include h in
theorem KY_eq (q : Fin 2880) : KY A e s q = RY A e s q := by
  refine (y_eq _ (h.vrn e s) (h.vln e q)).trans ?_
  unfold KV KG
  rw [v_eq]
  rfl

include h in
theorem KVC_eq (q : Fin 1440) : KVC A e s q = RVC A e s q := by
  have h0 : (⟨2 * q.val, by omega⟩ : Fin 2880) = ⟨q.val * 2, by omega⟩ := Fin.ext (by show 2 * q.val = q.val * 2; omega)
  have h1 : (⟨2 * q.val + 1, by omega⟩ : Fin 2880) = ⟨q.val * 2 + 1, by omega⟩ := Fin.ext (by show 2 * q.val + 1 = q.val * 2 + 1; omega)
  unfold KVC RVC
  rw [KY_eq A e s h, KY_eq A e s h, h0, h1]

theorem KA_eq (k : Fin 45) : KA A e s k = RA A e s k := by
  unfold KA RA
  rw [b_ninf]
  refine eq_of_forall_ge_iff fun c => ?_
  rw [max_le_iff, Finset.fold_max_le, Finset.fold_max_le, Finset.fold_max_le]
  simp only [KM_eq, Finset.mem_univ, forall_true_left, bot_le, true_and]
  constructor
  · intro H
    refine ⟨fun x => ?_, fun x => ?_⟩
    · have := H ⟨2 * x.val, by omega⟩
      rwa [show (⟨64 * k.val + 2 * x.val, by omega⟩ : Fin 2880) = ⟨(k.val * 32 + x.val) * 2, by omega⟩ from
        Fin.ext (by show 64 * k.val + 2 * x.val = (k.val * 32 + x.val) * 2; omega)] at this
    · have := H ⟨2 * x.val + 1, by omega⟩
      rwa [show (⟨64 * k.val + (2 * x.val + 1), by omega⟩ : Fin 2880) = ⟨(k.val * 32 + x.val) * 2 + 1, by omega⟩ from
        Fin.ext (by show 64 * k.val + (2 * x.val + 1) = (k.val * 32 + x.val) * 2 + 1; omega)] at this
  · rintro ⟨H0, H1⟩ x
    by_cases hx : x.val % 2 = 0
    · have := H0 ⟨x.val / 2, by omega⟩
      rwa [show (⟨(k.val * 32 + x.val / 2) * 2, by omega⟩ : Fin 2880) = ⟨64 * k.val + x.val, by omega⟩ from
        Fin.ext (by show (k.val * 32 + x.val / 2) * 2 = 64 * k.val + x.val; omega)] at this
    · have := H1 ⟨x.val / 2, by omega⟩
      rwa [show (⟨(k.val * 32 + x.val / 2) * 2 + 1, by omega⟩ : Fin 2880) = ⟨64 * k.val + x.val, by omega⟩ from
        Fin.ext (by show (k.val * 32 + x.val / 2) * 2 + 1 = 64 * k.val + x.val; omega)] at this

theorem KS_eq (k : Fin 45) : KS A e s k = RS A e s k := by
  unfold KS RS scaleOf
  rw [KA_eq, b_seven]

theorem KZ_eq (q : Fin 2880) : KZ A e s q = Ideal.div (RM A e s q) (RS A e s ⟨q.val / 64, by omega⟩) := by
  unfold KZ
  rw [z_eq _ (by unfold KS; exact scale_ne _), KM_eq, KS_eq]

theorem KMC_eq (q : Fin 1440) : KMC A e s q = RMC A e s q := by
  have h0 : (⟨2 * q.val, by omega⟩ : Fin 2880) = ⟨q.val * 2, by omega⟩ := Fin.ext (by show 2 * q.val = q.val * 2; omega)
  have h1 : (⟨2 * q.val + 1, by omega⟩ : Fin 2880) = ⟨q.val * 2 + 1, by omega⟩ := Fin.ext (by show 2 * q.val + 1 = q.val * 2 + 1; omega)
  have h2 : (⟨q.val * 2 / 64, by omega⟩ : Fin 45) = ⟨q.val / 32, by omega⟩ := Fin.ext (by show q.val * 2 / 64 = q.val / 32; omega)
  have h3 : (⟨(q.val * 2 + 1) / 64, by omega⟩ : Fin 45) = ⟨q.val / 32, by omega⟩ := Fin.ext (by show (q.val * 2 + 1) / 64 = q.val / 32; omega)
  unfold KMC RMC
  rw [h0, h1, KZ_eq, KZ_eq]
  dsimp only
  rw [h2, h3]

end arrays

end Cert.Equation
end
-- ==== Proof.PreRead.lean ====
/- What the precondition says of the arrays, element by element. -/
module

public import proofs.«01_k».proof.Defs
public import proofs.«01_k».proof.Proof.Gen.Pre_states_sound
public import proofs.«01_k».proof.Proof.Equation
public import Idealize.ShloMosaic.Lib.Pointwise

@[expose] public section

set_option maxRecDepth 16384

noncomputable section

namespace Cert.PreRead

open Idealize.ShloMosaic Idealize.ShloMosaic.Tactic Cert.Pre_states_sound Cert.Spec Cert.Equation

theorem and_one : ∀ {a b : BitVec 1}, IntOp.andi a b = 1#1 → a = 1#1 ∧ b = 1#1 := by decide

theorem of_bool {p : Prop} [Decidable p] (h : BitVec.ofBool (decide p) = 1#1) : p := by
  by_contra hp
  rw [decide_eq_false hp] at h
  exact absurd h (by decide)

theorem sge_one {t : BitVec 32} (h : IntOp.cmpi CmpIPredicate.sge t 1#32 = 1#1) : 1 ≤ t.toInt := by
  have h' : BitVec.sle 1#32 t = true := by
    by_contra hn
    rw [Bool.not_eq_true] at hn
    have : IntOp.cmpi CmpIPredicate.sge t 1#32 = BitVec.ofBool (BitVec.sle 1#32 t) := rfl
    rw [this, hn] at h
    exact absurd h (by decide)
  exact BitVec.sle_iff_toInt_le.1 h'

theorem b_inf : Ideal.ofBits .f32 2139095040#32 = ⊤ := by simp [Ideal.ofBits, Ideal.ieee]

theorem finite_of {x : EReal} (h : FloatOps.absf (F := Ideal) (φ := .f32) x < Ideal.ofBits FTy.f32 2139095040#32) : ∃ r : ℝ, x = (r : EReal) := by
  rw [b_inf] at h
  have h' : max x (-x) < ⊤ := h
  induction x with
  | bot => simp at h'
  | top => simp at h'
  | coe r => exact ⟨r, rfl⟩

section pre
variable (a0 : FVec Ideal S7x5760x2880 .bf16) (a1 : FVec Ideal S7x5760x2880 .fp8e4m3) (a2 : FVec Ideal S7x5760 .f32) (a3 : IVec S_ 32)
  (a4 : IVec S7x5760x1440 8) (a5 : FVec Ideal S7x5760x45 .f32) (a6 : IVec S7x5760x1440 8) (a7 : FVec Ideal S7x5760 .f32)
  (a8 : FVec Ideal S7x2880 .f32) (a9 : FVec Ideal S7x5760 .f32) (a10 : FVec Ideal S7x2880 .f32)

/-- The precondition at one element. -/
theorem at_elt (h : fn (F := Ideal) a0 a1 a2 a3 a4 a5 a6 a7 a8 a9 a10 = fun _ => 1#1) (e : Fin 7) (s : Fin 5760) (k : Fin 45) (x : Fin 64) :
    1 ≤ (a3 ix0).toInt ∧ (∃ r : ℝ, a5 (ix3 e s k) = (r : EReal)) ∧ (0 : EReal) ≤ a7 (ix2 e s) ∧ (0 : EReal) ≤ a8 (ix2 e ⟨k.val * 64 + x.val, by omega⟩)
      ∧ (0 : EReal) < a9 (ix2 e s) ∧ (0 : EReal) < a10 (ix2 e ⟨k.val * 64 + x.val, by omega⟩) := by
  have H := congrFun h (ix4 e s k x)
  have E : fn (F := Ideal) a0 a1 a2 a3 a4 a5 a6 a7 a8 a9 a10 (ix4 e s k x) =
      IntOp.andi (IntOp.andi (IntOp.andi (IntOp.andi (IntOp.andi (IntOp.cmpi CmpIPredicate.sge (a3 ix0) 1#32)
        (BitVec.ofBool (decide (FloatOps.absf (F := Ideal) (φ := .f32) (a5 (ix3 e s k)) < Ideal.ofBits FTy.f32 2139095040#32))))
        (BitVec.ofBool (decide ((0 : EReal) ≤ a7 (ix2 e s))))) (BitVec.ofBool (decide ((0 : EReal) ≤ a8 (ix2 e ⟨k.val * 64 + x.val, by omega⟩)))))
        (BitVec.ofBool (decide ((0 : EReal) < a9 (ix2 e s))))) (BitVec.ofBool (decide ((0 : EReal) < a10 (ix2 e ⟨k.val * 64 + x.val, by omega⟩)))) := by
    pointwise [fn, fn_part1]
  rw [E] at H
  obtain ⟨H, h10⟩ := and_one H
  obtain ⟨H, h9⟩ := and_one H
  obtain ⟨H, h8⟩ := and_one H
  obtain ⟨H, h7⟩ := and_one H
  obtain ⟨h3, h5⟩ := and_one H
  exact ⟨sge_one h3, finite_of (of_bool h5), of_bool h7, of_bool h8, of_bool h9, of_bool h10⟩

/-- The precondition over every element. -/
theorem sound (A : Arrs) (h : fn (F := Ideal) a0 a1 a2 a3 a4 a5 a6 a7 a8 a9 a10 = fun _ => 1#1) (ht : A.t = a3 ix0)
    (hms : ∀ e s k, A.ms e s k = a5 (ix3 e s k)) (hvr : ∀ e s, A.vr e s = a7 (ix2 e s)) (hvl : ∀ e q, A.vl e q = a8 (ix2 e q))
    (hvrn : ∀ e s, A.vrn e s = a9 (ix2 e s)) (hvln : ∀ e q, A.vln e q = a10 (ix2 e q)) : Sound A := by
  have H := at_elt a0 a1 a2 a3 a4 a5 a6 a7 a8 a9 a10 h
  have col (q : Fin 2880) : (⟨(⟨q.val / 64, by omega⟩ : Fin 45).val * 64 + (⟨q.val % 64, by omega⟩ : Fin 64).val, by omega⟩ : Fin 2880) = q :=
    Fin.ext (by show q.val / 64 * 64 + q.val % 64 = q.val; omega)
  refine ⟨?_, fun e s k => ?_, fun e s => ?_, fun e q => ?_, fun e s => ?_, fun e q => ?_⟩
  · rw [ht]; exact (H 0 0 0 0).1
  · rw [hms]; exact (H e s k 0).2.1
  · rw [hvr]; exact (H e s 0 0).2.2.1
  · rw [hvl, ← col q]; exact (H e 0 ⟨q.val / 64, by omega⟩ ⟨q.val % 64, by omega⟩).2.2.2.1
  · rw [hvrn]; exact (H e s 0 0).2.2.2.2.1
  · rw [hvln, ← col q]; exact (H e 0 ⟨q.val / 64, by omega⟩ ⟨q.val % 64, by omega⟩).2.2.2.2.2

end pre

end Cert.PreRead
end
-- ==== Proof.Tile.lean ====
/- One grid point's body, tile by tile. The body cuts its 384 rows in three tiles of 128 rows and each tile's columns in
   eleven groups of 256 and a last one of 64. The definitions here name what each group's loads give the first tile's
   first group's payloads; every store of the run is one of them, at its own row and column. -/
module

public import proofs.«01_k».proof.Proof.Gen.KernelIdeal.Frame
public import proofs.«01_k».proof.Proof.Cells
public import Idealize.ShloMosaic.Lib.WholeRead

@[expose] public section

set_option maxRecDepth 16384

noncomputable section

namespace Cert.Tile

open Idealize.ShloMosaic Idealize.ShloMosaic.TcCoe Idealize.ShloMosaic.Tactic Idealize.SL.Sem
open Cert.KernelIdeal Cert.KernelIdeal.Gen Cert.Bytes Cert.Scalar Cert.Cells

/-- The body's buffers. -/
structure Refs where
  a2 : Memref sig .tc .smem S1x2 .f32
  h2 : a2.IsWhole
  a3 : Memref sig .tc .vmem S1x384x2880 .bf16
  h3 : a3.IsWhole
  a4 : Memref sig .tc .vmem S1x384x2880 .fp8e4m3
  h4 : a4.IsWhole
  a5 : Memref sig .tc .vmem S1x1x1x384 .f32
  h5 : a5.IsWhole
  a6 : Memref sig .tc .vmem S1x384x1440 .i8
  h6 : a6.IsWhole
  a7 : Memref sig .tc .vmem S1x384x45 .f32
  h7 : a7.IsWhole
  a8 : Memref sig .tc .vmem S1x384x1440 .i8
  h8 : a8.IsWhole
  a9 : Memref sig .tc .vmem S1x1x1x384 .f32
  h9 : a9.IsWhole
  a10 : Memref sig .tc .vmem S1x1x2880 .f32
  h10 : a10.IsWhole
  a11 : Memref sig .tc .vmem S1x1x1x384 .f32
  h11 : a11.IsWhole
  a12 : Memref sig .tc .vmem S1x1x2880 .f32
  h12 : a12.IsWhole
  a13 : Memref sig .tc .vmem S256x256 .bf16
  h13 : a13.IsWhole
  a14 : Memref sig .tc .vmem S256x128 .bf16
  h14 : a14.IsWhole
  a15 : Memref sig .tc .vmem S192x2880 .bf16
  h15 : a15.IsWhole
  a16 : Memref sig .tc .vmem S1x384x2880 .f32
  h16 : a16.IsWhole
  a17 : Memref sig .tc .vmem S1x384x1440 .i8
  h17 : a17.IsWhole
  a18 : Memref sig .tc .vmem S1x384x45 .f32
  h18 : a18.IsWhole
  a19 : Memref sig .tc .vmem S1x384x1440 .i8
  h19 : a19.IsWhole
  a20 : Memref sig .tc .vmem S128x2880 .f32
  h20 : a20.IsWhole

/-- What its input buffers hold. -/
structure Ins where
  x0 : Vec Ideal S1x2 .f32
  x1 : Vec Ideal S1x384x2880 .bf16
  x2 : Vec Ideal S1x384x2880 .fp8e4m3
  x3 : Vec Ideal S1x1x1x384 .f32
  x4 : Vec Ideal S1x384x1440 .i8
  x5 : Vec Ideal S1x384x45 .f32
  x6 : Vec Ideal S1x384x1440 .i8
  x7 : Vec Ideal S1x1x1x384 .f32
  x8 : Vec Ideal S1x1x2880 .f32
  x9 : Vec Ideal S1x1x1x384 .f32
  x10 : Vec Ideal S1x1x2880 .f32
  x11 : Vec Ideal S256x256 .bf16
  x12 : Vec Ideal S256x128 .bf16
  x13 : Vec Ideal S192x2880 .bf16

/-- The stores of the body's run, output by output. -/
abbrev runOf (c : Dev nD) (i : grid0.Coords) (R : Refs) (X : Ins) :=
  kernelRun0_A c i R.a2 R.h2 R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 R.a20 R.h20 X.x0 X.x1 X.x2 X.x3 X.x4 X.x5 X.x6 X.x7 X.x8 X.x9 X.x10 X.x11 X.x12 X.x13

/-! Loads: of rows `r …`, columns `C …`. -/

section loads
variable {sp : Space} {e : EltTy}

theorem inb3 {M N m n : ℕ} {r C : ℕ} (h1 : r + m ≤ M) (h2 : C + n ≤ N) :
    ∀ a, (![0, r, C] : Fin 3 → ℕ) a + (![1, m, n] : Fin 3 → ℕ) a ≤ (![1, M, N] : Fin 3 → ℕ) a := by
  intro a; fin_cases a
  · exact le_rfl
  · exact h1
  · exact h2
theorem inb4 {M m : ℕ} {r : ℕ} (h1 : r + m ≤ M) :
    ∀ a, (![0, 0, 0, r] : Fin 4 → ℕ) a + (![1, 1, 1, m] : Fin 4 → ℕ) a ≤ (![1, 1, 1, M] : Fin 4 → ℕ) a := by
  intro a; fin_cases a
  · exact le_rfl
  · exact le_rfl
  · exact le_rfl
  · exact h1
theorem inb2 {M N m n : ℕ} {r C : ℕ} (h1 : r + m ≤ M) (h2 : C + n ≤ N) :
    ∀ a, (![r, C] : Fin 2 → ℕ) a + (![m, n] : Fin 2 → ℕ) a ≤ (![M, N] : Fin 2 → ℕ) a := by
  intro a; fin_cases a
  · exact h1
  · exact h2

/-- A load of `m` rows from row `r` and `n` columns from column `C`. -/
def ld3 {M N : ℕ} (a : Memref sig .tc sp ⟨3, ![1, M, N]⟩ e) (ha : a.IsWhole) (x : Vec Ideal ⟨3, ![1, M, N]⟩ e) (r C m n : ℕ)
    (h1 : r + m ≤ M) (h2 : C + n ≤ N) : Vec Ideal ⟨3, ![1, m, n]⟩ e :=
  View.readAt (Elt Ideal) a.view (Rect.unit (s := ⟨3, ![1, M, N]⟩) ![0, r, C] ![1, m, n] (inb3 h1 h2)).toLoadRect (ha.unread x)
def ld4 {M : ℕ} (a : Memref sig .tc sp ⟨4, ![1, 1, 1, M]⟩ e) (ha : a.IsWhole) (x : Vec Ideal ⟨4, ![1, 1, 1, M]⟩ e) (r m : ℕ)
    (h1 : r + m ≤ M) : Vec Ideal ⟨4, ![1, 1, 1, m]⟩ e :=
  View.readAt (Elt Ideal) a.view (Rect.unit (s := ⟨4, ![1, 1, 1, M]⟩) ![0, 0, 0, r] ![1, 1, 1, m] (inb4 h1)).toLoadRect (ha.unread x)
def ld2 {M N : ℕ} (a : Memref sig .tc sp ⟨2, ![M, N]⟩ e) (ha : a.IsWhole) (x : Vec Ideal ⟨2, ![M, N]⟩ e) (r C m n : ℕ)
    (h1 : r + m ≤ M) (h2 : C + n ≤ N) : Vec Ideal ⟨2, ![m, n]⟩ e :=
  View.readAt (Elt Ideal) a.view (Rect.unit (s := ⟨2, ![M, N]⟩) ![r, C] ![m, n] (inb2 h1 h2)).toLoadRect (ha.unread x)

theorem ld3_at {M N : ℕ} (a : Memref sig .tc sp ⟨3, ![1, M, N]⟩ e) (ha : a.IsWhole) (x : Vec Ideal ⟨3, ![1, M, N]⟩ e) (r C m n : ℕ)
    (h1 : r + m ≤ M) (h2 : C + n ≤ N) (p : Fin m) (q : Fin n) :
    ld3 a ha x r C m n h1 h2 (ix3 0 p q) = x (ix3 0 ⟨r + p.val, by omega⟩ ⟨C + q.val, by omega⟩) := by
  unfold ld3
  rw [ha.readAt_unread]
  refine congrArg x (funext fun a => Fin.ext ?_)
  fin_cases a
  · rfl
  · show r + 1 * p.val = r + p.val; rw [one_mul]
  · show C + 1 * q.val = C + q.val; rw [one_mul]
theorem ld4_at {M : ℕ} (a : Memref sig .tc sp ⟨4, ![1, 1, 1, M]⟩ e) (ha : a.IsWhole) (x : Vec Ideal ⟨4, ![1, 1, 1, M]⟩ e) (r m : ℕ)
    (h1 : r + m ≤ M) (p : Fin m) :
    ld4 a ha x r m h1 (ix4 0 0 0 p) = x (ix4 0 0 0 ⟨r + p.val, by omega⟩) := by
  unfold ld4
  rw [ha.readAt_unread]
  refine congrArg x (funext fun a => Fin.ext ?_)
  fin_cases a
  · rfl
  · rfl
  · rfl
  · show r + 1 * p.val = r + p.val; rw [one_mul]
theorem ld2_at {M N : ℕ} (a : Memref sig .tc sp ⟨2, ![M, N]⟩ e) (ha : a.IsWhole) (x : Vec Ideal ⟨2, ![M, N]⟩ e) (r C m n : ℕ)
    (h1 : r + m ≤ M) (h2 : C + n ≤ N) (p : Fin m) (q : Fin n) :
    ld2 a ha x r C m n h1 h2 (ix2 p q) = x (ix2 ⟨r + p.val, by omega⟩ ⟨C + q.val, by omega⟩) := by
  unfold ld2
  rw [ha.readAt_unread]
  refine congrArg x (funext fun a => Fin.ext ?_)
  fin_cases a
  · show r + 1 * p.val = r + p.val; rw [one_mul]
  · show C + 1 * q.val = C + q.val; rw [one_mul]

end loads

section defs
variable (R : Refs) (X : Ins) (r : ℕ) (hr : r + 128 ≤ 384)

/-! The groups: `D` is half the first column. -/

def k0 : Elt Ideal .f32 := ld2 R.a2 R.h2 X.x0 0 0 1 1 (by decide) (by decide) (Shape.Idx.first (s := S1x1) (by decide))
def k1 : Elt Ideal .f32 := ld2 R.a2 R.h2 X.x0 0 1 1 1 (by decide) (by decide) (Shape.Idx.first (s := S1x1) (by decide))
def gs : FVec Ideal S128x128 .f32 := k0_pay3 (ld4 R.a5 R.h5 X.x3 r 128 hr)
def vr : FVec Ideal S128x128 .f32 := k0_pay4 (ld4 R.a9 R.h9 X.x7 r 128 hr)
def vrn : FVec Ideal S128x128 .f32 := k0_pay5 (ld4 R.a11 R.h11 X.x9 r 128 hr)
def ms : FVec Ideal S128x45 .f32 := k0_pay6 (ld3 R.a7 R.h7 X.x5 r 0 128 45 hr (by decide))
def we : Vec Ideal S256x256 .bf16 := ld2 R.a13 R.h13 X.x11 0 0 256 256 (by decide) (by decide)
def wp : Vec Ideal S256x128 .bf16 := ld2 R.a14 R.h14 X.x12 0 0 256 128 (by decide) (by decide)
def wpT : Vec Ideal S64x32 .bf16 := ld2 R.a14 R.h14 X.x12 0 0 64 32 (by decide) (by decide)

section group
variable (D : ℕ) (hD : D + 128 ≤ 1440)

def ggW : FVec Ideal S128x256 .f32 := k0_pay8 (gs R X r hr) (ld3 R.a4 R.h4 X.x2 r (2 * D) 128 256 hr (by omega))
def vlW : FVec Ideal S128x256 .f32 := k0_pay15 (ld3 R.a8 R.h8 X.x6 r D 128 128 hr hD) (we R X)
def mW : FVec Ideal S128x256 .f32 :=
  k0_pay14 (ggW R X r hr D hD) (k0_pay9 (ld3 R.a6 R.h6 X.x4 r D 128 128 hr hD) (we R X)) (k0_pay10 (ms R X r hr)) (k0_pay11 (ms R X r hr))
    (k0_pay12 (ms R X r hr)) (k0_pay13 (ms R X r hr)) (ld2 R.a15 R.h15 X.x13 0 (2 * D) 45 256 (by decide) (by omega))
    (ld2 R.a15 R.h15 X.x13 64 (2 * D) 45 256 (by decide) (by omega)) (ld2 R.a15 R.h15 X.x13 128 (2 * D) 45 256 (by decide) (by omega))
def dwW : FVec Ideal S1x128x256 .f32 :=
  k0_pay18 (k0_pay1 (k0 R X) (k1 R X)) (k0_pay2 (k0 R X)) (ggW R X r hr D hD) (mW R X r hr D hD) (vlW R X r hr D hD) (k0_pay16 (vr R X r hr))
    (ld3 R.a10 R.h10 X.x8 0 (2 * D) 1 256 (by decide) (by omega)) (ld3 R.a3 R.h3 X.x1 r (2 * D) 128 256 hr (by omega))
def vcW : IVec S1x128x128 8 :=
  k0_pay20 (k0_pay19 (vrn R X r hr) (ggW R X r hr D hD) (vlW R X r hr D hD) (k0_pay16 (vr R X r hr))
    (ld3 R.a10 R.h10 X.x8 0 (2 * D) 1 256 (by decide) (by omega)) (ld3 R.a12 R.h12 X.x10 0 (2 * D) 1 256 (by decide) (by omega))) (wp R X)

end group

def ggT : FVec Ideal S128x64 .f32 := k0_pay234 (gs R X r hr) (ld3 R.a4 R.h4 X.x2 r 2816 128 64 hr (by decide))
def vlT : FVec Ideal S128x64 .f32 := k0_pay241 (ld3 R.a8 R.h8 X.x6 r 1408 128 32 hr (by decide)) (we R X)
def mT : FVec Ideal S128x64 .f32 :=
  k0_pay240 (ggT R X r hr) (k0_pay235 (ld3 R.a6 R.h6 X.x4 r 1408 128 32 hr (by decide)) (we R X)) (k0_pay236 (k0_pay7 (ms R X r hr)))
    (k0_pay238 (k0_pay7 (ms R X r hr))) (k0_pay239 (k0_pay7 (ms R X r hr))) (ld2 R.a15 R.h15 X.x13 0 2816 45 64 (by decide) (by decide))
    (ld2 R.a15 R.h15 X.x13 64 2816 45 64 (by decide) (by decide)) (ld2 R.a15 R.h15 X.x13 128 2816 45 64 (by decide) (by decide))
def dwT : FVec Ideal S1x128x64 .f32 :=
  k0_pay244 (k0_pay1 (k0 R X) (k1 R X)) (k0_pay2 (k0 R X)) (ggT R X r hr) (mT R X r hr) (vlT R X r hr) (k0_pay242 (vr R X r hr))
    (ld3 R.a10 R.h10 X.x8 0 2816 1 64 (by decide) (by decide)) (ld3 R.a3 R.h3 X.x1 r 2816 128 64 hr (by decide))
def vcT : IVec S1x128x32 8 :=
  k0_pay246 (k0_pay245 (vrn R X r hr) (ggT R X r hr) (vlT R X r hr) (k0_pay242 (vr R X r hr)) (ld3 R.a10 R.h10 X.x8 0 2816 1 64 (by decide) (by decide))
    (ld3 R.a12 R.h12 X.x10 0 2816 1 64 (by decide) (by decide))) (Scalar.ofBits .f32 0x3F800000#32) (wpT R X)

/-! A tile's block maxima and scales. -/

/-- The new first moment in the group `g`. -/
def mG (g : Fin 11) : FVec Ideal S128x256 .f32 := mW R X r hr (128 * g.val) (by omega)

/-- One block's maxima, a row of 128: block `j` of a group. -/
def maxRow (j : ℕ) (M : FVec Ideal S128x256 .f32) : FVec Ideal S1x128 .f32 :=
  match j with
  | 0 => k0_pay23 M
  | 1 => k0_pay24 M
  | 2 => k0_pay26 M
  | _ => k0_pay27 M
def row (k : Fin 44) : FVec Ideal S1x128 .f32 := maxRow (k.val % 4) (mG R X r hr ⟨k.val / 4, by omega⟩)
/-- The tile's scales, transposed. -/
def scT : FVec Ideal S45x128 .f32 :=
  k0_pay248 (row R X r hr 0) (row R X r hr 1) (row R X r hr 2) (row R X r hr 3) (row R X r hr 4) (row R X r hr 5) (row R X r hr 6) (row R X r hr 7) (row R X r hr 8) (row R X r hr 9) (row R X r hr 10) (row R X r hr 11) (row R X r hr 12) (row R X r hr 13) (row R X r hr 14) (row R X r hr 15) (row R X r hr 16) (row R X r hr 17) (row R X r hr 18) (row R X r hr 19) (row R X r hr 20) (row R X r hr 21) (row R X r hr 22) (row R X r hr 23) (row R X r hr 24) (row R X r hr 25) (row R X r hr 26) (row R X r hr 27) (row R X r hr 28) (row R X r hr 29) (row R X r hr 30) (row R X r hr 31) (row R X r hr 32) (row R X r hr 33) (row R X r hr 34) (row R X r hr 35) (row R X r hr 36) (row R X r hr 37) (row R X r hr 38) (row R X r hr 39) (row R X r hr 40) (row R X r hr 41) (row R X r hr 42) (row R X r hr 43)
    (mT R X r hr)
def inv : FVec Ideal S128x45 .f32 :=
  k0_pay249 (row R X r hr 0) (row R X r hr 1) (row R X r hr 2) (row R X r hr 3) (row R X r hr 4) (row R X r hr 5) (row R X r hr 6) (row R X r hr 7) (row R X r hr 8) (row R X r hr 9) (row R X r hr 10) (row R X r hr 11) (row R X r hr 12) (row R X r hr 13) (row R X r hr 14) (row R X r hr 15) (row R X r hr 16) (row R X r hr 17) (row R X r hr 18) (row R X r hr 19) (row R X r hr 20) (row R X r hr 21) (row R X r hr 22) (row R X r hr 23) (row R X r hr 24) (row R X r hr 25) (row R X r hr 26) (row R X r hr 27) (row R X r hr 28) (row R X r hr 29) (row R X r hr 30) (row R X r hr 31) (row R X r hr 32) (row R X r hr 33) (row R X r hr 34) (row R X r hr 35) (row R X r hr 36) (row R X r hr 37) (row R X r hr 38) (row R X r hr 39) (row R X r hr 40) (row R X r hr 41) (row R X r hr 42) (row R X r hr 43)
    (mT R X r hr)
def msOut : FVec Ideal S1x128x45 .f32 :=
  k0_pay251 (k0_pay250 (row R X r hr 0) (row R X r hr 1) (row R X r hr 2) (row R X r hr 3) (row R X r hr 4) (row R X r hr 5) (row R X r hr 6) (row R X r hr 7) (row R X r hr 8) (row R X r hr 9) (row R X r hr 10) (row R X r hr 11) (row R X r hr 12) (row R X r hr 13) (row R X r hr 14) (row R X r hr 15) (row R X r hr 16) (row R X r hr 17) (row R X r hr 18) (row R X r hr 19) (row R X r hr 20) (row R X r hr 21) (row R X r hr 22) (row R X r hr 23) (row R X r hr 24) (row R X r hr 25) (row R X r hr 26) (row R X r hr 27) (row R X r hr 28) (row R X r hr 29) (row R X r hr 30) (row R X r hr 31) (row R X r hr 32) (row R X r hr 33) (row R X r hr 34) (row R X r hr 35) (row R X r hr 36) (row R X r hr 37) (row R X r hr 38) (row R X r hr 39) (row R X r hr 40) (row R X r hr 41) (row R X r hr 42) (row R X r hr 43)
    (mT R X r hr))

end defs

/-! The stores, the latest first. -/

def groups : List (Fin 11) := [10, 9, 8, 7, 6, 5, 4, 3, 2, 1, 0]

section stores
variable (R : Refs) (X : Ins) (r : ℕ) (hr : r + 128 ≤ 384)

abbrev Stores (S : Shape) (e : EltTy) := List (View.Piece (Elt Ideal) S e)

def tile14 (L : Stores S1x384x2880 .f32) : Stores S1x384x2880 .f32 :=
  ⟨Rect.unit (s := S1x384x2880) ![0, r, 2816] S1x128x64.size (inb3 hr (by decide)), dwT R X r hr⟩ ::
    (groups.map (fun g => ⟨Rect.unit (s := S1x384x2880) ![0, r, 2 * (128 * g.val)] S1x128x256.size (inb3 hr (by omega)),
      dwW R X r hr (128 * g.val) (by omega)⟩) ++ L)

def tile17 (L : Stores S1x384x1440 .i8) : Stores S1x384x1440 .i8 :=
  ⟨Rect.unit (s := S1x384x1440) ![0, r, 1408] S1x128x32.size (inb3 hr (by decide)), vcT R X r hr⟩ ::
    (groups.map (fun g => ⟨Rect.unit (s := S1x384x1440) ![0, r, 128 * g.val] S1x128x128.size (inb3 hr (by omega)),
      vcW R X r hr (128 * g.val) (by omega)⟩) ++ L)

/-- The scratch: the tile's new first moment. -/
def scr : Stores S128x2880 .f32 :=
  ⟨Rect.unit (s := S128x2880) ![0, 2816] S128x64.size (inb2 (by decide) (by decide)), k0_pay247 (mT R X r hr)⟩ ::
    groups.map (fun g => ⟨Rect.unit (s := S128x2880) ![0, 2 * (128 * g.val)] S128x256.size (inb2 (by decide) (by omega)),
      k0_pay21 (mG R X r hr g)⟩)

def scr0 : Stores S128x2880 .f32 := scr R X 0 (by decide) ++ []
def scr1 : Stores S128x2880 .f32 := scr R X 128 (by decide) ++ scr0 R X
def scr2 : Stores S128x2880 .f32 := scr R X 256 (by decide) ++ scr1 R X

/-- The first moment's codes in a group, the scratch read back after the stores `H`. -/
def mcW (H : Stores S128x2880 .f32) (D : ℕ) (hD : D + 128 ≤ 1440) : IVec S1x128x128 8 :=
  k0_pay253 (k0_pay252 (inv R X r hr) (R.a20.view.readCov H (Rect.unit (s := S128x2880) ![0, 2 * D] S128x256.size (inb2 (by decide) (by omega))).toLoadRect)
    (ld2 R.a15 R.h15 X.x13 0 (2 * D) 45 256 (by decide) (by omega)) (ld2 R.a15 R.h15 X.x13 64 (2 * D) 45 256 (by decide) (by omega))
    (ld2 R.a15 R.h15 X.x13 128 (2 * D) 45 256 (by decide) (by omega)) (wp R X))
def mcT (H : Stores S128x2880 .f32) : IVec S1x128x32 8 :=
  k0_pay294 (k0_pay293 (inv R X r hr) (R.a20.view.readCov H (Rect.unit (s := S128x2880) ![0, 2816] S128x64.size (inb2 (by decide) (by decide))).toLoadRect)
    (ld2 R.a15 R.h15 X.x13 0 2816 45 64 (by decide) (by decide)) (ld2 R.a15 R.h15 X.x13 64 2816 45 64 (by decide) (by decide))
    (ld2 R.a15 R.h15 X.x13 128 2816 45 64 (by decide) (by decide)) (wpT R X))

def tile15 (H : Stores S128x2880 .f32) (L : Stores S1x384x1440 .i8) : Stores S1x384x1440 .i8 :=
  ⟨Rect.unit (s := S1x384x1440) ![0, r, 1408] S1x128x32.size (inb3 hr (by decide)), mcT R X r hr H⟩ ::
    (groups.map (fun g => ⟨Rect.unit (s := S1x384x1440) ![0, r, 128 * g.val] S1x128x128.size (inb3 hr (by omega)),
      mcW R X r hr H (128 * g.val) (by omega)⟩) ++ L)

def tile16 (L : Stores S1x384x45 .f32) : Stores S1x384x45 .f32 :=
  ⟨Rect.unit (s := S1x384x45) ![0, r, 0] S1x128x45.size (inb3 hr (by decide)), msOut R X r hr⟩ :: L

variable (c : Dev nD) (i : grid0.Coords)

theorem run14 : (runOf c i R X).1 = tile14 R X 256 (by decide) (tile14 R X 128 (by decide) (tile14 R X 0 (by decide) [])) := by
  sl_kernel_rfl
theorem run17 : (runOf c i R X).2.2.2.1 = tile17 R X 256 (by decide) (tile17 R X 128 (by decide) (tile17 R X 0 (by decide) [])) := by
  sl_kernel_rfl
theorem run16 : (runOf c i R X).2.2.1 = tile16 R X 256 (by decide) (tile16 R X 128 (by decide) (tile16 R X 0 (by decide) [])) := by
  sl_kernel_rfl
theorem run15 : (runOf c i R X).2.1 = tile15 R X 256 (by decide) (scr2 R X) (tile15 R X 128 (by decide) (scr1 R X)
    (tile15 R X 0 (by decide) (scr0 R X) [])) := by
  sl_kernel_rfl

end stores

end Cert.Tile
end
-- ==== Proof.Block.lean ====
/- What the body leaves in its four output buffers, element by element, from what its input buffers hold. -/
module

public import proofs.«01_k».proof.Proof.Tile
public import proofs.«01_k».proof.Proof.Spec

@[expose] public section

set_option maxRecDepth 16384

noncomputable section

namespace Cert.Block

open Idealize.ShloMosaic Idealize.ShloMosaic.TcCoe Idealize.ShloMosaic.Tactic Idealize.SL.Sem
open Cert.KernelIdeal Cert.KernelIdeal.Gen Cert.Bytes Cert.Scalar Cert.Cells Cert.Spec Cert.Tile

/-! The block's functions: row `p`, column `q`. -/

section defs
variable (X : Ins) (p : Fin 384)

def GB (q : Fin 2880) : EReal := gK (X.x2 (ix3 0 p q)) (X.x3 (ix4 0 0 0 p))
def MB (q : Fin 2880) : EReal :=
  mK (mLev (nib (X.x4 (ix3 0 p ⟨q.val / 2, by omega⟩)) q.val)) (X.x5 (ix3 0 p ⟨q.val / 64, by omega⟩)) (GB X p q)
def VB (q : Fin 2880) : EReal :=
  vK (vLev (nib (X.x6 (ix3 0 p ⟨q.val / 2, by omega⟩)) q.val)) (X.x7 (ix4 0 0 0 p)) (X.x8 (ix3 0 0 q)) (GB X p q)
def DB (q : Fin 2880) : EReal := dwK (X.x0 (ix2 0 0)) (X.x0 (ix2 0 1)) (MB X p q) (VB X p q) (X.x1 (ix3 0 p q))
def YB (q : Fin 2880) : EReal := yK (VB X p q) (X.x9 (ix4 0 0 0 p)) (X.x10 (ix3 0 0 q))
def VCB (q : Fin 1440) : BitVec 8 :=
  packRef (BitVec.ofInt 8 (code 0 15 (YB X p ⟨2 * q.val, by omega⟩))) (BitVec.ofInt 8 (code 0 15 (YB X p ⟨2 * q.val + 1, by omega⟩)))
/-- A block's largest magnitude. -/
def AB (k : Fin 45) : EReal :=
  Finset.fold max (⊥ : EReal) (fun x : Fin 64 => FloatOps.absf (F := Ideal) (φ := .f32) (MB X p ⟨64 * k.val + x.val, by omega⟩)) Finset.univ
def SB (k : Fin 45) : EReal := scaleOf (AB X p k)
def ZB (q : Fin 2880) : EReal := MB X p q * Ideal.div 1 (SB X p ⟨q.val / 64, by omega⟩)
def MCB (q : Fin 1440) : BitVec 8 :=
  packRef (BitVec.ofInt 8 (code (-7) 7 (ZB X p ⟨2 * q.val, by omega⟩))) (BitVec.ofInt 8 (code (-7) 7 (ZB X p ⟨2 * q.val + 1, by omega⟩)))

end defs

/-- What the body needs of its input buffers: the three tables, and finite scales. -/
structure Good (X : Ins) : Prop where
  we : IsWe X.x11
  wp : IsWp X.x12
  ws : ∀ (k : Fin 45) (q : Fin 2880), X.x13 (ix2 ⟨k.val, by omega⟩ q) = if q.val / 64 = k.val then (1 : EReal) else 0
  ms : ∀ (p : Fin 384) (k : Fin 45), ∃ r : ℝ, X.x5 (ix3 0 p k) = r

theorem col_at (D : ℕ) (q : Fin 256) (x : Vec Ideal S1x1x2880 .f32) (a : Memref sig .tc .vmem S1x1x2880 .f32) (ha : a.IsWhole) (h1 : 0 + 1 ≤ 1) (h2 : 2 * D + 256 ≤ 2880) :
    ld3 a ha x 0 (2 * D) 1 256 h1 h2 (ix3 0 0 q) = x (ix3 0 0 ⟨2 * D + q.val, by omega⟩) := by
  rw [ld3_at]; rfl

theorem colT_at (q : Fin 64) (x : Vec Ideal S1x1x2880 .f32) (a : Memref sig .tc .vmem S1x1x2880 .f32) (ha : a.IsWhole) (h1 : 0 + 1 ≤ 1) (h2 : 2816 + 64 ≤ 2880) :
    ld3 a ha x 0 2816 1 64 h1 h2 (ix3 0 0 q) = x (ix3 0 0 ⟨2816 + q.val, by omega⟩) := by
  rw [ld3_at]; rfl

section tile
variable (R : Refs) (X : Ins) (hX : Good X) (r : ℕ) (hr : r + 128 ≤ 384)

theorem k0_at : k0 R X = X.x0 (ix2 0 0) := by
  unfold k0; rw [eq_ix2 (Shape.Idx.first _)]; exact ld2_at R.a2 R.h2 X.x0 0 0 1 1 (by decide) (by decide) 0 0
theorem k1_at : k1 R X = X.x0 (ix2 0 1) := by
  unfold k1; rw [eq_ix2 (Shape.Idx.first _)]; exact ld2_at R.a2 R.h2 X.x0 0 1 1 1 (by decide) (by decide) 0 0

include hX in
theorem we_is : IsWe (we R X) := fun k c => by
  unfold we; rw [ld2_at]; refine Eq.trans ?_ (hX.we k c); congr 2 <;> exact Fin.ext (Nat.zero_add _)
include hX in
theorem wp_is : IsWp (Tile.wp R X) := fun k c => by
  unfold Tile.wp; rw [ld2_at]; refine Eq.trans ?_ (hX.wp k c); congr 2 <;> exact Fin.ext (Nat.zero_add _)
include hX in
theorem wpT_is : IsWp (wpT R X) := fun k c => by
  unfold wpT; rw [ld2_at]; refine Eq.trans (hX.wp ⟨0 + k.val, by omega⟩ ⟨0 + c.val, by omega⟩) ?_
  simp only [Nat.zero_add]
include hX in
theorem ws_is (C n : ℕ) (h1 : 0 + 45 ≤ 192) (h2 : C + n ≤ 2880) : IsWs C (ld2 R.a15 R.h15 X.x13 0 C 45 n h1 h2) := fun k q => by
  rw [ld2_at]; refine Eq.trans ?_ (hX.ws k ⟨C + q.val, by omega⟩)
  congr 2; exact Fin.ext (Nat.zero_add _)
include hX in
theorem ms_is (p : Fin 128) (k : Fin 45) : ∃ s : ℝ, ld3 R.a7 R.h7 X.x5 r 0 128 45 hr (by decide) (ix3 0 p k) = s := by
  rw [ld3_at]; exact hX.ms _ _

section group
variable (D : ℕ) (hD : D + 128 ≤ 1440) (p : Fin 128)

theorem ggW_at (q : Fin 256) : ggW R X r hr D hD (ix2 p q) = GB X ⟨r + p.val, by omega⟩ ⟨2 * D + q.val, by omega⟩ := by
  unfold ggW gs; rw [gg_at, ld3_at, ld4_at]; rfl

include hX in
theorem vlW_at (q : Fin 256) : vlW R X r hr D hD (ix2 p q)
    = vLev (nib (X.x6 (ix3 0 ⟨r + p.val, by omega⟩ ⟨(2 * D + q.val) / 2, by omega⟩)) (2 * D + q.val)) := by
  unfold vlW
  rw [vlev_at _ (we_is R X hX), ld3_at]
  have e : (⟨D + q.val / 2, by omega⟩ : Fin 1440) = ⟨(2 * D + q.val) / 2, by omega⟩ := Fin.ext (by dsimp only; omega)
  have o : nib (X.x6 (ix3 0 ⟨r + p.val, by omega⟩ ⟨(2 * D + q.val) / 2, by omega⟩)) q.val
      = nib (X.x6 (ix3 0 ⟨r + p.val, by omega⟩ ⟨(2 * D + q.val) / 2, by omega⟩)) (2 * D + q.val) := by
    unfold nib; rw [show (2 * D + q.val) % 2 = q.val % 2 by omega]
  rw [← o, ← e]

include hX in
theorem mW_at (q : Fin 256) : mW R X r hr D hD (ix2 p q) = MB X ⟨r + p.val, by omega⟩ ⟨2 * D + q.val, by omega⟩ := by
  unfold mW ms
  rw [m_at p (2 * D) (by omega) _ (ms_is R X hX r hr p) _ _ _ (ws_is R X hX (2 * D) 256 (by decide) (by omega)),
    mlev_at _ (we_is R X hX), ggW_at R X r hr D hD, ld3_at, ld3_at]
  have e : (⟨D + q.val / 2, by omega⟩ : Fin 1440) = ⟨(2 * D + q.val) / 2, by omega⟩ := Fin.ext (by dsimp only; omega)
  have o : nib (X.x4 (ix3 0 ⟨r + p.val, by omega⟩ ⟨(2 * D + q.val) / 2, by omega⟩)) q.val
      = nib (X.x4 (ix3 0 ⟨r + p.val, by omega⟩ ⟨(2 * D + q.val) / 2, by omega⟩)) (2 * D + q.val) := by
    unfold nib; rw [show (2 * D + q.val) % 2 = q.val % 2 by omega]
  unfold MB
  simp only [Nat.zero_add]
  rw [← o, ← e]

include hX in
theorem dwW_at (q : Fin 256) : dwW R X r hr D hD (ix3 0 p q) = DB X ⟨r + p.val, by omega⟩ ⟨2 * D + q.val, by omega⟩ := by
  unfold dwW vr
  rw [dw_at, mW_at R X hX r hr D hD, vlW_at R X hX r hr D hD, ggW_at R X r hr D hD, ld3_at (ha := R.h3), ld4_at, col_at, k0_at, k1_at]
  rfl

include hX in
theorem vcW_at (q : Fin 128) : vcW R X r hr D hD (ix3 0 p q) = VCB X ⟨r + p.val, by omega⟩ ⟨D + q.val, by omega⟩ := by
  unfold vcW vr vrn
  rw [vc_at p _ _ (wp_is R X hX), y_at, y_at, vlW_at R X hX r hr D hD, vlW_at R X hX r hr D hD, ggW_at R X r hr D hD, ggW_at R X r hr D hD, ld4_at, ld4_at, col_at, col_at, col_at, col_at]
  have e0 : (⟨2 * D + 2 * q.val, by omega⟩ : Fin 2880) = ⟨2 * (D + q.val), by omega⟩ := Fin.ext (by dsimp only; omega)
  have e1 : (⟨2 * D + (2 * q.val + 1), by omega⟩ : Fin 2880) = ⟨2 * (D + q.val) + 1, by omega⟩ :=
    Fin.ext (by dsimp only; omega)
  unfold VCB
  rw [← e0, ← e1]
  rfl

end group

section last
variable (p : Fin 128)

theorem ggT_at' (q : Fin 64) : ggT R X r hr (ix2 p q) = GB X ⟨r + p.val, by omega⟩ ⟨2816 + q.val, by omega⟩ := by
  unfold ggT gs; rw [Cells.ggT_at, ld3_at, ld4_at]; rfl

include hX in
theorem vlT_at' (q : Fin 64) : vlT R X r hr (ix2 p q)
    = vLev (nib (X.x6 (ix3 0 ⟨r + p.val, by omega⟩ ⟨(2816 + q.val) / 2, by omega⟩)) (2816 + q.val)) := by
  unfold vlT
  rw [vlevT_at _ (we_is R X hX), ld3_at]
  have e : (⟨1408 + q.val / 2, by omega⟩ : Fin 1440) = ⟨(2816 + q.val) / 2, by omega⟩ := Fin.ext (by dsimp only; omega)
  have o : nib (X.x6 (ix3 0 ⟨r + p.val, by omega⟩ ⟨(2816 + q.val) / 2, by omega⟩)) q.val
      = nib (X.x6 (ix3 0 ⟨r + p.val, by omega⟩ ⟨(2816 + q.val) / 2, by omega⟩)) (2816 + q.val) := by
    unfold nib; rw [show (2816 + q.val) % 2 = q.val % 2 by omega]
  rw [← o, ← e]

include hX in
theorem mT_at' (q : Fin 64) : mT R X r hr (ix2 p q) = MB X ⟨r + p.val, by omega⟩ ⟨2816 + q.val, by omega⟩ := by
  unfold mT ms
  rw [Cells.mT_at p _ (ms_is R X hX r hr p) _ _ _ (ws_is R X hX 2816 64 (by decide) (by decide)),
    mlevT_at _ (we_is R X hX), ggT_at' R X r hr, ld3_at, ld3_at]
  have e : (⟨1408 + q.val / 2, by omega⟩ : Fin 1440) = ⟨(2816 + q.val) / 2, by omega⟩ := Fin.ext (by dsimp only; omega)
  have o : nib (X.x4 (ix3 0 ⟨r + p.val, by omega⟩ ⟨(2816 + q.val) / 2, by omega⟩)) q.val
      = nib (X.x4 (ix3 0 ⟨r + p.val, by omega⟩ ⟨(2816 + q.val) / 2, by omega⟩)) (2816 + q.val) := by
    unfold nib; rw [show (2816 + q.val) % 2 = q.val % 2 by omega]
  unfold MB
  simp only [Nat.zero_add]
  rw [← o, ← e]

include hX in
theorem dwT_at' (q : Fin 64) : dwT R X r hr (ix3 0 p q) = DB X ⟨r + p.val, by omega⟩ ⟨2816 + q.val, by omega⟩ := by
  unfold dwT vr
  rw [Cells.dwT_at, mT_at' R X hX r hr, vlT_at' R X hX r hr, ggT_at' R X r hr, ld3_at (ha := R.h3), ld4_at, colT_at, k0_at, k1_at]
  rfl

include hX in
theorem vcT_at' (q : Fin 32) : vcT R X r hr (ix3 0 p q) = VCB X ⟨r + p.val, by omega⟩ ⟨1408 + q.val, by omega⟩ := by
  unfold vcT vr vrn
  rw [Cells.vcT_at p _ _ _ _ _ _ _ (wpT_is R X hX) q (fun l => YB X ⟨r + p.val, by omega⟩ ⟨2816 + l.val, by omega⟩) (fun l => by
    rw [vlT_at' R X hX r hr, ggT_at' R X r hr, ld4_at, ld4_at, colT_at, colT_at]; rfl)]
  have e0 : (⟨2816 + 2 * q.val, by omega⟩ : Fin 2880) = ⟨2 * (1408 + q.val), by omega⟩ := Fin.ext (by dsimp only; omega)
  have e1 : (⟨2816 + (2 * q.val + 1), by omega⟩ : Fin 2880) = ⟨2 * (1408 + q.val) + 1, by omega⟩ :=
    Fin.ext (by dsimp only; omega)
  unfold VCB
  rw [← e0, ← e1]

end last

/-! The two outputs no scratch is read for. -/

def D14 : S1x384x2880.Idx → EReal := fun y => DB X (y 1) (y 2)
def V17 : S1x384x1440.Idx → BitVec 8 := fun y => VCB X (y 1) (y 2)

end tile

/-- Stores whose payloads agree with one function of the buffer's index. -/
def Agree {S : Shape} {e : EltTy} (G : S.Idx → Elt Ideal e) (L : Stores S e) : Prop :=
  ∀ p ∈ L, ∀ x : p.1.shape.Idx, p.2 x = G (p.1.emb x)

theorem agree_nil {S : Shape} {e : EltTy} (G : S.Idx → Elt Ideal e) : Agree G [] := fun _ h => absurd h List.not_mem_nil

theorem agree_cons {S : Shape} {e : EltTy} {G : S.Idx → Elt Ideal e} {L : Stores S e} {p : View.Piece (Elt Ideal) S e}
    (h : ∀ x : p.1.shape.Idx, p.2 x = G (p.1.emb x)) (hL : Agree G L) : Agree G (p :: L) :=
  fun q hq => by
    rcases List.mem_cons.mp hq with rfl | hq
    · exact h
    · exact hL q hq

theorem agree_map {S : Shape} {e : EltTy} {G : S.Idx → Elt Ideal e} {L : Stores S e} (f : Fin 11 → View.Piece (Elt Ideal) S e)
    (h : ∀ g, ∀ x : (f g).1.shape.Idx, (f g).2 x = G ((f g).1.emb x)) (hL : Agree G L) : Agree G (groups.map f ++ L) :=
  fun q hq => by
    rcases List.mem_append.mp hq with hq | hq
    · obtain ⟨g, _, rfl⟩ := List.mem_map.mp hq
      exact h g
    · exact hL q hq

section agree
variable (R : Refs) (X : Ins) (hX : Good X) (r : ℕ) (hr : r + 128 ≤ 384)

theorem unit3 {M N m n r C : ℕ} (h : ∀ a, (![0, r, C] : Fin 3 → ℕ) a + (![1, m, n] : Fin 3 → ℕ) a ≤ (![1, M, N] : Fin 3 → ℕ) a)
    (x : (⟨3, ![1, m, n]⟩ : Shape).Idx) :
    (∀ h', ((Rect.unit (s := ⟨3, ![1, M, N]⟩) ![0, r, C] ![1, m, n] h).emb x 1 : Fin M) = ⟨r + (x 1).val, h'⟩)
      ∧ (∀ h', ((Rect.unit (s := ⟨3, ![1, M, N]⟩) ![0, r, C] ![1, m, n] h).emb x 2 : Fin N) = ⟨C + (x 2).val, h'⟩) :=
  ⟨fun _ => Fin.ext (by show r + 1 * (x 1).val = _; rw [one_mul]), fun _ => Fin.ext (by show C + 1 * (x 2).val = _; rw [one_mul])⟩

include hX in
theorem agree14 {L : Stores S1x384x2880 .f32} (hL : Agree (D14 X) L) : Agree (D14 X) (tile14 R X r hr L) := by
  refine agree_cons (fun x => ?_) (agree_map _ (fun g x => ?_) hL)
  · have e := unit3 (M := 384) (N := 2880) (inb3 (r := r) (C := 2816) (m := 128) (n := 64) hr (by decide)) x
    obtain ⟨a, p, q, rfl⟩ : ∃ (a : Fin 1) (p : Fin 128) (q : Fin 64), x = ix3 a p q := ⟨x 0, x 1, x 2, eq_ix3 x⟩
    obtain rfl : a = 0 := Subsingleton.elim _ _
    refine (dwT_at' R X hX r hr p q).trans ?_
    exact (congrArg₂ (DB X) (e.1 _) (e.2 _)).symm
  · have e := unit3 (M := 384) (N := 2880) (inb3 (r := r) (C := 2 * (128 * g.val)) (m := 128) (n := 256) hr (by omega)) x
    obtain ⟨a, p, q, rfl⟩ : ∃ (a : Fin 1) (p : Fin 128) (q : Fin 256), x = ix3 a p q := ⟨x 0, x 1, x 2, eq_ix3 x⟩
    obtain rfl : a = 0 := Subsingleton.elim _ _
    refine (dwW_at R X hX r hr (128 * g.val) (by omega) p q).trans ?_
    exact (congrArg₂ (DB X) (e.1 _) (e.2 _)).symm

include hX in
theorem agree17 {L : Stores S1x384x1440 .i8} (hL : Agree (V17 X) L) : Agree (V17 X) (tile17 R X r hr L) := by
  refine agree_cons (fun x => ?_) (agree_map _ (fun g x => ?_) hL)
  · have e := unit3 (M := 384) (N := 1440) (inb3 (r := r) (C := 1408) (m := 128) (n := 32) hr (by decide)) x
    obtain ⟨a, p, q, rfl⟩ : ∃ (a : Fin 1) (p : Fin 128) (q : Fin 32), x = ix3 a p q := ⟨x 0, x 1, x 2, eq_ix3 x⟩
    obtain rfl : a = 0 := Subsingleton.elim _ _
    refine (vcT_at' R X hX r hr p q).trans ?_
    exact (congrArg₂ (VCB X) (e.1 _) (e.2 _)).symm
  · have e := unit3 (M := 384) (N := 1440) (inb3 (r := r) (C := 128 * g.val) (m := 128) (n := 128) hr (by omega)) x
    obtain ⟨a, p, q, rfl⟩ : ∃ (a : Fin 1) (p : Fin 128) (q : Fin 128), x = ix3 a p q := ⟨x 0, x 1, x 2, eq_ix3 x⟩
    obtain rfl : a = 0 := Subsingleton.elim _ _
    refine (vcW_at R X hX r hr (128 * g.val) (by omega) p q).trans ?_
    exact (congrArg₂ (VCB X) (e.1 _) (e.2 _)).symm

end agree

end Cert.Block
end
-- ==== Proof.Scale.lean ====
/- The blocks' largest magnitudes, the scales they give, and the first moment's codes: the body reads the first moment
   back from a scratch buffer once it has a whole row's scales. -/
module

public import proofs.«01_k».proof.Proof.Block
public import Idealize.ShloMosaic.Lib.Pipeline.CanonAppend

@[expose] public section

set_option maxRecDepth 16384

noncomputable section

namespace Cert.Block

open Idealize.ShloMosaic Idealize.ShloMosaic.TcCoe Idealize.ShloMosaic.Tactic Idealize.SL.Sem
open Cert.KernelIdeal Cert.KernelIdeal.Gen Cert.Bytes Cert.Scalar Cert.Cells Cert.Spec Cert.Tile

/-- The largest magnitude of 64 columns from column `C`. -/
def top64 {n : ℕ} (M : FVec Ideal ⟨2, ![128, n]⟩ .f32) (p : Fin 128) (C : ℕ) (h : C + 64 ≤ n) : EReal :=
  Finset.fold max (⊥ : EReal) (fun x : Fin 64 => FloatOps.absf (F := Ideal) (φ := .f32) (M (ix2 p ⟨C + x.val, by omega⟩))) Finset.univ

section rows
variable (M : FVec Ideal S128x256 .f32) (p : Fin 128)

theorem row0 : k0_pay23 M (ix2 0 p) = top64 M p 0 (by decide) := by
  pointwise [k0_pay23, k0_pay22]
  simp only [b_ninf, top64, Nat.zero_add]
theorem row1 : k0_pay24 M (ix2 0 p) = top64 M p 64 (by decide) := by
  pointwise [k0_pay24, k0_pay22]
  simp only [b_ninf, top64]
theorem row2 : k0_pay26 M (ix2 0 p) = top64 M p 128 (by decide) := by
  pointwise [k0_pay26, k0_pay25]
  simp only [b_ninf, top64]
theorem row3 : k0_pay27 M (ix2 0 p) = top64 M p 192 (by decide) := by
  pointwise [k0_pay27, k0_pay25]
  simp only [b_ninf, top64, ← Nat.add_assoc, Nat.reduceAdd]

end rows

theorem b_seven : Ideal.ofBits .f32 1088421888#32 = ((7 : ℝ) : EReal) := by
  simp [Ideal.ofBits, Ideal.ieee]; rw [← EReal.coe_mul]; norm_num

/-- The last block's maxima. -/
def lastRow (M : FVec Ideal S128x64 .f32) : FVec Ideal S1x128 .f32 :=
  shapeCast S1x128 (multiReduction .maximumf [0] S128 (transpose S64x128 [1, 0] (absf M) transposes_S128x64_p1_0_S64x128)
    0xFF800000#32 reduces_S64x128_S128 (.inl rfl) rfl) shapeCasts_S128_S1x128

theorem lastRow_at (M : FVec Ideal S128x64 .f32) (p : Fin 128) : lastRow M (ix2 0 p) = top64 M p 0 (by decide) := by
  pointwise [lastRow]
  simp only [b_ninf, top64, Nat.zero_add]

theorem maxRow_at (j : ℕ) (hj : j < 4) (M : FVec Ideal S128x256 .f32) (p : Fin 128) :
    maxRow j M (ix2 0 p) = top64 M p (64 * j) (by omega) := by
  match j, hj with
  | 0, _ => exact row0 M p
  | 1, _ => exact row1 M p
  | 2, _ => exact row2 M p
  | 3, _ => exact row3 M p

theorem div_scale (a : EReal) : ∃ s : ℝ, Ideal.div 1 (scaleOf a) = s := by
  have h0 : scaleOf a ≠ 0 := by
    unfold scaleOf
    split
    · exact one_ne_zero
    · rename_i h
      induction a with
      | bot => rw [Ideal.div, if_neg (by norm_num), ← EReal.coe_inv, EReal.bot_mul_coe_of_pos (by norm_num)]; exact EReal.bot_ne_zero
      | top => rw [Ideal.div, if_neg (by norm_num), ← EReal.coe_inv, EReal.top_mul_coe_of_pos (by norm_num)]; exact EReal.top_ne_zero
      | coe x =>
        rw [Ideal.div_coe (by norm_num : (7:ℝ) ≠ 0)]
        intro h'
        apply h
        have : x * (1 / 7) = 0 := by exact_mod_cast h'
        have : x = 0 := by linarith
        rw [this]; rfl
  rw [Ideal.div, if_neg h0, one_mul]
  generalize scaleOf a = y at *
  induction y with
  | bot => exact ⟨0, by simp⟩
  | top => exact ⟨0, by simp⟩
  | coe x => exact ⟨x⁻¹, (EReal.coe_inv x).symm⟩

section tile
variable (R : Refs) (X : Ins) (hX : Good X) (r : ℕ) (hr : r + 128 ≤ 384)

/-- The tile's 45 rows of maxima. -/
def catRows (k : Fin 45) : FVec Ideal S1x128 .f32 := if h : k.val < 44 then row R X r hr ⟨k.val, h⟩ else lastRow (mT R X r hr)

include hX in
theorem catRows_at (k : Fin 45) (p : Fin 128) : catRows R X r hr k (ix2 0 p) = AB X ⟨r + p.val, by omega⟩ k := by
  unfold catRows AB
  split
  · rename_i h
    unfold row
    have e (C : ℕ) (hC : C + 64 ≤ 256) (hk : C = 64 * (k.val % 4)) : top64 (mG R X r hr ⟨k.val / 4, by omega⟩) p C hC = AB X ⟨r + p.val, by omega⟩ k := by
      unfold top64 AB mG
      refine congrArg (fun f => Finset.fold max (⊥ : EReal) f Finset.univ) (funext fun x => congrArg _ ?_)
      rw [mW_at R X hX r hr (128 * (k.val / 4)) (by omega)]
      congr 1
      exact Fin.ext (by dsimp only; omega)
    exact (maxRow_at _ (Nat.mod_lt _ (by decide)) _ p).trans (e _ _ rfl)
  · rename_i h
    rw [lastRow_at]
    unfold top64
    refine congrArg (fun f => Finset.fold max (⊥ : EReal) f Finset.univ) (funext fun x => congrArg _ ?_)
    rw [mT_at' R X hX r hr]
    congr 1
    exact Fin.ext (by dsimp only; omega)

theorem cat45 : Shape.Concatenates ((List.ofFn fun k : Fin 45 =>
    (⟨S1x128, catRows R X r hr k⟩ : (s : Shape) × (s.Idx → EReal))).map (·.1)) S45x128 0 := by
  rw [List.map_ofFn]; exact (by decide : Shape.Concatenates (List.ofFn fun _ : Fin 45 => S1x128) S45x128 0)

def cat : FVec Ideal S45x128 .f32 :=
  concatenate S45x128 0 (List.ofFn fun k : Fin 45 => (⟨S1x128, catRows R X r hr k⟩ : (s : Shape) × (s.Idx → EReal))) (cat45 R X r hr)

theorem scT_eq : scT R X r hr = select (cmpf .oeq (cat R X r hr) (broadcast S45x128 (Scalar.ofBits .f32 0x00000000#32)))
    (broadcast S45x128 (Scalar.ofBits .f32 0x3F800000#32)) (divf (cat R X r hr) (broadcast S45x128 (Scalar.ofBits .f32 0x40E00000#32))) := by
  sl_kernel_rfl

include hX in
theorem cat_at (k : Fin 45) (p : Fin 128) : cat R X r hr (ix2 k p) = AB X ⟨r + p.val, by omega⟩ k := by
  unfold cat
  rw [concatenate_ofFn_unit_apply (0 : Fin S45x128.rank) (fun k => catRows R X r hr k) _ rfl rfl (ix2 k p) k rfl (ix2 0 p)
    (fun b hb => by fin_cases b; · exact absurd rfl hb
                    · rfl)]
  exact catRows_at R X hX r hr k p

include hX in
theorem scT_at (k : Fin 45) (p : Fin 128) : scT R X r hr (ix2 k p) = SB X ⟨r + p.val, by omega⟩ k := by
  rw [scT_eq]
  pointwise []
  rw [cat_at R X hX r hr, b_seven]
  rfl

include hX in
theorem inv_at (p : Fin 128) (k : Fin 45) : Tile.inv R X r hr (ix2 p k) = Ideal.div 1 (SB X ⟨r + p.val, by omega⟩ k) := by
  refine Eq.trans ?_ (congrArg (Ideal.div 1) (scT_at R X hX r hr k p))
  unfold Tile.inv scT
  pointwise [k0_pay249]
  rw [c_cap, min_top_right]

include hX in
theorem msOut_at (p : Fin 128) (k : Fin 45) : msOut R X r hr (ix3 0 p k) = SB X ⟨r + p.val, by omega⟩ k := by
  refine Eq.trans ?_ (scT_at R X hX r hr k p)
  unfold msOut scT
  pointwise [k0_pay251, k0_pay250]

/-! The scratch. -/

def M20 : S128x2880.Idx → EReal := fun y => MB X ⟨r + (y 0).val, by have : (y 0).val < 128 := (y 0).isLt; omega⟩ (y 1)

theorem unit2 {M N m n C : ℕ} (h : ∀ a, (![0, C] : Fin 2 → ℕ) a + (![m, n] : Fin 2 → ℕ) a ≤ (![M, N] : Fin 2 → ℕ) a)
    (x : (⟨2, ![m, n]⟩ : Shape).Idx) :
    ((Rect.unit (s := ⟨2, ![M, N]⟩) ![0, C] ![m, n] h).emb x 0).val = (x 0).val
      ∧ ((Rect.unit (s := ⟨2, ![M, N]⟩) ![0, C] ![m, n] h).emb x 1).val = C + (x 1).val :=
  ⟨by show 0 + 1 * (x 0).val = _; omega, by show C + 1 * (x 1).val = _; omega⟩

include hX in
theorem agree_scr : Agree (M20 X r hr) (scr R X r hr) := by
  unfold scr
  rw [← List.append_nil (List.map _ groups)]
  refine agree_cons (fun x => ?_) (agree_map _ (fun g x => ?_) (agree_nil _))
  · have e := unit2 (M := 128) (N := 2880) (inb2 (r := 0) (C := 2816) (m := 128) (n := 64) (by decide) (by decide)) x
    obtain ⟨p, q, rfl⟩ : ∃ (p : Fin 128) (q : Fin 64), x = ix2 p q := ⟨x 0, x 1, eq_ix2 x⟩
    refine Eq.trans ?_ ((mT_at' R X hX r hr p q).trans (congrArg₂ (MB X) (Fin.ext (congrArg (r + ·) e.1.symm)) (Fin.ext e.2.symm)))
    show k0_pay247 (mT R X r hr) (ix2 p q) = _
    pointwise [k0_pay247]
  · have e := unit2 (M := 128) (N := 2880) (inb2 (r := 0) (C := 2 * (128 * g.val)) (m := 128) (n := 256) (by decide) (by omega)) x
    obtain ⟨p, q, rfl⟩ : ∃ (p : Fin 128) (q : Fin 256), x = ix2 p q := ⟨x 0, x 1, eq_ix2 x⟩
    refine Eq.trans ?_ ((mW_at R X hX r hr (128 * g.val) (by omega) p q).trans
      (congrArg₂ (MB X) (Fin.ext (congrArg (r + ·) e.1.symm)) (Fin.ext e.2.symm)))
    show k0_pay21 (mG R X r hr g) (ix2 p q) = _
    pointwise [k0_pay21]
    rfl

theorem cover_scr (y : S128x2880.Idx) : ∃ pc ∈ scr R X r hr, y ∈ pc.1.set :=
  View.cover_of_tiledBy (scr R X r hr) ![128, 64] (by sl_kernel_rfl) y

include hX in
theorem read_scr (H : Stores S128x2880 .f32) (C n : ℕ) (h : ∀ a, (![0, C] : Fin 2 → ℕ) a + (![128, n] : Fin 2 → ℕ) a ≤ (![128, 2880] : Fin 2 → ℕ) a)
    (p : Fin 128) (q : Fin n) (hq : C + q.val < 2880) :
    R.a20.view.readCov (scr R X r hr ++ H) (Rect.unit (s := S128x2880) ![0, C] ![128, n] h).toLoadRect (ix2 p q)
      = MB X ⟨r + p.val, by omega⟩ ⟨C + q.val, hq⟩ := by
  have e := unit2 (M := 128) (N := 2880) h (ix2 p q)
  rw [View.readCov_eq_canon _ _ _ (fun j => by
    obtain ⟨pc, h1, h2⟩ := cover_scr R X r hr ((Rect.unit (s := S128x2880) ![0, C] ![128, n] h).toLoadRect.idx j)
    exact ⟨pc, List.mem_append_left _ h1, h2⟩)]
  refine (View.canon_append_of_pieces (Val := Elt Ideal) (S := S128x2880) (e := .f32) (M20 X r hr) H (scr R X r hr) (agree_scr R X hX r hr) _ (cover_scr R X r hr _)).trans ?_
  exact congrArg₂ (MB X) (Fin.ext (congrArg (r + ·) e.1)) (Fin.ext e.2)

include hX in
theorem mcW_at (H : Stores S128x2880 .f32) (D : ℕ) (hD : D + 128 ≤ 1440) (p q : Fin 128) :
    mcW R X r hr (scr R X r hr ++ H) D hD (ix3 0 p q) = MCB X ⟨r + p.val, by omega⟩ ⟨D + q.val, by omega⟩ := by
  unfold mcW
  rw [mc_at p (2 * D) (by omega) _ (fun k => by rw [inv_at R X hX r hr]; exact div_scale _) _ _ _ _
    (ws_is R X hX (2 * D) 256 (by decide) (by omega)) _ (wp_is R X hX) q
    (fun l => ZB X ⟨r + p.val, by omega⟩ ⟨2 * D + l.val, by omega⟩)
    (fun l => by rw [read_scr R X hX r hr H (2 * D) 256 _ p l (by omega), inv_at R X hX r hr]; rfl)]
  have e0 : (⟨2 * D + 2 * q.val, by omega⟩ : Fin 2880) = ⟨2 * (D + q.val), by omega⟩ := Fin.ext (by dsimp only; omega)
  have e1 : (⟨2 * D + (2 * q.val + 1), by omega⟩ : Fin 2880) = ⟨2 * (D + q.val) + 1, by omega⟩ := Fin.ext (by dsimp only; omega)
  unfold MCB
  rw [← e0, ← e1]

include hX in
theorem mcT_at' (H : Stores S128x2880 .f32) (p : Fin 128) (q : Fin 32) :
    mcT R X r hr (scr R X r hr ++ H) (ix3 0 p q) = MCB X ⟨r + p.val, by omega⟩ ⟨1408 + q.val, by omega⟩ := by
  unfold mcT
  rw [Cells.mcT_at p _ (fun k => by rw [inv_at R X hX r hr]; exact div_scale _) _ _ _ _
    (ws_is R X hX 2816 64 (by decide) (by decide)) _ (wpT_is R X hX) q
    (fun l => ZB X ⟨r + p.val, by omega⟩ ⟨2816 + l.val, by omega⟩)
    (fun l => by rw [read_scr R X hX r hr H 2816 64 _ p l (by omega), inv_at R X hX r hr]; rfl)]
  have e0 : (⟨2816 + 2 * q.val, by omega⟩ : Fin 2880) = ⟨2 * (1408 + q.val), by omega⟩ := Fin.ext (by dsimp only; omega)
  have e1 : (⟨2816 + (2 * q.val + 1), by omega⟩ : Fin 2880) = ⟨2 * (1408 + q.val) + 1, by omega⟩ := Fin.ext (by dsimp only; omega)
  unfold MCB
  rw [← e0, ← e1]

def M15 : S1x384x1440.Idx → BitVec 8 := fun y => MCB X (y 1) (y 2)
def S16 : S1x384x45.Idx → EReal := fun y => SB X (y 1) (y 2)

include hX in
theorem agree15 {H : Stores S128x2880 .f32} {L : Stores S1x384x1440 .i8} (hL : Agree (M15 X) L) :
    Agree (M15 X) (tile15 R X r hr (scr R X r hr ++ H) L) := by
  refine agree_cons (fun x => ?_) (agree_map _ (fun g x => ?_) hL)
  · have e := unit3 (M := 384) (N := 1440) (inb3 (r := r) (C := 1408) (m := 128) (n := 32) hr (by decide)) x
    obtain ⟨a, p, q, rfl⟩ : ∃ (a : Fin 1) (p : Fin 128) (q : Fin 32), x = ix3 a p q := ⟨x 0, x 1, x 2, eq_ix3 x⟩
    obtain rfl : a = 0 := Subsingleton.elim _ _
    refine (mcT_at' R X hX r hr H p q).trans ?_
    exact (congrArg₂ (MCB X) (e.1 _) (e.2 _)).symm
  · have e := unit3 (M := 384) (N := 1440) (inb3 (r := r) (C := 128 * g.val) (m := 128) (n := 128) hr (by omega)) x
    obtain ⟨a, p, q, rfl⟩ : ∃ (a : Fin 1) (p : Fin 128) (q : Fin 128), x = ix3 a p q := ⟨x 0, x 1, x 2, eq_ix3 x⟩
    obtain rfl : a = 0 := Subsingleton.elim _ _
    refine (mcW_at R X hX r hr H (128 * g.val) (by omega) p q).trans ?_
    exact (congrArg₂ (MCB X) (e.1 _) (e.2 _)).symm

include hX in
theorem agree16 {L : Stores S1x384x45 .f32} (hL : Agree (S16 X) L) : Agree (S16 X) (tile16 R X r hr L) := by
  refine agree_cons (fun x => ?_) hL
  have e := unit3 (M := 384) (N := 45) (inb3 (r := r) (C := 0) (m := 128) (n := 45) hr (by decide)) x
  obtain ⟨a, p, q, rfl⟩ : ∃ (a : Fin 1) (p : Fin 128) (q : Fin 45), x = ix3 a p q := ⟨x 0, x 1, x 2, eq_ix3 x⟩
  obtain rfl : a = 0 := Subsingleton.elim _ _
  refine (msOut_at R X hX r hr p q).trans ?_
  exact (congrArg₂ (SB X) (e.1 _) ((e.2 (by show 0 + q.val < 45; omega)).trans (Fin.ext (Nat.zero_add _)))).symm

end tile

/-! What the body leaves in its outputs. -/

section outs
variable (c : Dev nD) (i : grid0.Coords) (R : Refs) (X : Ins) (hX : Good X)

include hX in
theorem all14 : Agree (D14 X) (runOf c i R X).1 := by
  rw [run14]; exact agree14 R X hX _ _ (agree14 R X hX _ _ (agree14 R X hX _ _ (agree_nil _)))
include hX in
theorem all15 : Agree (M15 X) (runOf c i R X).2.1 := by
  rw [run15]; exact agree15 R X hX _ _ (agree15 R X hX _ _ (agree15 R X hX _ _ (agree_nil _)))
include hX in
theorem all16 : Agree (S16 X) (runOf c i R X).2.2.1 := by
  rw [run16]; exact agree16 R X hX _ _ (agree16 R X hX _ _ (agree16 R X hX _ _ (agree_nil _)))
include hX in
theorem all17 : Agree (V17 X) (runOf c i R X).2.2.2.1 := by
  rw [run17]; exact agree17 R X hX _ _ (agree17 R X hX _ _ (agree17 R X hX _ _ (agree_nil _)))

end outs

end Cert.Block
end
-- ==== Proof.Windows.lean ====
/- The kernel's windows: which elements of an array a grid point's block holds. -/
module

public import proofs.«01_k».proof.Proof.Gen.KernelIdeal.Value
public import Idealize.ShloMosaic.Lib.Pipeline.ValueKit
public import Idealize.ShloMosaic.Lib.Claim

@[expose] public section

set_option maxRecDepth 16384

noncomputable section

namespace Cert.Windows

open Idealize.ShloMosaic Idealize.ShloMosaic.TcCoe Idealize.ShloMosaic.Tactic Idealize.SL.Sem
open Cert.KernelIdeal Cert.KernelIdeal.Gen

/-! The windows' index maps. -/

theorem idx : ∀ t : Fin grid0.N,
  win0_0.index t = ![0, 0]
  ∧ win0_1.index t = ![(grid0.coords t 0).val, (grid0.coords t 1).val, 0]
  ∧ win0_2.index t = ![(grid0.coords t 0).val, (grid0.coords t 1).val, 0]
  ∧ win0_3.index t = ![(grid0.coords t 0).val, (grid0.coords t 1).val, 0, 0]
  ∧ win0_4.index t = ![(grid0.coords t 0).val, (grid0.coords t 1).val, 0]
  ∧ win0_5.index t = ![(grid0.coords t 0).val, (grid0.coords t 1).val, 0]
  ∧ win0_6.index t = ![(grid0.coords t 0).val, (grid0.coords t 1).val, 0]
  ∧ win0_7.index t = ![(grid0.coords t 0).val, (grid0.coords t 1).val, 0, 0]
  ∧ win0_8.index t = ![(grid0.coords t 0).val, 0, 0]
  ∧ win0_9.index t = ![(grid0.coords t 0).val, (grid0.coords t 1).val, 0, 0]
  ∧ win0_10.index t = ![(grid0.coords t 0).val, 0, 0]
  ∧ win0_11.index t = ![0, 0]
  ∧ win0_12.index t = ![0, 0]
  ∧ win0_13.index t = ![0, 0]
  ∧ win0_14.index t = ![(grid0.coords t 0).val, (grid0.coords t 1).val, 0]
  ∧ win0_15.index t = ![(grid0.coords t 0).val, (grid0.coords t 1).val, 0]
  ∧ win0_16.index t = ![(grid0.coords t 0).val, (grid0.coords t 1).val, 0]
  ∧ win0_17.index t = ![(grid0.coords t 0).val, (grid0.coords t 1).val, 0] := by decide +kernel

/-- A grid point's leading index, and its band of rows. -/
def pe (t : Fin cfg0.N) : Fin 7 := ⟨(grid0.coords t 0).val, (grid0.coords t 0).isLt⟩
def pj (t : Fin cfg0.N) : Fin 15 := ⟨(grid0.coords t 1).val, (grid0.coords t 1).isLt⟩
def row (t : Fin cfg0.N) (p : Fin 384) : Fin 5760 := ⟨(pj t).val * 384 + p.val, by omega⟩

/-! The body's blocks, read from the argument arrays. -/

section blocks
variable (t : Fin cfg0.N) (p : Fin 384)

theorem rd1 (X : (S7x5760x2880).Idx → Elt Ideal .bf16) (q : Fin 2880) :
    ((cfg0.win 1).blk t).view.read (Elt Ideal) X (ix3 0 p q) = X (ix3 (pe t) (row t p) q) := by
  blk_ext [idx t, pe, pj, row]
theorem rd2 (X : (S7x5760x2880).Idx → Elt Ideal .fp8e4m3) (q : Fin 2880) :
    ((cfg0.win 2).blk t).view.read (Elt Ideal) X (ix3 0 p q) = X (ix3 (pe t) (row t p) q) := by
  blk_ext [idx t, pe, pj, row]
theorem rd4 (X : (S7x5760x1440).Idx → Elt Ideal .i8) (q : Fin 1440) :
    ((cfg0.win 4).blk t).view.read (Elt Ideal) X (ix3 0 p q) = X (ix3 (pe t) (row t p) q) := by
  blk_ext [idx t, pe, pj, row]
theorem rd5 (X : (S7x5760x45).Idx → Elt Ideal .f32) (q : Fin 45) :
    ((cfg0.win 5).blk t).view.read (Elt Ideal) X (ix3 0 p q) = X (ix3 (pe t) (row t p) q) := by
  blk_ext [idx t, pe, pj, row]
theorem rd6 (X : (S7x5760x1440).Idx → Elt Ideal .i8) (q : Fin 1440) :
    ((cfg0.win 6).blk t).view.read (Elt Ideal) X (ix3 0 p q) = X (ix3 (pe t) (row t p) q) := by
  blk_ext [idx t, pe, pj, row]
theorem rd3 (X : (S7x15x1x384).Idx → Elt Ideal .f32)  :
    ((cfg0.win 3).blk t).view.read (Elt Ideal) X (ix4 0 0 0 p) = X (ix4 (pe t) (pj t) 0 p) := by
  blk_ext [idx t, pe, pj, row]
theorem rd7 (X : (S7x15x1x384).Idx → Elt Ideal .f32)  :
    ((cfg0.win 7).blk t).view.read (Elt Ideal) X (ix4 0 0 0 p) = X (ix4 (pe t) (pj t) 0 p) := by
  blk_ext [idx t, pe, pj, row]
theorem rd9 (X : (S7x15x1x384).Idx → Elt Ideal .f32)  :
    ((cfg0.win 9).blk t).view.read (Elt Ideal) X (ix4 0 0 0 p) = X (ix4 (pe t) (pj t) 0 p) := by
  blk_ext [idx t, pe, pj, row]
theorem rd8 (X : (S7x1x2880).Idx → Elt Ideal .f32) (q : Fin 2880) :
    ((cfg0.win 8).blk t).view.read (Elt Ideal) X (ix3 0 0 q) = X (ix3 (pe t) 0 q) := by
  blk_ext [idx t, pe, pj, row]
theorem rd10 (X : (S7x1x2880).Idx → Elt Ideal .f32) (q : Fin 2880) :
    ((cfg0.win 10).blk t).view.read (Elt Ideal) X (ix3 0 0 q) = X (ix3 (pe t) 0 q) := by
  blk_ext [idx t, pe, pj, row]
theorem rd0 (X : (S1x2).Idx → Elt Ideal .f32) (a : Fin 1) (b : Fin 2) :
    ((cfg0.win 0).blk t).view.read (Elt Ideal) X (ix2 a b) = X (ix2 a b) := by
  blk_ext [idx t, pe, pj, row]
theorem rd11 (X : (S256x256).Idx → Elt Ideal .bf16) (a : Fin 256) (b : Fin 256) :
    ((cfg0.win 11).blk t).view.read (Elt Ideal) X (ix2 a b) = X (ix2 a b) := by
  blk_ext [idx t, pe, pj, row]
theorem rd12 (X : (S256x128).Idx → Elt Ideal .bf16) (a : Fin 256) (b : Fin 128) :
    ((cfg0.win 12).blk t).view.read (Elt Ideal) X (ix2 a b) = X (ix2 a b) := by
  blk_ext [idx t, pe, pj, row]
theorem rd13 (X : (S192x2880).Idx → Elt Ideal .bf16) (a : Fin 192) (b : Fin 2880) :
    ((cfg0.win 13).blk t).view.read (Elt Ideal) X (ix2 a b) = X (ix2 a b) := by
  blk_ext [idx t, pe, pj, row]
end blocks

end Cert.Windows
end
-- ==== Proof.Host.lean ====
/- What the host computes before the kernel: the step's constants, the tables, and the reshaped arguments. -/
module

public import proofs.«01_k».proof.Proof.Spec
public import proofs.«01_k».proof.Proof.Gen.KernelIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.Host

open Idealize.ShloMosaic Idealize.ShloMosaic.TcCoe Idealize.ShloMosaic.Tactic Idealize.SL.Sem
open Cert.KernelIdeal Cert.KernelIdeal.Gen Cert.Cells Cert.Spec

variable (m : (ℓ : Loc nD τ sig) → Buf (Elt Ideal) ℓ) (c : Dev nD)

theorem gs_host (e : Fin 7) (j : Fin 15) (p : Fin 384) : (V m c main_v44 : S7x15x1x384.Idx → EReal) (ix4 e j 0 p) = m ((c : Thread nD τ).loc main_arg2) (ix2 e ⟨j.val * 384 + p.val, by omega⟩) := by
  unfold V
  simp only [List.flatten_cons, List.flatten_nil, List.append_nil, List.cons_append, List.nil_append]
  after_reads_at

theorem vr_host (e : Fin 7) (j : Fin 15) (p : Fin 384) : (V m c main_v45 : S7x15x1x384.Idx → EReal) (ix4 e j 0 p) = m ((c : Thread nD τ).loc main_arg7) (ix2 e ⟨j.val * 384 + p.val, by omega⟩) := by
  unfold V
  simp only [List.flatten_cons, List.flatten_nil, List.append_nil, List.cons_append, List.nil_append]
  after_reads_at

theorem vc_host (e : Fin 7) (q : Fin 2880) : (V m c main_v46 : S7x1x2880.Idx → EReal) (ix3 e 0 q) = m ((c : Thread nD τ).loc main_arg8) (ix2 e q) := by
  unfold V
  simp only [List.flatten_cons, List.flatten_nil, List.append_nil, List.cons_append, List.nil_append]
  after_reads_at

theorem vrn_host (e : Fin 7) (j : Fin 15) (p : Fin 384) : (V m c main_v47 : S7x15x1x384.Idx → EReal) (ix4 e j 0 p) = m ((c : Thread nD τ).loc main_arg9) (ix2 e ⟨j.val * 384 + p.val, by omega⟩) := by
  unfold V
  simp only [List.flatten_cons, List.flatten_nil, List.append_nil, List.cons_append, List.nil_append]
  after_reads_at

theorem vcn_host (e : Fin 7) (q : Fin 2880) : (V m c main_v48 : S7x1x2880.Idx → EReal) (ix3 e 0 q) = m ((c : Thread nD τ).loc main_arg10) (ix2 e q) := by
  unfold V
  simp only [List.flatten_cons, List.flatten_nil, List.append_nil, List.cons_append, List.nil_append]
  after_reads_at

theorem word_we : ∀ a : Fin 256, IntOp.addi (IntOp.muli (2#32) (IntOp.andi (BitVec.ofNat 32 a.val) 127#32))
    (IntOp.shrsi ArithUnit.host (BitVec.ofNat 32 a.val) 7#32) = BitVec.ofNat 32 (2 * (a.val % 128) + a.val / 128) := by decide +kernel
theorem word_half : ∀ a : Fin 256, IntOp.shrsi ArithUnit.host (BitVec.ofNat 32 a.val) 1#32 = BitVec.ofNat 32 (a.val / 2) := by decide +kernel
theorem word_odd : ∀ a : Fin 256, IntOp.andi (BitVec.ofNat 32 a.val) 1#32 = BitVec.ofNat 32 (a.val % 2) := by decide +kernel
theorem word_block : ∀ a : Fin 2880, IntOp.shrsi ArithUnit.host (BitVec.ofNat 32 a.val) 6#32 = BitVec.ofNat 32 (a.val / 64) := by decide +kernel
theorem word_row : ∀ a : Fin 192, IntOp.andi (BitVec.ofNat 32 a.val) 63#32 = BitVec.ofNat 32 (a.val % 64) := by decide +kernel

theorem b_16 : Ideal.ofBits .f32 1098907648#32 = ((16 : ℝ) : EReal) := by
  simp [Ideal.ofBits, Ideal.ieee]; rw [← EReal.coe_mul]; norm_num

theorem select_eq (a b : ℕ) (ha : a < 2 ^ 32) (hb : b < 2 ^ 32) (x y : EReal) :
    Scalar.select (IntOp.cmpi CmpIPredicate.eq (BitVec.ofNat 32 a) (BitVec.ofNat 32 b)) x y = if a = b then x else y := by
  by_cases h : a = b
  · subst h; simp [Scalar.select, IntOp.cmpi]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp only [Scalar.select, IntOp.cmpi, beq_eq_false_iff_ne.mpr this, BitVec.ofBool, h, if_false]
    exact if_neg (by decide)

theorem we_host : IsWe (V m c main_v22) := fun a b => by
  unfold V
  simp only [List.flatten_cons, List.flatten_nil, List.append_nil, List.cons_append, List.nil_append]
  after_reads_at
  rw [word_we, select_eq _ _ (by omega) (by omega)]

theorem wp_host : IsWp (n := 256) (k := 128) (V m c main_v34) := fun a b => by
  unfold V
  simp only [List.flatten_cons, List.flatten_nil, List.append_nil, List.cons_append, List.nil_append]
  after_reads_at
  rw [word_half, word_odd, select_eq _ _ (by omega) (by omega)]
  rw [show (0#32) = BitVec.ofNat 32 0 from rfl, select_eq _ _ (by omega) (by omega), b_16]

theorem ws_host (k : Fin 45) (q : Fin 2880) :
    (V m c main_v43 : S192x2880.Idx → EReal) (ix2 ⟨k.val, by omega⟩ q) = if q.val / 64 = k.val then (1 : EReal) else 0 := by
  unfold V
  simp only [List.flatten_cons, List.flatten_nil, List.append_nil, List.cons_append, List.nil_append]
  after_reads_at
  rw [word_block, word_row ⟨k.val, by omega⟩, select_eq _ _ (by dsimp only; omega) (by omega)]
  have : k.val % 64 = k.val := Nat.mod_eq_of_lt (by omega)
  show (if k.val % 64 = q.val / 64 then (1 : EReal) else 0) = _
  rw [this]
  exact if_congr eq_comm rfl rfl

theorem k0_host :
    (V m c main_v10 : S1x2.Idx → EReal) (ix2 0 0)
      = Ideal.sqrt (Ideal.div (bias 0x3F7FBE77#32 (m ((c : Thread nD τ).loc main_arg3) ix0)) (Ideal.ofBits .f32 0x3DCCCCCD#32)) := by
  unfold V
  simp only [List.flatten_cons, List.flatten_nil, List.append_nil, List.cons_append, List.nil_append]
  after_reads_at
  after_reads_at
  rfl

theorem k1_host :
    (V m c main_v10 : S1x2.Idx → EReal) (ix2 0 1) = bias 0x3F666666#32 (m ((c : Thread nD τ).loc main_arg3) ix0) := by
  unfold V
  simp only [List.flatten_cons, List.flatten_nil, List.append_nil, List.cons_append, List.nil_append]
  after_reads_at
  after_reads_at
  rfl

end Cert.Host
end
-- ==== Proof.Arrays.lean ====
/- What the kernel's four result arrays hold, element by element, from its argument arrays. -/
module

public import proofs.«01_k».proof.Proof.Scale
public import proofs.«01_k».proof.Proof.Windows
public import proofs.«01_k».proof.Proof.Host
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Arrays

open Idealize.ShloMosaic Idealize.ShloMosaic.TcCoe Idealize.ShloMosaic.Tactic Idealize.SL.Sem
open Cert.KernelIdeal Cert.KernelIdeal.Gen Cert.Bytes Cert.Scalar Cert.Cells Cert.Spec Cert.Tile Cert.Block Cert.Windows

variable (m : (ℓ : Loc nD τ sig) → Buf (Elt Ideal) ℓ) (c : Dev nD)

/-- The memrefs of a grid point. -/
def refs (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, scM0_0, Memref.isWhole_whole _⟩

/-- The input blocks of a grid point. -/
def ins (t : Fin cfg0.N) : Ins := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The argument arrays. -/
def arrs : Arrs where
  w e s q := m ((c : Thread nD τ).loc main_arg0) (ix3 e s q)
  g e s q := m ((c : Thread nD τ).loc main_arg1) (ix3 e s q)
  gs e s := m ((c : Thread nD τ).loc main_arg2) (ix2 e s)
  t := m ((c : Thread nD τ).loc main_arg3) ix0
  mc e s q := m ((c : Thread nD τ).loc main_arg4) (ix3 e s q)
  ms e s k := m ((c : Thread nD τ).loc main_arg5) (ix3 e s k)
  vc e s q := m ((c : Thread nD τ).loc main_arg6) (ix3 e s q)
  vr e s := m ((c : Thread nD τ).loc main_arg7) (ix2 e s)
  vl e q := m ((c : Thread nD τ).loc main_arg8) (ix2 e q)
  vrn e s := m ((c : Thread nD τ).loc main_arg9) (ix2 e s)
  vln e q := m ((c : Thread nD τ).loc main_arg10) (ix2 e q)

/-! The body's blocks, read from the argument arrays. -/

section blocks
variable (t : Fin cfg0.N) (p : Fin 384)

theorem x0_eq : (ins m c t).x0 = ((cfg0.win 0).blk t).view.read (Elt Ideal) (V m c main_v10) := by sl_kernel_rfl
theorem x1_eq : (ins m c t).x1 = ((cfg0.win 1).blk t).view.read (Elt Ideal) (V m c main_arg0) := by sl_kernel_rfl
theorem x2_eq : (ins m c t).x2 = ((cfg0.win 2).blk t).view.read (Elt Ideal) (V m c main_arg1) := by sl_kernel_rfl
theorem x3_eq : (ins m c t).x3 = ((cfg0.win 3).blk t).view.read (Elt Ideal) (V m c main_v44) := by sl_kernel_rfl
theorem x4_eq : (ins m c t).x4 = ((cfg0.win 4).blk t).view.read (Elt Ideal) (V m c main_arg4) := by sl_kernel_rfl
theorem x5_eq : (ins m c t).x5 = ((cfg0.win 5).blk t).view.read (Elt Ideal) (V m c main_arg5) := by sl_kernel_rfl
theorem x6_eq : (ins m c t).x6 = ((cfg0.win 6).blk t).view.read (Elt Ideal) (V m c main_arg6) := by sl_kernel_rfl
theorem x7_eq : (ins m c t).x7 = ((cfg0.win 7).blk t).view.read (Elt Ideal) (V m c main_v45) := by sl_kernel_rfl
theorem x8_eq : (ins m c t).x8 = ((cfg0.win 8).blk t).view.read (Elt Ideal) (V m c main_v46) := by sl_kernel_rfl
theorem x9_eq : (ins m c t).x9 = ((cfg0.win 9).blk t).view.read (Elt Ideal) (V m c main_v47) := by sl_kernel_rfl
theorem x10_eq : (ins m c t).x10 = ((cfg0.win 10).blk t).view.read (Elt Ideal) (V m c main_v48) := by sl_kernel_rfl
theorem x11_eq : (ins m c t).x11 = ((cfg0.win 11).blk t).view.read (Elt Ideal) (V m c main_v22) := by sl_kernel_rfl
theorem x12_eq : (ins m c t).x12 = ((cfg0.win 12).blk t).view.read (Elt Ideal) (V m c main_v34) := by sl_kernel_rfl
theorem x13_eq : (ins m c t).x13 = ((cfg0.win 13).blk t).view.read (Elt Ideal) (V m c main_v43) := by sl_kernel_rfl
theorem x0_at (b : Fin 2) : (ins m c t).x0 (ix2 0 b) = (V m c main_v10 : S1x2.Idx → EReal) (ix2 0 b) := by
  rw [x0_eq]; exact rd0 t (V m c main_v10) 0 b
theorem x1_at (q : Fin 2880) : (ins m c t).x1 (ix3 0 p q) = (arrs m c).w (pe t) (row t p) q := by
  rw [x1_eq]; exact (rd1 t p (V m c main_arg0) q).trans (congrFun (V_main_arg0 m c) _)
theorem x2_at (q : Fin 2880) : (ins m c t).x2 (ix3 0 p q) = (arrs m c).g (pe t) (row t p) q := by
  rw [x2_eq]; exact (rd2 t p (V m c main_arg1) q).trans (congrFun (V_main_arg1 m c) _)
theorem x4_at (q : Fin 1440) : (ins m c t).x4 (ix3 0 p q) = (arrs m c).mc (pe t) (row t p) q := by
  rw [x4_eq]; exact (rd4 t p (V m c main_arg4) q).trans (congrFun (V_main_arg4 m c) _)
theorem x5_at (q : Fin 45) : (ins m c t).x5 (ix3 0 p q) = (arrs m c).ms (pe t) (row t p) q := by
  rw [x5_eq]; exact (rd5 t p (V m c main_arg5) q).trans (congrFun (V_main_arg5 m c) _)
theorem x6_at (q : Fin 1440) : (ins m c t).x6 (ix3 0 p q) = (arrs m c).vc (pe t) (row t p) q := by
  rw [x6_eq]; exact (rd6 t p (V m c main_arg6) q).trans (congrFun (V_main_arg6 m c) _)
theorem x3_at  : (ins m c t).x3 (ix4 0 0 0 p) = (arrs m c).gs (pe t) (row t p) := by
  rw [x3_eq]; exact (rd3 t p (V m c main_v44)).trans (Host.gs_host m c _ _ _)
theorem x7_at  : (ins m c t).x7 (ix4 0 0 0 p) = (arrs m c).vr (pe t) (row t p) := by
  rw [x7_eq]; exact (rd7 t p (V m c main_v45)).trans (Host.vr_host m c _ _ _)
theorem x9_at  : (ins m c t).x9 (ix4 0 0 0 p) = (arrs m c).vrn (pe t) (row t p) := by
  rw [x9_eq]; exact (rd9 t p (V m c main_v47)).trans (Host.vrn_host m c _ _ _)
theorem x8_at (q : Fin 2880) : (ins m c t).x8 (ix3 0 0 q) = (arrs m c).vl (pe t) q := by
  rw [x8_eq]; exact (rd8 t (V m c main_v46) q).trans (Host.vc_host m c _ _)
theorem x10_at (q : Fin 2880) : (ins m c t).x10 (ix3 0 0 q) = (arrs m c).vln (pe t) q := by
  rw [x10_eq]; exact (rd10 t (V m c main_v48) q).trans (Host.vcn_host m c _ _)

end blocks

/-- The scales are finite. -/
def Fin_ms (A : Arrs) : Prop := ∀ e s k, ∃ r : ℝ, A.ms e s k = r

theorem good (h : Fin_ms (arrs m c)) (t : Fin cfg0.N) : Good (ins m c t) where
  we a b := by rw [x11_eq]; exact (rd11 t (V m c main_v22) a b).trans (Host.we_host m c a b)
  wp a b := by rw [x12_eq]; exact (rd12 t (V m c main_v34) a b).trans (Host.wp_host m c a b)
  ws k q := by rw [x13_eq]; exact (rd13 t (V m c main_v43) _ q).trans (Host.ws_host m c k q)
  ms p k := by rw [x5_at]; exact h _ _ _

section block
variable (t : Fin cfg0.N) (p : Fin 384)

theorem GB_eq (q : Fin 2880) : GB (ins m c t) p q = KG (arrs m c) (pe t) (row t p) q := by
  unfold GB KG; rw [x2_at, x3_at]
theorem MB_eq (q : Fin 2880) : MB (ins m c t) p q = KM (arrs m c) (pe t) (row t p) q := by
  unfold MB KM; rw [GB_eq, x4_at, x5_at]
theorem VB_eq (q : Fin 2880) : VB (ins m c t) p q = KV (arrs m c) (pe t) (row t p) q := by
  unfold VB KV; rw [GB_eq, x6_at, x7_at, x8_at]
theorem DB_eq (q : Fin 2880) : DB (ins m c t) p q = KD (arrs m c) (pe t) (row t p) q := by
  unfold DB KD; rw [MB_eq, VB_eq, x1_at, x0_at, x0_at, Host.k0_host, Host.k1_host]; rfl
theorem YB_eq (q : Fin 2880) : YB (ins m c t) p q = KY (arrs m c) (pe t) (row t p) q := by
  unfold YB KY; rw [VB_eq, x9_at, x10_at]
theorem VCB_eq (q : Fin 1440) : VCB (ins m c t) p q = KVC (arrs m c) (pe t) (row t p) q := by
  unfold VCB KVC; rw [YB_eq, YB_eq]
theorem AB_eq (k : Fin 45) : AB (ins m c t) p k = KA (arrs m c) (pe t) (row t p) k := by
  unfold AB KA; simp only [MB_eq]
theorem SB_eq (k : Fin 45) : SB (ins m c t) p k = KS (arrs m c) (pe t) (row t p) k := by
  unfold SB KS; rw [AB_eq]
theorem ZB_eq (q : Fin 2880) : ZB (ins m c t) p q = KZ (arrs m c) (pe t) (row t p) q := by
  unfold ZB KZ; rw [MB_eq, SB_eq]
theorem MCB_eq (q : Fin 1440) : MCB (ins m c t) p q = KMC (arrs m c) (pe t) (row t p) q := by
  unfold MCB KMC; rw [ZB_eq, ZB_eq]

end block

/-! The arrays after the run. -/

variable (h : Fin_ms (arrs m c))

end Cert.Arrays
end
-- ==== Proof.OutWindows.lean ====
/- Where an element of an output block sits in its array. -/
module

public import proofs.«01_k».proof.Proof.Gen.KernelIdeal.Value
public import Idealize.ShloMosaic.Lib.Pipeline.ValueKit
public import Idealize.ShloMosaic.Lib.Claim
public import proofs.«01_k».proof.Proof.Windows

@[expose] public section

set_option maxRecDepth 16384

noncomputable section

namespace Cert.Windows

open Idealize.ShloMosaic Idealize.ShloMosaic.TcCoe Idealize.ShloMosaic.Tactic Idealize.SL.Sem
open Cert.KernelIdeal Cert.KernelIdeal.Gen

section reads
variable (t : Fin cfg0.N) (p : Fin 384)
theorem rd14 (X : (S7x5760x2880).Idx → Elt Ideal .f32) (q : Fin 2880) :
    ((cfg0.win 14).blk t).view.read (Elt Ideal) X (ix3 0 p q) = X (ix3 (pe t) (row t p) q) := by
  blk_ext [idx t, pe, pj, row]
theorem rd15 (X : (S7x5760x1440).Idx → Elt Ideal .i8) (q : Fin 1440) :
    ((cfg0.win 15).blk t).view.read (Elt Ideal) X (ix3 0 p q) = X (ix3 (pe t) (row t p) q) := by
  blk_ext [idx t, pe, pj, row]
theorem rd16 (X : (S7x5760x45).Idx → Elt Ideal .f32) (q : Fin 45) :
    ((cfg0.win 16).blk t).view.read (Elt Ideal) X (ix3 0 p q) = X (ix3 (pe t) (row t p) q) := by
  blk_ext [idx t, pe, pj, row]
theorem rd17 (X : (S7x5760x1440).Idx → Elt Ideal .i8) (q : Fin 1440) :
    ((cfg0.win 17).blk t).view.read (Elt Ideal) X (ix3 0 p q) = X (ix3 (pe t) (row t p) q) := by
  blk_ext [idx t, pe, pj, row]
end reads

end Cert.Windows
end
-- ==== Proof.Results.lean ====
/- The kernel's four result arrays after the whole grid, element by element. -/
module

public import proofs.«01_k».proof.Proof.Arrays
public import proofs.«01_k».proof.Proof.OutWindows

@[expose] public section

set_option maxRecDepth 16384

noncomputable section

namespace Cert.Results

open Idealize.ShloMosaic Idealize.ShloMosaic.TcCoe Idealize.ShloMosaic.Tactic Idealize.SL.Sem
open Cert.KernelIdeal Cert.KernelIdeal.Gen Cert.Bytes Cert.Scalar Cert.Cells Cert.Spec Cert.Tile Cert.Block Cert.Windows Cert.Arrays

variable (m : (ℓ : Loc nD τ sig) → Buf (Elt Ideal) ℓ) (c : Dev nD)

section covers
variable (i : grid0.Coords) (R : Refs) (X : Ins)
theorem cover14 (y : S1x384x2880.Idx) : ∃ pc ∈ (runOf c i R X).1, y ∈ pc.1.set :=
  cover0_A_14 c i _ _ _ _ _ _ _ _ _ _ _ _ _ _ _ _ _ _ _ _ _ _ _ _ _ _ _ _ _ _ _ _ _ _ _ _ _ _ _ _ _ _ _ _ _ _ _ _ _ _ _ _ y
theorem cover15 (y : S1x384x1440.Idx) : ∃ pc ∈ (runOf c i R X).2.1, y ∈ pc.1.set :=
  cover0_A_15 c i _ _ _ _ _ _ _ _ _ _ _ _ _ _ _ _ _ _ _ _ _ _ _ _ _ _ _ _ _ _ _ _ _ _ _ _ _ _ _ _ _ _ _ _ _ _ _ _ _ _ _ _ y
theorem cover16 (y : S1x384x45.Idx) : ∃ pc ∈ (runOf c i R X).2.2.1, y ∈ pc.1.set :=
  cover0_A_16 c i _ _ _ _ _ _ _ _ _ _ _ _ _ _ _ _ _ _ _ _ _ _ _ _ _ _ _ _ _ _ _ _ _ _ _ _ _ _ _ _ _ _ _ _ _ _ _ _ _ _ _ _ y
theorem cover17 (y : S1x384x1440.Idx) : ∃ pc ∈ (runOf c i R X).2.2.2.1, y ∈ pc.1.set :=
  cover0_A_17 c i _ _ _ _ _ _ _ _ _ _ _ _ _ _ _ _ _ _ _ _ _ _ _ _ _ _ _ _ _ _ _ _ _ _ _ _ _ _ _ _ _ _ _ _ _ _ _ _ _ _ _ _ y
end covers

/-- Every array row lies in the block of some grid point. -/
theorem points : ∀ (e : Fin 7) (j : Fin 15), ∃ t : Fin cfg0.N, pe t = e ∧ pj t = j := by decide +kernel

theorem rows (e : Fin 7) (s : Fin 5760) : ∃ (t : Fin cfg0.N) (p : Fin 384), pe t = e ∧ row t p = s := by
  obtain ⟨t, h1, h2⟩ := points e ⟨s.val / 384, by omega⟩
  refine ⟨t, ⟨s.val % 384, by omega⟩, h1, Fin.ext ?_⟩
  show (pj t).val * 384 + s.val % 384 = s.val
  rw [h2]; show s.val / 384 * 384 + s.val % 384 = s.val; omega

variable (h : Fin_ms (arrs m c))

theorem after14_eq (t : Fin cfg0.N) : (dats m 0 c).after 14 t
    = VO0_14.read (Elt Ideal) (VO0_14.writes (Elt Ideal) VO0_14.junk (runOf c (grid0.coords t) (refs t) (ins m c t)).1) := by
  sl_kernel_rfl

include h in
theorem after14 (t : Fin cfg0.N) (j : S1x384x2880.Idx) :
    ((dats m 0 c).after 14 t : S1x384x2880.Idx → Elt Ideal .f32) j = KD (arrs m c) (pe t) (row t (j 1)) (j 2) := by
  rw [after14_eq, View.read_writes_junk_eq_canon]
  exact (View.canon_apply_of_pieces (Val := Elt Ideal) (S := S1x384x2880) (e := .f32) (D14 (ins m c t)) (runOf c (grid0.coords t) (refs t) (ins m c t)).1
    (all14 c (grid0.coords t) (refs t) (ins m c t) (good m c h t)) j (cover14 c (grid0.coords t) (refs t) (ins m c t) j)).trans
    (DB_eq m c t (j 1) (j 2))

include h in
/-- Result array 0 of the kernel. -/
theorem out14 (e : Fin 7) (s : Fin 5760) (q : Fin 2880) :
    ((dats m 0 c).arrAt 14 cfg0.N : S7x5760x2880.Idx → Elt Ideal .f32) (ix3 e s q) = KD (arrs m c) e s q := by
  obtain ⟨t, p, rfl, rfl⟩ := rows e s
  rw [← rd14 t p ((dats m 0 c).arrAt 14 cfg0.N) q, Value.blocks14 m c t (flush0_14 t)]
  exact after14 m c h t (ix3 0 p q)

theorem after15_eq (t : Fin cfg0.N) : (dats m 0 c).after 15 t
    = VO0_15.read (Elt Ideal) (VO0_15.writes (Elt Ideal) VO0_15.junk (runOf c (grid0.coords t) (refs t) (ins m c t)).2.1) := by
  sl_kernel_rfl

include h in
theorem after15 (t : Fin cfg0.N) (j : S1x384x1440.Idx) :
    ((dats m 0 c).after 15 t : S1x384x1440.Idx → Elt Ideal .i8) j = KMC (arrs m c) (pe t) (row t (j 1)) (j 2) := by
  rw [after15_eq, View.read_writes_junk_eq_canon]
  exact (View.canon_apply_of_pieces (Val := Elt Ideal) (S := S1x384x1440) (e := .i8) (M15 (ins m c t)) (runOf c (grid0.coords t) (refs t) (ins m c t)).2.1
    (all15 c (grid0.coords t) (refs t) (ins m c t) (good m c h t)) j (cover15 c (grid0.coords t) (refs t) (ins m c t) j)).trans
    (MCB_eq m c t (j 1) (j 2))

include h in
/-- Result array 1 of the kernel. -/
theorem out15 (e : Fin 7) (s : Fin 5760) (q : Fin 1440) :
    ((dats m 0 c).arrAt 15 cfg0.N : S7x5760x1440.Idx → Elt Ideal .i8) (ix3 e s q) = KMC (arrs m c) e s q := by
  obtain ⟨t, p, rfl, rfl⟩ := rows e s
  rw [← rd15 t p ((dats m 0 c).arrAt 15 cfg0.N) q, Value.blocks15 m c t (flush0_15 t)]
  exact after15 m c h t (ix3 0 p q)

theorem after16_eq (t : Fin cfg0.N) : (dats m 0 c).after 16 t
    = VO0_16.read (Elt Ideal) (VO0_16.writes (Elt Ideal) VO0_16.junk (runOf c (grid0.coords t) (refs t) (ins m c t)).2.2.1) := by
  sl_kernel_rfl

include h in
theorem after16 (t : Fin cfg0.N) (j : S1x384x45.Idx) :
    ((dats m 0 c).after 16 t : S1x384x45.Idx → Elt Ideal .f32) j = KS (arrs m c) (pe t) (row t (j 1)) (j 2) := by
  rw [after16_eq, View.read_writes_junk_eq_canon]
  exact (View.canon_apply_of_pieces (Val := Elt Ideal) (S := S1x384x45) (e := .f32) (S16 (ins m c t)) (runOf c (grid0.coords t) (refs t) (ins m c t)).2.2.1
    (all16 c (grid0.coords t) (refs t) (ins m c t) (good m c h t)) j (cover16 c (grid0.coords t) (refs t) (ins m c t) j)).trans
    (SB_eq m c t (j 1) (j 2))

include h in
/-- Result array 2 of the kernel. -/
theorem out16 (e : Fin 7) (s : Fin 5760) (q : Fin 45) :
    ((dats m 0 c).arrAt 16 cfg0.N : S7x5760x45.Idx → Elt Ideal .f32) (ix3 e s q) = KS (arrs m c) e s q := by
  obtain ⟨t, p, rfl, rfl⟩ := rows e s
  rw [← rd16 t p ((dats m 0 c).arrAt 16 cfg0.N) q, Value.blocks16 m c t (flush0_16 t)]
  exact after16 m c h t (ix3 0 p q)

theorem after17_eq (t : Fin cfg0.N) : (dats m 0 c).after 17 t
    = VO0_17.read (Elt Ideal) (VO0_17.writes (Elt Ideal) VO0_17.junk (runOf c (grid0.coords t) (refs t) (ins m c t)).2.2.2.1) := by
  sl_kernel_rfl

include h in
theorem after17 (t : Fin cfg0.N) (j : S1x384x1440.Idx) :
    ((dats m 0 c).after 17 t : S1x384x1440.Idx → Elt Ideal .i8) j = KVC (arrs m c) (pe t) (row t (j 1)) (j 2) := by
  rw [after17_eq, View.read_writes_junk_eq_canon]
  exact (View.canon_apply_of_pieces (Val := Elt Ideal) (S := S1x384x1440) (e := .i8) (V17 (ins m c t)) (runOf c (grid0.coords t) (refs t) (ins m c t)).2.2.2.1
    (all17 c (grid0.coords t) (refs t) (ins m c t) (good m c h t)) j (cover17 c (grid0.coords t) (refs t) (ins m c t) j)).trans
    (VCB_eq m c t (j 1) (j 2))

include h in
/-- Result array 3 of the kernel. -/
theorem out17 (e : Fin 7) (s : Fin 5760) (q : Fin 1440) :
    ((dats m 0 c).arrAt 17 cfg0.N : S7x5760x1440.Idx → Elt Ideal .i8) (ix3 e s q) = KVC (arrs m c) e s q := by
  obtain ⟨t, p, rfl, rfl⟩ := rows e s
  rw [← rd17 t p ((dats m 0 c).arrAt 17 cfg0.N) q, Value.blocks17 m c t (flush0_17 t)]
  exact after17 m c h t (ix3 0 p q)

end Cert.Results
end
-- ==== Proof.RefPay.lean ====
/- The reference's values, element by element. -/
module

public import proofs.«01_k».proof.Proof.RefSpec
public import proofs.«01_k».proof.Proof.Gen.ReferenceIdeal.Value
public import Idealize.ShloMosaic.Lib.Pointwise

@[expose] public section

set_option maxRecDepth 16384

noncomputable section

namespace Cert.RefPay

open Idealize.ShloMosaic Idealize.ShloMosaic.TcCoe Idealize.ShloMosaic.Tactic Idealize.SL.Sem
open Cert.ReferenceIdeal Cert.ReferenceIdeal.Gen Cert.Scalar Cert.RefSpec

variable (e : Fin 7) (s : Fin 5760) (h : Fin 1440)

theorem c_lr : Named.named (F := Ideal) κ "lr" (φ := .f32) 0x399D4952#32 = ((3 / 10000 : ℝ) : EReal) :=
  IdealRules.named_const.ideal_named_scalar _ _ _ _ rfl
theorem c_tenth : Named.named (F := Ideal) κ "tenth" (φ := .f32) 0x3DCCCCCD#32 = ((1 / 10 : ℝ) : EReal) :=
  IdealRules.named_const.ideal_named_scalar _ _ _ _ rfl
theorem c_olb2 : Named.named (F := Ideal) κ "one_less_beta2" (φ := .f32) 0x3A83126F#32 = ((13421773 / 13421772800 : ℝ) : EReal) :=
  IdealRules.named_const.ideal_named_scalar _ _ _ _ rfl

/-! A code's level. -/

theorem mlev_low (b : BitVec 8) : FloatOps.sitofp (F := Ideal) FTy.f32 (IntOp.subi (IntOp.andi (BitVec.setWidth 32 b) 15#32)
      (IntOp.muli (16#32) (BitVec.setWidth 32 (IntOp.cmpi CmpIPredicate.sge (IntOp.andi (BitVec.setWidth 32 b) 15#32) 8#32))))
    = mLev (b &&& 0x0F#8) := by
  have : ∀ x : Fin 256, (IntOp.subi (IntOp.andi (BitVec.setWidth 32 (BitVec.ofFin (w := 8) x)) 15#32)
      (IntOp.muli (16#32) (BitVec.setWidth 32 (IntOp.cmpi CmpIPredicate.sge (IntOp.andi (BitVec.setWidth 32 (BitVec.ofFin (w := 8) x)) 15#32) 8#32)))).toInt
      = (((((BitVec.ofFin (w := 8) x) &&& 0x0F#8) ^^^ 0x08#8) + 0x78#8) ^^^ 0x80#8).toInt := by decide +kernel
  exact congrArg (fun n : ℤ => (((n : ℝ)) : EReal)) (this b.toFin)
theorem mlev_high (b : BitVec 8) : FloatOps.sitofp (F := Ideal) FTy.f32 (IntOp.subi (IntOp.shrsi ArithUnit.vector (BitVec.setWidth 32 b) 4#32)
      (IntOp.muli (16#32) (BitVec.setWidth 32 (IntOp.cmpi CmpIPredicate.sge (IntOp.shrsi ArithUnit.vector (BitVec.setWidth 32 b) 4#32) 8#32))))
    = mLev (b >>> 4) := by
  have : ∀ x : Fin 256, (IntOp.subi (IntOp.shrsi ArithUnit.vector (BitVec.setWidth 32 (BitVec.ofFin (w := 8) x)) 4#32)
      (IntOp.muli (16#32) (BitVec.setWidth 32 (IntOp.cmpi CmpIPredicate.sge (IntOp.shrsi ArithUnit.vector (BitVec.setWidth 32 (BitVec.ofFin (w := 8) x)) 4#32) 8#32)))).toInt
      = (((((BitVec.ofFin (w := 8) x) >>> 4) ^^^ 0x08#8) + 0x78#8) ^^^ 0x80#8).toInt := by decide +kernel
  exact congrArg (fun n : ℤ => (((n : ℝ)) : EReal)) (this b.toFin)
theorem vlev_low (b : BitVec 8) : FloatOps.sitofp (F := Ideal) FTy.f32 (IntOp.andi (BitVec.setWidth 32 b) 15#32) + (1 : EReal) = vLev (b &&& 0x0F#8) := by
  have : ∀ x : Fin 256, (IntOp.andi (BitVec.setWidth 32 (BitVec.ofFin (w := 8) x)) 15#32).toInt + (1 : ℤ) = (((BitVec.ofFin (w := 8) x) &&& 0x0F#8) + 1#8).toInt := by decide +kernel
  have h := congrArg (fun n : ℤ => (((n : ℝ)) : EReal)) (this b.toFin)
  refine Eq.trans ?_ h
  show (((IntOp.andi (BitVec.setWidth 32 b) 15#32).toInt : ℝ) : EReal) + ((1 : ℝ) : EReal) = ((((IntOp.andi (BitVec.setWidth 32 b) 15#32).toInt + 1 : ℤ) : ℝ) : EReal)
  rw [← EReal.coe_add]; push_cast; rfl
theorem vlev_high (b : BitVec 8) : FloatOps.sitofp (F := Ideal) FTy.f32 (IntOp.shrsi ArithUnit.vector (BitVec.setWidth 32 b) 4#32) + (1 : EReal) = vLev (b >>> 4) := by
  have : ∀ x : Fin 256, (IntOp.shrsi ArithUnit.vector (BitVec.setWidth 32 (BitVec.ofFin (w := 8) x)) 4#32).toInt + (1 : ℤ) = (((BitVec.ofFin (w := 8) x) >>> 4) + 1#8).toInt := by decide +kernel
  have h := congrArg (fun n : ℤ => (((n : ℝ)) : EReal)) (this b.toFin)
  refine Eq.trans ?_ h
  show (((IntOp.shrsi ArithUnit.vector (BitVec.setWidth 32 b) 4#32).toInt : ℝ) : EReal) + ((1 : ℝ) : EReal) = ((((IntOp.shrsi ArithUnit.vector (BitVec.setWidth 32 b) 4#32).toInt + 1 : ℤ) : ℝ) : EReal)
  rw [← EReal.coe_add]; push_cast; rfl

theorem clip_m (y : EReal) : FloatOps.fptosi (F := Ideal) (φ := .f32) 8 (min (((7#32).toInt : ℝ) : EReal) (max (((4294967289#32).toInt : ℝ) : EReal)
      (Ideal.liftRound Ideal.roundHalfEven y))) = BitVec.ofInt 8 (code (-7) 7 y) := by
  have h := code_mem (a := -7) (b := 7) (by decide) y
  rw [show (7#32).toInt = 7 by decide, show (4294967289#32).toInt = -7 by decide, clip_code_zero (a := -7) (b := 7) (by decide)]
  exact fptosi_int 8 _ (by simp; omega) (by simp; omega)
theorem clip_v (y : EReal) : FloatOps.fptosi (F := Ideal) (φ := .f32) 8 (min (((15#32).toInt : ℝ) : EReal) (max (((0#32).toInt : ℝ) : EReal)
      (Ideal.liftRound Ideal.roundHalfEven y))) = BitVec.ofInt 8 (code 0 15 y) := by
  have h := code_mem (a := 0) (b := 15) (by decide) y
  rw [show (15#32).toInt = 15 by decide, show (0#32).toInt = 0 by decide, clip_code_zero (a := 0) (b := 15) (by decide)]
  exact fptosi_int 8 _ (by simp; omega) (by simp; omega)

theorem g_even (g : Vec Ideal S7x5760x2880 .fp8e4m3) (gs : Vec Ideal S7x5760 .f32) :
    k0_pay11 g gs (ix3 e s h) = g (ix3 e s ⟨h.val * 2, by omega⟩) * gs (ix2 e s) := by
  pointwise [k0_pay11, k0_pay7, k0_pay10]
theorem g_odd (g : Vec Ideal S7x5760x2880 .fp8e4m3) (gs : Vec Ideal S7x5760 .f32) :
    k0_pay12 g gs (ix3 e s h) = g (ix3 e s ⟨h.val * 2 + 1, by omega⟩) * gs (ix2 e s) := by
  pointwise [k0_pay12, k0_pay7, k0_pay10]
theorem w_even (x : Vec Ideal S7x5760x2880 .bf16) :
    k0_pay8 x (ix3 e s h) = x (ix3 e s ⟨h.val * 2, by omega⟩) := by
  pointwise [k0_pay8, k0_pay6]
theorem w_odd (x : Vec Ideal S7x5760x2880 .bf16) :
    k0_pay9 x (ix3 e s h) = x (ix3 e s ⟨h.val * 2 + 1, by omega⟩) := by
  pointwise [k0_pay9, k0_pay6]
theorem vl_even (x : Vec Ideal S7x2880 .f32) :
    k0_pay14 x (ix2 e h) = x (ix2 e ⟨h.val * 2, by omega⟩) := by
  pointwise [k0_pay14, k0_pay13]
theorem vl_odd (x : Vec Ideal S7x2880 .f32) :
    k0_pay15 x (ix2 e h) = x (ix2 e ⟨h.val * 2 + 1, by omega⟩) := by
  pointwise [k0_pay15, k0_pay13]

theorem m_even (gg : FVec Ideal S7x5760x1440 .f32) (b : Vec Ideal S7x5760x1440 .i8) (ms : Vec Ideal S7x5760x45 .f32) :
    k0_pay19 gg (k0_pay16 b) ms (ix3 e s h) = mR (mLev (b (ix3 e s h) &&& 0x0F#8)) (ms (ix3 e s ⟨h.val / 32, by omega⟩)) (gg (ix3 e s h)) := by
  pointwise [k0_pay19, k0_pay18, k0_pay16]
  rw [mlev_low, c_tenth]; rfl
theorem m_odd (gg : FVec Ideal S7x5760x1440 .f32) (b : Vec Ideal S7x5760x1440 .i8) (ms : Vec Ideal S7x5760x45 .f32) :
    k0_pay23 gg (k0_pay16 b) (k0_pay18 ms) (ix3 e s h) = mR (mLev (b (ix3 e s h) >>> 4)) (ms (ix3 e s ⟨h.val / 32, by omega⟩)) (gg (ix3 e s h)) := by
  pointwise [k0_pay23, k0_pay18, k0_pay16]
  rw [mlev_high, c_tenth]; rfl
theorem v_even (gg : FVec Ideal S7x5760x1440 .f32) (vl : FVec Ideal S7x1440 .f32) (b : Vec Ideal S7x5760x1440 .i8) (vr : Vec Ideal S7x5760 .f32) :
    k0_pay20 gg vl (k0_pay17 b) vr (ix3 e s h) = vR (vLev (b (ix3 e s h) &&& 0x0F#8)) (vr (ix2 e s)) (vl (ix2 e h)) (gg (ix3 e s h)) := by
  pointwise [k0_pay20, k0_pay17]
  rw [vlev_low, c_olb2]; rfl
theorem v_odd (gg : FVec Ideal S7x5760x1440 .f32) (vl : FVec Ideal S7x1440 .f32) (b : Vec Ideal S7x5760x1440 .i8) (vr : Vec Ideal S7x5760 .f32) :
    k0_pay24 gg vl (k0_pay17 b) vr (ix3 e s h) = vR (vLev (b (ix3 e s h) >>> 4)) (vr (ix2 e s)) (vl (ix2 e h)) (gg (ix3 e s h)) := by
  pointwise [k0_pay24, k0_pay17]
  rw [vlev_high, c_olb2]; rfl

theorem d_even (k0 k1 : Elt Ideal .f32) (w gg : FVec Ideal S7x5760x1440 .f32) (vl : FVec Ideal S7x1440 .f32) (mb vb : IVec S7x5760x1440 32)
    (vr : Vec Ideal S7x5760 .f32) (ms : Vec Ideal S7x5760x45 .f32) :
    k0_pay22 w (k0_pay21 k0 k1 gg vl mb vb vr ms) (ix3 e s h)
      = dR k0 k1 (k0_pay19 gg mb ms (ix3 e s h)) (k0_pay20 gg vl vb vr (ix3 e s h)) (w (ix3 e s h)) := by
  unfold k0_pay21
  generalize k0_pay19 gg mb ms = m
  generalize k0_pay20 gg vl vb vr = v
  pointwise [k0_pay22]
  rw [c_tenth, c_lr]; rfl
theorem d_odd (k0 k1 : Elt Ideal .f32) (w gg : FVec Ideal S7x5760x1440 .f32) (vl : FVec Ideal S7x1440 .f32) (mb vb : IVec S7x5760x1440 32)
    (vr : Vec Ideal S7x5760 .f32) (ms : FVec Ideal S7x5760x45x1 .f32) :
    k0_pay27 w (k0_pay25 k0 gg mb ms) (k0_pay26 k1 gg vl vb vr) (Scalar.ofBits .f32 0x322BCC77#32) (ix3 e s h)
      = dR k0 k1 (k0_pay23 gg mb ms (ix3 e s h)) (k0_pay24 gg vl vb vr (ix3 e s h)) (w (ix3 e s h)) := by
  unfold k0_pay25 k0_pay26
  generalize k0_pay23 gg mb ms = m
  generalize k0_pay24 gg vl vb vr = v
  pointwise [k0_pay27]
  rw [c_tenth, c_lr]; rfl
theorem pair (a b : FVec Ideal S7x5760x1440 .f32) (q : Fin 2880) :
    k0_pay3 a b (ix3 e s q) = if q.val % 2 = 0 then a (ix3 e s ⟨q.val / 2, by omega⟩) else b (ix3 e s ⟨q.val / 2, by omega⟩) := by
  pointwise [k0_pay3]
  by_cases h : q.val % 2 = 0
  · rw [dif_pos (by omega), if_pos h]
  · rw [dif_neg (by omega), if_neg h]

theorem vc_even (v : FVec Ideal S7x5760x1440 .f32) (vr : Vec Ideal S7x5760 .f32) (vl : Vec Ideal S7x2880 .f32) :
    k0_pay36 v (k0_pay34 vr) vl (ix3 e s h) = BitVec.ofInt 8 (code 0 15 (yR (v (ix3 e s h)) (vr (ix2 e s)) (vl (ix2 e ⟨h.val * 2, by omega⟩)))) := by
  pointwise [k0_pay36, k0_pay34, k0_pay35]
  exact clip_v _
theorem vc_odd (v : FVec Ideal S7x5760x1440 .f32) (vr : Vec Ideal S7x5760 .f32) (vl : Vec Ideal S7x2880 .f32) :
    k0_pay37 v (k0_pay34 vr) vl (ix3 e s h) = BitVec.ofInt 8 (code 0 15 (yR (v (ix3 e s h)) (vr (ix2 e s)) (vl (ix2 e ⟨h.val * 2 + 1, by omega⟩)))) := by
  pointwise [k0_pay37, k0_pay34, k0_pay35]
  exact clip_v _
theorem pack_m_at (a b : IVec S7x5760x1440 8) : k0_pay1 (k0_pay38 a) (k0_pay39 b) (ix3 e s h) = packRef (a (ix3 e s h)) (b (ix3 e s h)) := by
  pointwise [k0_pay1, k0_pay38, k0_pay39]
  rfl
theorem pack_v_at (a b : IVec S7x5760x1440 8) : k0_pay2 a b (ix3 e s h) = packRef (a (ix3 e s h)) (b (ix3 e s h)) := by
  pointwise [k0_pay2]
  rfl

theorem s_red (v : FVec Ideal S7x5760x45x32 .f32) (k : Fin 45) :
    multiReduction .maximumf [3] S7x5760x45 v 0xFF800000#32 reduces_S7x5760x45x32_S7x5760x45 (.inl rfl) rfl (ix3 e s k) =
      Finset.fold max (Ideal.ofBits FTy.f32 4286578688#32) (fun x : Fin 32 => v (ix4 e s k x)) Finset.univ := by
  pointwise
theorem half_e (v : FVec Ideal S7x5760x1440 .f32) (k : Fin 45) (x : Fin 32) :
    k0_pay28 v (ix4 e s k x) = v (ix3 e s ⟨k.val * 32 + x.val, by omega⟩) := by
  pointwise [k0_pay28]
theorem half_o (v : FVec Ideal S7x5760x1440 .f32) (k : Fin 45) (x : Fin 32) :
    k0_pay29 v (ix4 e s k x) = v (ix3 e s ⟨k.val * 32 + x.val, by omega⟩) := by
  pointwise [k0_pay29]
theorem scale1 (me mo : FVec Ideal S7x5760x1440 .f32) (k : Fin 45) :
    k0_pay31 me mo (ix4 e s k 0) = k0_pay30 me mo (ix3 e s k) := by
  pointwise [k0_pay31]
theorem abs_at (v : FVec Ideal S7x5760x45x32 .f32) (k : Fin 45) (x : Fin 32) : absf v (ix4 e s k x) = FloatOps.absf (F := Ideal) (φ := .f32) (v (ix4 e s k x)) := rfl
theorem sel_at (M N : FVec Ideal S7x5760x45 .f32) (k : Fin 45) :
    select (cmpf .oeq (maximumf M N) (broadcast S7x5760x45 (Scalar.ofBits .f32 0x00000000#32))) (broadcast S7x5760x45 (Scalar.ofBits (F := Ideal) .f32 0x3F800000#32))
      (divf (maximumf M N) (broadcast S7x5760x45 (Scalar.ofBits .f32 0x40E00000#32))) (ix3 e s k)
    = (if max (M (ix3 e s k)) (N (ix3 e s k)) = 0 then 1 else Ideal.div (max (M (ix3 e s k)) (N (ix3 e s k))) (Ideal.ofBits FTy.f32 1088421888#32)) := by
  pointwise
theorem s_at (me mo : FVec Ideal S7x5760x1440 .f32) (k : Fin 45) (a : EReal)
    (ha : a = max (Finset.fold max (Ideal.ofBits FTy.f32 4286578688#32) (fun x : Fin 32 => FloatOps.absf (F := Ideal) (φ := .f32) (me (ix3 e s ⟨k.val * 32 + x.val, by omega⟩))) Finset.univ)
      (Finset.fold max (Ideal.ofBits FTy.f32 4286578688#32) (fun x : Fin 32 => FloatOps.absf (F := Ideal) (φ := .f32) (mo (ix3 e s ⟨k.val * 32 + x.val, by omega⟩))) Finset.univ)) :
    k0_pay30 me mo (ix3 e s k) = if a = 0 then 1 else Ideal.div a (Ideal.ofBits FTy.f32 1088421888#32) := by
  unfold k0_pay30
  refine (sel_at _ _ _ _ _).trans ?_
  rw [s_red, s_red]
  simp only [abs_at, half_e, half_o]
  rw [← ha]
theorem flat_at (u : IVec S7x5760x45x32 8) :
    shapeCast S7x5760x1440 u shapeCasts_S7x5760x45x32_S7x5760x1440 (ix3 e s h) = u (ix4 e s ⟨h.val / 32, by omega⟩ ⟨h.val % 32, by omega⟩) := by
  pointwise
theorem code_at (a : FVec Ideal S7x5760x45x32 .f32) (u : FVec Ideal S7x5760x45x1 .f32) (k : Fin 45) (x : Fin 32) :
    fptosi 8 (minimumf (broadcast S7x5760x45x32 (Scalar.sitofp .f32 7#32)) (maximumf (broadcast S7x5760x45x32 (Scalar.sitofp .f32 4294967289#32))
      (roundeven (divf a (broadcastTo S7x5760x45x32 u broadcasts_S7x5760x45x1_S7x5760x45x32))))) (ix4 e s k x)
    = FloatOps.fptosi (F := Ideal) (φ := .f32) 8
      (min (((7#32).toInt : ℝ) : EReal)
        (max (((4294967289#32).toInt : ℝ) : EReal)
          (Ideal.liftRound Ideal.roundHalfEven (Ideal.div (a (ix4 e s k x)) (u (ix4 e s k 0)))))) := by
  pointwise
theorem mc_even (me mo : FVec Ideal S7x5760x1440 .f32) :
    k0_pay32 me mo (ix3 e s h) = BitVec.ofInt 8 (code (-7) 7 (Ideal.div (me (ix3 e s h)) (k0_pay30 me mo (ix3 e s ⟨h.val / 32, by omega⟩)))) := by
  have hh : (⟨h.val / 32 * 32 + h.val % 32, by omega⟩ : Fin 1440) = h := Fin.ext (by show h.val / 32 * 32 + h.val % 32 = h.val; omega)
  unfold k0_pay32
  refine (flat_at _ _ _ _).trans ((code_at _ _ _ _ _ _).trans ?_)
  rw [half_e, scale1]
  simp only [hh]
  exact clip_m _
theorem mc_odd (me mo : FVec Ideal S7x5760x1440 .f32) :
    k0_pay33 me mo (ix3 e s h) = BitVec.ofInt 8 (code (-7) 7 (Ideal.div (mo (ix3 e s h)) (k0_pay30 me mo (ix3 e s ⟨h.val / 32, by omega⟩)))) := by
  have hh : (⟨h.val / 32 * 32 + h.val % 32, by omega⟩ : Fin 1440) = h := Fin.ext (by show h.val / 32 * 32 + h.val % 32 = h.val; omega)
  unfold k0_pay33
  refine (flat_at _ _ _ _).trans ((code_at _ _ _ _ _ _).trans ?_)
  rw [half_o, scale1]
  simp only [hh]
  exact clip_m _

end Cert.RefPay
end
-- ==== Proof.RefOut.lean ====
/- The reference's results, element by element, from the blocks it loads. -/
module

public import proofs.«01_k».proof.Proof.RefPay
public import Idealize.ShloMosaic.Lib.Pipeline.ValueKit

@[expose] public section

set_option maxRecDepth 16384

noncomputable section

namespace Cert.RefOut

open Idealize.ShloMosaic Idealize.ShloMosaic.TcCoe Idealize.ShloMosaic.Tactic Idealize.SL.Sem
open Cert.ReferenceIdeal Cert.ReferenceIdeal.Gen Cert.Scalar Cert.Spec Cert.RefSpec Cert.RefPay

/-! A load of a whole block is the block. -/

theorem ld_2 {φ : EltTy} (x : Vec Ideal S7x5760x2880 φ) : View.ld x r0_2 = x := View.ld_unit_zero (by decide) _ _
theorem ld_3 {φ : EltTy} (x : Vec Ideal S7x5760 φ) : View.ld x r0_3 = x := View.ld_unit_zero (by decide) _ _
theorem ld_4 {φ : EltTy} (x : Vec Ideal S7x2880 φ) : View.ld x r0_4 = x := View.ld_unit_zero (by decide) _ _
theorem ld_5 {φ : EltTy} (x : Vec Ideal S7x5760x1440 φ) : View.ld x r0_5 = x := View.ld_unit_zero (by decide) _ _
theorem ld_6 {φ : EltTy} (x : Vec Ideal S7x5760x45 φ) : View.ld x r0_6 = x := View.ld_unit_zero (by decide) _ _

section blocks
variable (x0 : Vec Ideal S1x2 .f32) (x1 : Vec Ideal S7x5760x2880 .bf16) (x2 : Vec Ideal S7x5760x2880 .fp8e4m3) (x3 : Vec Ideal S7x5760 .f32) (x4 : Vec Ideal S7x5760x1440 .i8) (x5 : Vec Ideal S7x5760x45 .f32) (x6 : Vec Ideal S7x5760x1440 .i8) (x7 : Vec Ideal S7x5760 .f32) (x8 : Vec Ideal S7x2880 .f32) (x9 : Vec Ideal S7x5760 .f32) (x10 : Vec Ideal S7x2880 .f32)

/-- The blocks as the step's arrays, with the step count `t`. -/
def arrsX (t : BitVec 32) : Arrs where
  w e s q := x1 (ix3 e s q)
  g e s q := x2 (ix3 e s q)
  gs e s := x3 (ix2 e s)
  t := t
  mc e s q := x4 (ix3 e s q)
  ms e s k := x5 (ix3 e s k)
  vc e s q := x6 (ix3 e s q)
  vr e s := x7 (ix2 e s)
  vl e q := x8 (ix2 e q)
  vrn e s := x9 (ix2 e s)
  vln e q := x10 (ix2 e q)

variable (t : BitVec 32) (e : Fin 7) (s : Fin 5760)

theorem k0_at : k0_pay4 (F := Ideal) (View.ld x0 r0_0) = x0 (ix2 0 0) := by
  refine congrArg x0 (funext fun a => ?_)
  fin_cases a <;> rfl
theorem k1_at : k0_pay5 (F := Ideal) (View.ld x0 r0_1) = x0 (ix2 0 1) := by
  refine congrArg x0 (funext fun a => ?_)
  fin_cases a <;> rfl

theorem half_even (h : Fin 1440) : (⟨h.val * 2 / 2, by omega⟩ : Fin 1440) = h := Fin.ext (by show h.val * 2 / 2 = h.val; omega)
theorem half_odd (h : Fin 1440) : (⟨(h.val * 2 + 1) / 2, by omega⟩ : Fin 1440) = h := Fin.ext (by show (h.val * 2 + 1) / 2 = h.val; omega)
theorem block_even (h : Fin 1440) : (⟨h.val * 2 / 64, by omega⟩ : Fin 45) = ⟨h.val / 32, by omega⟩ := Fin.ext (by show h.val * 2 / 64 = h.val / 32; omega)
theorem block_odd (h : Fin 1440) : (⟨(h.val * 2 + 1) / 64, by omega⟩ : Fin 45) = ⟨h.val / 32, by omega⟩ := Fin.ext (by show (h.val * 2 + 1) / 64 = h.val / 32; omega)
theorem nib_even (b : BitVec 8) (h : ℕ) : nib b (h * 2) = b &&& 0x0F#8 := if_pos (by omega)
theorem nib_odd (b : BitVec 8) (h : ℕ) : nib b (h * 2 + 1) = b >>> 4 := if_neg (by omega)

theorem me_at (h : Fin 1440) : k0_pay47 x0 x1 x2 x3 x4 x5 x6 x7 x8 x9 x10 (ix3 e s h) = RM (arrsX x1 x2 x3 x4 x5 x6 x7 x8 x9 x10 t) e s ⟨h.val * 2, by omega⟩ := by
  unfold k0_pay47 k0_pay40 k0_pay44
  rw [ld_2, ld_3, ld_5, ld_6, m_even, g_even]
  unfold RM RG
  dsimp only [arrsX]
  rw [nib_even, half_even, block_even]
theorem mo_at (h : Fin 1440) : k0_pay48 x0 x1 x2 x3 x4 x5 x6 x7 x8 x9 x10 (ix3 e s h) = RM (arrsX x1 x2 x3 x4 x5 x6 x7 x8 x9 x10 t) e s ⟨h.val * 2 + 1, by omega⟩ := by
  unfold k0_pay48 k0_pay41 k0_pay44 k0_pay46
  rw [ld_2, ld_3, ld_5, ld_6, m_odd, g_odd]
  unfold RM RG
  dsimp only [arrsX]
  rw [nib_odd, half_odd, block_odd]
theorem ve_at (h : Fin 1440) : k0_pay20 (k0_pay40 x0 x1 x2 x3 x4 x5 x6 x7 x8 x9 x10) (k0_pay42 x0 x1 x2 x3 x4 x5 x6 x7 x8 x9 x10) (k0_pay45 x0 x1 x2 x3 x4 x5 x6 x7 x8 x9 x10) (View.ld x7 r0_3) (ix3 e s h) = RV (arrsX x1 x2 x3 x4 x5 x6 x7 x8 x9 x10 t) e s ⟨h.val * 2, by omega⟩ := by
  unfold k0_pay40 k0_pay42 k0_pay45
  rw [ld_2, ld_3, ld_3, ld_4, ld_5, v_even, g_even, vl_even]
  unfold RV RG
  dsimp only [arrsX]
  rw [nib_even, half_even]
theorem vo_at (h : Fin 1440) : k0_pay24 (k0_pay41 x0 x1 x2 x3 x4 x5 x6 x7 x8 x9 x10) (k0_pay43 x0 x1 x2 x3 x4 x5 x6 x7 x8 x9 x10) (k0_pay45 x0 x1 x2 x3 x4 x5 x6 x7 x8 x9 x10) (View.ld x7 r0_3) (ix3 e s h) = RV (arrsX x1 x2 x3 x4 x5 x6 x7 x8 x9 x10 t) e s ⟨h.val * 2 + 1, by omega⟩ := by
  unfold k0_pay41 k0_pay43 k0_pay45
  rw [ld_2, ld_3, ld_3, ld_4, ld_5, v_odd, g_odd, vl_odd]
  unfold RV RG
  dsimp only [arrsX]
  rw [nib_odd, half_odd]

theorem de_at (h0 : x0 (ix2 0 0) = bias 0x3F666666#32 t) (h1 : x0 (ix2 0 1) = bias 0x3F7FBE77#32 t) (h : Fin 1440) :
    k0_pay22 (k0_pay8 (View.ld x1 r0_2)) (k0_pay21 (k0_pay4 (View.ld x0 r0_0)) (k0_pay5 (View.ld x0 r0_1)) (k0_pay40 x0 x1 x2 x3 x4 x5 x6 x7 x8 x9 x10) (k0_pay42 x0 x1 x2 x3 x4 x5 x6 x7 x8 x9 x10) (k0_pay44 x0 x1 x2 x3 x4 x5 x6 x7 x8 x9 x10) (k0_pay45 x0 x1 x2 x3 x4 x5 x6 x7 x8 x9 x10) (View.ld x7 r0_3) (View.ld x5 r0_6)) (ix3 e s h)
      = RD (arrsX x1 x2 x3 x4 x5 x6 x7 x8 x9 x10 t) e s ⟨h.val * 2, by omega⟩ := by
  have hm := me_at x0 x1 x2 x3 x4 x5 x6 x7 x8 x9 x10 t e s h
  unfold k0_pay47 at hm
  rw [d_even, hm, ve_at x0 x1 x2 x3 x4 x5 x6 x7 x8 x9 x10 t e s h, k0_at, k1_at, h0, h1, ld_2, w_even]
  rfl
theorem do_at (h0 : x0 (ix2 0 0) = bias 0x3F666666#32 t) (h1 : x0 (ix2 0 1) = bias 0x3F7FBE77#32 t) (h : Fin 1440) :
    k0_pay27 (k0_pay9 (View.ld x1 r0_2)) (k0_pay25 (k0_pay4 (View.ld x0 r0_0)) (k0_pay41 x0 x1 x2 x3 x4 x5 x6 x7 x8 x9 x10) (k0_pay44 x0 x1 x2 x3 x4 x5 x6 x7 x8 x9 x10) (k0_pay46 x0 x1 x2 x3 x4 x5 x6 x7 x8 x9 x10)) (k0_pay26 (k0_pay5 (View.ld x0 r0_1)) (k0_pay41 x0 x1 x2 x3 x4 x5 x6 x7 x8 x9 x10) (k0_pay43 x0 x1 x2 x3 x4 x5 x6 x7 x8 x9 x10) (k0_pay45 x0 x1 x2 x3 x4 x5 x6 x7 x8 x9 x10) (View.ld x7 r0_3)) (Scalar.ofBits .f32 0x322BCC77#32) (ix3 e s h)
      = RD (arrsX x1 x2 x3 x4 x5 x6 x7 x8 x9 x10 t) e s ⟨h.val * 2 + 1, by omega⟩ := by
  have hm := mo_at x0 x1 x2 x3 x4 x5 x6 x7 x8 x9 x10 t e s h
  unfold k0_pay48 at hm
  rw [d_odd, hm, vo_at x0 x1 x2 x3 x4 x5 x6 x7 x8 x9 x10 t e s h, k0_at, k1_at, h0, h1, ld_2, w_odd]
  rfl

/-- The first result: the step. -/
theorem out11_at (h0 : x0 (ix2 0 0) = bias 0x3F666666#32 t) (h1 : x0 (ix2 0 1) = bias 0x3F7FBE77#32 t) (q : Fin 2880) :
    out0_11 x0 x1 x2 x3 x4 x5 x6 x7 x8 x9 x10 (ix3 e s q) = RD (arrsX x1 x2 x3 x4 x5 x6 x7 x8 x9 x10 t) e s q := by
  unfold out0_11
  rw [View.canon_cons_unit_lit _ _ _ (by decide), pair, de_at x0 x1 x2 x3 x4 x5 x6 x7 x8 x9 x10 t e s h0 h1, do_at x0 x1 x2 x3 x4 x5 x6 x7 x8 x9 x10 t e s h0 h1]
  split
  · exact congrArg (RD (arrsX x1 x2 x3 x4 x5 x6 x7 x8 x9 x10 t) e s) (Fin.ext (by show q.val / 2 * 2 = q.val; omega))
  · exact congrArg (RD (arrsX x1 x2 x3 x4 x5 x6 x7 x8 x9 x10 t) e s) (Fin.ext (by show q.val / 2 * 2 + 1 = q.val; omega))

theorem sc_at (k : Fin 45) : k0_pay30 (k0_pay47 x0 x1 x2 x3 x4 x5 x6 x7 x8 x9 x10) (k0_pay48 x0 x1 x2 x3 x4 x5 x6 x7 x8 x9 x10) (ix3 e s k) = RS (arrsX x1 x2 x3 x4 x5 x6 x7 x8 x9 x10 t) e s k := by
  refine s_at e s _ _ k (RA (arrsX x1 x2 x3 x4 x5 x6 x7 x8 x9 x10 t) e s k) ?_
  simp only [me_at x0 x1 x2 x3 x4 x5 x6 x7 x8 x9 x10 t, mo_at x0 x1 x2 x3 x4 x5 x6 x7 x8 x9 x10 t]
  rfl

/-- The third result: the first moment's scales. -/
theorem out13_at (k : Fin 45) : out0_13 x0 x1 x2 x3 x4 x5 x6 x7 x8 x9 x10 (ix3 e s k) = RS (arrsX x1 x2 x3 x4 x5 x6 x7 x8 x9 x10 t) e s k := by
  unfold out0_13
  rw [View.canon_cons_unit_lit _ _ _ (by decide)]
  exact sc_at x0 x1 x2 x3 x4 x5 x6 x7 x8 x9 x10 t e s k

/-- The second result: the first moment's codes. -/
theorem out12_at (h : Fin 1440) : out0_12 x0 x1 x2 x3 x4 x5 x6 x7 x8 x9 x10 (ix3 e s h) = RMC (arrsX x1 x2 x3 x4 x5 x6 x7 x8 x9 x10 t) e s h := by
  unfold out0_12
  rw [View.canon_cons_unit_lit _ _ _ (by decide), pack_m_at, mc_even, mc_odd, me_at x0 x1 x2 x3 x4 x5 x6 x7 x8 x9 x10 t, mo_at x0 x1 x2 x3 x4 x5 x6 x7 x8 x9 x10 t, sc_at x0 x1 x2 x3 x4 x5 x6 x7 x8 x9 x10 t]
  rfl

/-- The fourth result: the second moment's codes. -/
theorem out14_at (h : Fin 1440) : out0_14 x0 x1 x2 x3 x4 x5 x6 x7 x8 x9 x10 (ix3 e s h) = RVC (arrsX x1 x2 x3 x4 x5 x6 x7 x8 x9 x10 t) e s h := by
  unfold out0_14 k0_pay49
  rw [View.canon_cons_unit_lit _ _ _ (by decide), pack_v_at, vc_even, vc_odd, ve_at x0 x1 x2 x3 x4 x5 x6 x7 x8 x9 x10 t, vo_at x0 x1 x2 x3 x4 x5 x6 x7 x8 x9 x10 t, ld_3, ld_4]
  rfl

end blocks

end Cert.RefOut
end
-- ==== Proof.RefWindows.lean ====
/- The reference's windows: each is its whole array. -/
module

public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.RefWindows

open Idealize.ShloMosaic Idealize.ShloMosaic.TcCoe Idealize.ShloMosaic.Tactic Idealize.SL.Sem
open Cert.ReferenceIdeal Cert.ReferenceIdeal.Gen

theorem idx : ∀ t : Fin grid0.N,
  win0_0.index t = ![0, 0]
  ∧ win0_1.index t = ![0, 0, 0]
  ∧ win0_2.index t = ![0, 0, 0]
  ∧ win0_3.index t = ![0, 0]
  ∧ win0_4.index t = ![0, 0, 0]
  ∧ win0_5.index t = ![0, 0, 0]
  ∧ win0_6.index t = ![0, 0, 0]
  ∧ win0_7.index t = ![0, 0]
  ∧ win0_8.index t = ![0, 0]
  ∧ win0_9.index t = ![0, 0]
  ∧ win0_10.index t = ![0, 0]
  ∧ win0_11.index t = ![0, 0, 0]
  ∧ win0_12.index t = ![0, 0, 0]
  ∧ win0_13.index t = ![0, 0, 0]
  ∧ win0_14.index t = ![0, 0, 0] := by decide +kernel

section reads
variable (t : Fin cfg0.N)
theorem rd0 (X : S1x2.Idx → Elt Ideal .f32) (a : Fin 1) (b : Fin 2) : ((cfg0.win 0).blk t).view.read (Elt Ideal) X (ix2 a b) = X (ix2 a b) := by
  blk_ext [idx t]
theorem rd1 (X : S7x5760x2880.Idx → Elt Ideal .bf16) (a : Fin 7) (b : Fin 5760) (d : Fin 2880) : ((cfg0.win 1).blk t).view.read (Elt Ideal) X (ix3 a b d) = X (ix3 a b d) := by
  blk_ext [idx t]
theorem rd2 (X : S7x5760x2880.Idx → Elt Ideal .fp8e4m3) (a : Fin 7) (b : Fin 5760) (d : Fin 2880) : ((cfg0.win 2).blk t).view.read (Elt Ideal) X (ix3 a b d) = X (ix3 a b d) := by
  blk_ext [idx t]
theorem rd3 (X : S7x5760.Idx → Elt Ideal .f32) (a : Fin 7) (b : Fin 5760) : ((cfg0.win 3).blk t).view.read (Elt Ideal) X (ix2 a b) = X (ix2 a b) := by
  blk_ext [idx t]
theorem rd4 (X : S7x5760x1440.Idx → Elt Ideal .i8) (a : Fin 7) (b : Fin 5760) (d : Fin 1440) : ((cfg0.win 4).blk t).view.read (Elt Ideal) X (ix3 a b d) = X (ix3 a b d) := by
  blk_ext [idx t]
theorem rd5 (X : S7x5760x45.Idx → Elt Ideal .f32) (a : Fin 7) (b : Fin 5760) (d : Fin 45) : ((cfg0.win 5).blk t).view.read (Elt Ideal) X (ix3 a b d) = X (ix3 a b d) := by
  blk_ext [idx t]
theorem rd6 (X : S7x5760x1440.Idx → Elt Ideal .i8) (a : Fin 7) (b : Fin 5760) (d : Fin 1440) : ((cfg0.win 6).blk t).view.read (Elt Ideal) X (ix3 a b d) = X (ix3 a b d) := by
  blk_ext [idx t]
theorem rd7 (X : S7x5760.Idx → Elt Ideal .f32) (a : Fin 7) (b : Fin 5760) : ((cfg0.win 7).blk t).view.read (Elt Ideal) X (ix2 a b) = X (ix2 a b) := by
  blk_ext [idx t]
theorem rd8 (X : S7x2880.Idx → Elt Ideal .f32) (a : Fin 7) (b : Fin 2880) : ((cfg0.win 8).blk t).view.read (Elt Ideal) X (ix2 a b) = X (ix2 a b) := by
  blk_ext [idx t]
theorem rd9 (X : S7x5760.Idx → Elt Ideal .f32) (a : Fin 7) (b : Fin 5760) : ((cfg0.win 9).blk t).view.read (Elt Ideal) X (ix2 a b) = X (ix2 a b) := by
  blk_ext [idx t]
theorem rd10 (X : S7x2880.Idx → Elt Ideal .f32) (a : Fin 7) (b : Fin 2880) : ((cfg0.win 10).blk t).view.read (Elt Ideal) X (ix2 a b) = X (ix2 a b) := by
  blk_ext [idx t]
theorem rd11 (X : S7x5760x2880.Idx → Elt Ideal .f32) (a : Fin 7) (b : Fin 5760) (d : Fin 2880) : ((cfg0.win 11).blk t).view.read (Elt Ideal) X (ix3 a b d) = X (ix3 a b d) := by
  blk_ext [idx t]
theorem rd12 (X : S7x5760x1440.Idx → Elt Ideal .i8) (a : Fin 7) (b : Fin 5760) (d : Fin 1440) : ((cfg0.win 12).blk t).view.read (Elt Ideal) X (ix3 a b d) = X (ix3 a b d) := by
  blk_ext [idx t]
theorem rd13 (X : S7x5760x45.Idx → Elt Ideal .f32) (a : Fin 7) (b : Fin 5760) (d : Fin 45) : ((cfg0.win 13).blk t).view.read (Elt Ideal) X (ix3 a b d) = X (ix3 a b d) := by
  blk_ext [idx t]
theorem rd14 (X : S7x5760x1440.Idx → Elt Ideal .i8) (a : Fin 7) (b : Fin 5760) (d : Fin 1440) : ((cfg0.win 14).blk t).view.read (Elt Ideal) X (ix3 a b d) = X (ix3 a b d) := by
  blk_ext [idx t]
end reads

end Cert.RefWindows
end
-- ==== Proof.RefArrays.lean ====
/- The reference's four result arrays, element by element, from its argument arrays. -/
module

public import proofs.«01_k».proof.Proof.RefOut
public import proofs.«01_k».proof.Proof.RefWindows
public import Idealize.ShloMosaic.Lib.StableHlo.ReadAt

@[expose] public section

set_option maxRecDepth 16384

noncomputable section

namespace Cert.RefArrays

open Idealize.ShloMosaic Idealize.ShloMosaic.TcCoe Idealize.ShloMosaic.Tactic Idealize.SL.Sem
open Cert.ReferenceIdeal Cert.ReferenceIdeal.Gen Cert.Spec Cert.RefSpec Cert.RefWindows Cert.RefOut

variable (m : (ℓ : Loc nD τ sig) → Buf (Elt Ideal) ℓ) (c : Dev nD)

/-- The argument arrays. -/
def arrs : Arrs where
  w e s q := m ((c : Thread nD τ).loc main_arg0) (ix3 e s q)
  g e s q := m ((c : Thread nD τ).loc main_arg1) (ix3 e s q)
  gs e s := m ((c : Thread nD τ).loc main_arg2) (ix2 e s)
  t := m ((c : Thread nD τ).loc main_arg3) ix0
  mc e s q := m ((c : Thread nD τ).loc main_arg4) (ix3 e s q)
  ms e s k := m ((c : Thread nD τ).loc main_arg5) (ix3 e s k)
  vc e s q := m ((c : Thread nD τ).loc main_arg6) (ix3 e s q)
  vr e s := m ((c : Thread nD τ).loc main_arg7) (ix2 e s)
  vl e q := m ((c : Thread nD τ).loc main_arg8) (ix2 e q)
  vrn e s := m ((c : Thread nD τ).loc main_arg9) (ix2 e s)
  vln e q := m ((c : Thread nD τ).loc main_arg10) (ix2 e q)

/-! The two bias corrections, computed by the host. -/

theorem k0_host : (V m c main_v8 : S1x2.Idx → EReal) (ix2 0 0) = bias 0x3F666666#32 (m ((c : Thread nD τ).loc main_arg3) ix0) := by
  unfold V
  simp only [hostOps0, List.flatten_cons, List.flatten_nil, List.append_nil, List.cons_append, List.nil_append]
  after_reads_at
  after_reads_at
  rfl
theorem k1_host : (V m c main_v8 : S1x2.Idx → EReal) (ix2 0 1) = bias 0x3F7FBE77#32 (m ((c : Thread nD τ).loc main_arg3) ix0) := by
  unfold V
  simp only [hostOps0, List.flatten_cons, List.flatten_nil, List.append_nil, List.cons_append, List.nil_append]
  after_reads_at
  after_reads_at
  rfl

section point
variable (t : Fin cfg0.N)

theorem i0_eq : iblk m c 0 t = ((cfg0.win 0).blk t).view.read (Elt Ideal) (V m c main_v8) := by sl_kernel_rfl
theorem i1_eq : iblk m c 1 t = ((cfg0.win 1).blk t).view.read (Elt Ideal) (V m c main_arg0) := by sl_kernel_rfl
theorem i2_eq : iblk m c 2 t = ((cfg0.win 2).blk t).view.read (Elt Ideal) (V m c main_arg1) := by sl_kernel_rfl
theorem i3_eq : iblk m c 3 t = ((cfg0.win 3).blk t).view.read (Elt Ideal) (V m c main_arg2) := by sl_kernel_rfl
theorem i4_eq : iblk m c 4 t = ((cfg0.win 4).blk t).view.read (Elt Ideal) (V m c main_arg4) := by sl_kernel_rfl
theorem i5_eq : iblk m c 5 t = ((cfg0.win 5).blk t).view.read (Elt Ideal) (V m c main_arg5) := by sl_kernel_rfl
theorem i6_eq : iblk m c 6 t = ((cfg0.win 6).blk t).view.read (Elt Ideal) (V m c main_arg6) := by sl_kernel_rfl
theorem i7_eq : iblk m c 7 t = ((cfg0.win 7).blk t).view.read (Elt Ideal) (V m c main_arg7) := by sl_kernel_rfl
theorem i8_eq : iblk m c 8 t = ((cfg0.win 8).blk t).view.read (Elt Ideal) (V m c main_arg8) := by sl_kernel_rfl
theorem i9_eq : iblk m c 9 t = ((cfg0.win 9).blk t).view.read (Elt Ideal) (V m c main_arg9) := by sl_kernel_rfl
theorem i10_eq : iblk m c 10 t = ((cfg0.win 10).blk t).view.read (Elt Ideal) (V m c main_arg10) := by sl_kernel_rfl
theorem k0_at0 : (iblk m c 0 t : S1x2.Idx → EReal) (ix2 0 0) = bias 0x3F666666#32 (arrs m c).t := by
  rw [i0_eq]; exact (rd0 t (V m c main_v8) 0 0).trans (k0_host m c)
theorem k0_at1 : (iblk m c 0 t : S1x2.Idx → EReal) (ix2 0 1) = bias 0x3F7FBE77#32 (arrs m c).t := by
  rw [i0_eq]; exact (rd0 t (V m c main_v8) 0 1).trans (k1_host m c)

theorem i1_at (e : Fin 7) (s : Fin 5760) (q : Fin 2880) : (iblk m c 1 t : S7x5760x2880.Idx → Elt Ideal .bf16) (ix3 e s q) = (arrs m c).w e s q := by
  rw [i1_eq]; exact (rd1 t (V m c main_arg0) e s q).trans (congrFun (V_main_arg0 m c) _)
theorem i2_at (e : Fin 7) (s : Fin 5760) (q : Fin 2880) : (iblk m c 2 t : S7x5760x2880.Idx → Elt Ideal .fp8e4m3) (ix3 e s q) = (arrs m c).g e s q := by
  rw [i2_eq]; exact (rd2 t (V m c main_arg1) e s q).trans (congrFun (V_main_arg1 m c) _)
theorem i3_at (e : Fin 7) (s : Fin 5760) : (iblk m c 3 t : S7x5760.Idx → Elt Ideal .f32) (ix2 e s) = (arrs m c).gs e s := by
  rw [i3_eq]; exact (rd3 t (V m c main_arg2) e s).trans (congrFun (V_main_arg2 m c) _)
theorem i4_at (e : Fin 7) (s : Fin 5760) (q : Fin 1440) : (iblk m c 4 t : S7x5760x1440.Idx → Elt Ideal .i8) (ix3 e s q) = (arrs m c).mc e s q := by
  rw [i4_eq]; exact (rd4 t (V m c main_arg4) e s q).trans (congrFun (V_main_arg4 m c) _)
theorem i5_at (e : Fin 7) (s : Fin 5760) (q : Fin 45) : (iblk m c 5 t : S7x5760x45.Idx → Elt Ideal .f32) (ix3 e s q) = (arrs m c).ms e s q := by
  rw [i5_eq]; exact (rd5 t (V m c main_arg5) e s q).trans (congrFun (V_main_arg5 m c) _)
theorem i6_at (e : Fin 7) (s : Fin 5760) (q : Fin 1440) : (iblk m c 6 t : S7x5760x1440.Idx → Elt Ideal .i8) (ix3 e s q) = (arrs m c).vc e s q := by
  rw [i6_eq]; exact (rd6 t (V m c main_arg6) e s q).trans (congrFun (V_main_arg6 m c) _)
theorem i7_at (e : Fin 7) (s : Fin 5760) : (iblk m c 7 t : S7x5760.Idx → Elt Ideal .f32) (ix2 e s) = (arrs m c).vr e s := by
  rw [i7_eq]; exact (rd7 t (V m c main_arg7) e s).trans (congrFun (V_main_arg7 m c) _)
theorem i8_at (e : Fin 7) (q : Fin 2880) : (iblk m c 8 t : S7x2880.Idx → Elt Ideal .f32) (ix2 e q) = (arrs m c).vl e q := by
  rw [i8_eq]; exact (rd8 t (V m c main_arg8) e q).trans (congrFun (V_main_arg8 m c) _)
theorem i9_at (e : Fin 7) (s : Fin 5760) : (iblk m c 9 t : S7x5760.Idx → Elt Ideal .f32) (ix2 e s) = (arrs m c).vrn e s := by
  rw [i9_eq]; exact (rd9 t (V m c main_arg9) e s).trans (congrFun (V_main_arg9 m c) _)
theorem i10_at (e : Fin 7) (q : Fin 2880) : (iblk m c 10 t : S7x2880.Idx → Elt Ideal .f32) (ix2 e q) = (arrs m c).vln e q := by
  rw [i10_eq]; exact (rd10 t (V m c main_arg10) e q).trans (congrFun (V_main_arg10 m c) _)

/-- The blocks are the argument arrays. -/
theorem arrs_eq : arrsX (iblk m c 1 t) (iblk m c 2 t) (iblk m c 3 t) (iblk m c 4 t) (iblk m c 5 t) (iblk m c 6 t) (iblk m c 7 t) (iblk m c 8 t) (iblk m c 9 t) (iblk m c 10 t) (arrs m c).t = arrs m c := by
  unfold arrsX
  simp only [i1_at, i2_at, i3_at, i4_at, i5_at, i6_at, i7_at, i8_at, i9_at, i10_at]

end point

/-- The one grid point. -/
def p0 : Fin cfg0.N := ⟨0, by decide⟩

section arrays
variable (e : Fin 7) (s : Fin 5760)

/-- Result array 0 of the reference. -/
theorem out11 (q : Fin 2880) : ((dats m 0 c).arrAt 11 cfg0.N : S7x5760x2880.Idx → Elt Ideal .f32) (ix3 e s q) = RD (arrs m c) e s q := by
  rw [← rd11 p0 ((dats m 0 c).arrAt 11 cfg0.N) e s q, Value.blocks11 m c p0 (flush0_11 p0)]
  show ((dats m 0 c).after 11 p0 : S7x5760x2880.Idx → Elt Ideal .f32) (ix3 e s q) = _
  rw [after0_11]
  refine (out11_at (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (arrs m c).t e s (k0_at0 m c p0) (k0_at1 m c p0) q).trans ?_
  rw [arrs_eq]
/-- Result array 1 of the reference. -/
theorem out12 (q : Fin 1440) : ((dats m 0 c).arrAt 12 cfg0.N : S7x5760x1440.Idx → Elt Ideal .i8) (ix3 e s q) = RMC (arrs m c) e s q := by
  rw [← rd12 p0 ((dats m 0 c).arrAt 12 cfg0.N) e s q, Value.blocks12 m c p0 (flush0_12 p0)]
  show ((dats m 0 c).after 12 p0 : S7x5760x1440.Idx → Elt Ideal .i8) (ix3 e s q) = _
  rw [after0_12]
  refine (out12_at (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (arrs m c).t e s q).trans ?_
  rw [arrs_eq]
/-- Result array 2 of the reference. -/
theorem out13 (q : Fin 45) : ((dats m 0 c).arrAt 13 cfg0.N : S7x5760x45.Idx → Elt Ideal .f32) (ix3 e s q) = RS (arrs m c) e s q := by
  rw [← rd13 p0 ((dats m 0 c).arrAt 13 cfg0.N) e s q, Value.blocks13 m c p0 (flush0_13 p0)]
  show ((dats m 0 c).after 13 p0 : S7x5760x45.Idx → Elt Ideal .f32) (ix3 e s q) = _
  rw [after0_13]
  refine (out13_at (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (arrs m c).t e s q).trans ?_
  rw [arrs_eq]
/-- Result array 3 of the reference. -/
theorem out14 (q : Fin 1440) : ((dats m 0 c).arrAt 14 cfg0.N : S7x5760x1440.Idx → Elt Ideal .i8) (ix3 e s q) = RVC (arrs m c) e s q := by
  rw [← rd14 p0 ((dats m 0 c).arrAt 14 cfg0.N) e s q, Value.blocks14 m c p0 (flush0_14 p0)]
  show ((dats m 0 c).after 14 p0 : S7x5760x1440.Idx → Elt Ideal .i8) (ix3 e s q) = _
  rw [after0_14]
  refine (out14_at (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (arrs m c).t e s q).trans ?_
  rw [arrs_eq]
end arrays

end Cert.RefArrays
end
-- ==== Proof.Algebraic.lean ====
/- The value claim: on sound states the kernel's results are the reference's. -/
module

public import proofs.«01_k».proof.Proof.PreRead
public import proofs.«01_k».proof.Proof.Results
public import proofs.«01_k».proof.Proof.RefArrays
public import proofs.«01_k».proof.Proof.Gen.KernelIdeal
public import proofs.«01_k».proof.Proof.Gen.ReferenceIdeal

@[expose] public section

set_option maxRecDepth 16384

noncomputable section

namespace Cert.Algebraic

open Idealize.ShloMosaic Idealize.SL.Sem Cert.Spec Cert.RefSpec Cert.Equation

/-- Two functions on a three-dimensional array agree when they agree at each index. -/
theorem ext3 {n0 n1 n2 : ℕ} {α : Type} {x y : (⟨3, ![n0, n1, n2]⟩ : Shape).Idx → α}
    (h : ∀ (a : Fin n0) (b : Fin n1) (d : Fin n2), x (ix3 a b d) = y (ix3 a b d)) : x = y := by
  funext i
  have e : i = ix3 (i 0) (i 1) (i 2) := by
    funext a
    match a with
    | ⟨0, _⟩ => rfl
    | ⟨1, _⟩ => rfl
    | ⟨2, _⟩ => rfl
  rw [e]
  exact h _ _ _

section core
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (c : Dev Cert.KernelIdeal.nD)

/-- The two programs are launched on the same arrays. -/
theorem same_arrs
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.RefArrays.arrs m' c = Cert.Arrays.arrs m c := by
  unfold Cert.RefArrays.arrs Cert.Arrays.arrs
  congr 1
  · funext e s q; exact congrFun a0 _
  · funext e s q; exact congrFun a1 _
  · funext e s; exact congrFun a2 _
  · exact congrFun a3 _
  · funext e s q; exact congrFun a4 _
  · funext e s q; exact congrFun a5 _
  · funext e s q; exact congrFun a6 _
  · funext e s; exact congrFun a7 _
  · funext e q; exact congrFun a8 _
  · funext e s; exact congrFun a9 _
  · funext e q; exact congrFun a10 _

theorem sound_arrs (h : Cert.Pre_KernelIdeal_states_sound m) : Sound (Cert.Arrays.arrs m c) :=
  Cert.PreRead.sound _ _ _ _ _ _ _ _ _ _ _ (Cert.Arrays.arrs m c) (h c) rfl (fun _ _ _ => rfl) (fun _ _ => rfl) (fun _ _ => rfl) (fun _ _ => rfl) (fun _ _ => rfl)

variable (hs : Sound (Cert.Arrays.arrs m c)) (ha : Cert.RefArrays.arrs m' c = Cert.Arrays.arrs m c)

include hs ha in
theorem res0 : ((Cert.ReferenceIdeal.Gen.dats m' 0 c).arrAt 11 Cert.ReferenceIdeal.cfg0.N : Cert.KernelIdeal.S7x5760x2880.Idx → Elt Ideal .f32)
    = (Cert.KernelIdeal.Gen.dats m 0 c).arrAt 14 Cert.KernelIdeal.cfg0.N := by
  refine ext3 fun e s q => ?_
  refine (Cert.RefArrays.out11 m' c e s q).trans (Eq.trans ?_ (Cert.Results.out14 m c hs.ms e s q).symm)
  rw [ha]
  exact (KD_eq (Cert.Arrays.arrs m c) e s hs q).symm
include hs ha in
theorem res1 : ((Cert.ReferenceIdeal.Gen.dats m' 0 c).arrAt 12 Cert.ReferenceIdeal.cfg0.N : Cert.KernelIdeal.S7x5760x1440.Idx → Elt Ideal .i8)
    = (Cert.KernelIdeal.Gen.dats m 0 c).arrAt 15 Cert.KernelIdeal.cfg0.N := by
  refine ext3 fun e s q => ?_
  refine (Cert.RefArrays.out12 m' c e s q).trans (Eq.trans ?_ (Cert.Results.out15 m c hs.ms e s q).symm)
  rw [ha]
  exact (KMC_eq (Cert.Arrays.arrs m c) e s q).symm
include hs ha in
theorem res2 : ((Cert.ReferenceIdeal.Gen.dats m' 0 c).arrAt 13 Cert.ReferenceIdeal.cfg0.N : Cert.KernelIdeal.S7x5760x45.Idx → Elt Ideal .f32)
    = (Cert.KernelIdeal.Gen.dats m 0 c).arrAt 16 Cert.KernelIdeal.cfg0.N := by
  refine ext3 fun e s q => ?_
  refine (Cert.RefArrays.out13 m' c e s q).trans (Eq.trans ?_ (Cert.Results.out16 m c hs.ms e s q).symm)
  rw [ha]
  exact (KS_eq (Cert.Arrays.arrs m c) e s q).symm
include hs ha in
theorem res3 : ((Cert.ReferenceIdeal.Gen.dats m' 0 c).arrAt 14 Cert.ReferenceIdeal.cfg0.N : Cert.KernelIdeal.S7x5760x1440.Idx → Elt Ideal .i8)
    = (Cert.KernelIdeal.Gen.dats m 0 c).arrAt 17 Cert.KernelIdeal.cfg0.N := by
  refine ext3 fun e s q => ?_
  refine (Cert.RefArrays.out14 m' c e s q).trans (Eq.trans ?_ (Cert.Results.out17 m c hs.ms e s q).symm)
  rw [ha]
  exact (KVC_eq (Cert.Arrays.arrs m c) e s hs q).symm

end core

/-- On sound states, run from the same arguments, kernel and reference leave the same four results. -/
theorem algebraic : Cert.algebraic_KernelIdeal_ReferenceIdeal_pre_states_sound
    (hKernelIdeal := Cert.KernelIdeal.Gen.facts) (hReferenceIdeal := Cert.ReferenceIdeal.Gen.facts) (hPre_states_sound := Cert.Pre_states_sound.Gen.facts) := by
  intro m g m' g' hpre hargs
  have ha (c : Dev Cert.KernelIdeal.nD) : Cert.RefArrays.arrs m' c = Cert.Arrays.arrs m c := by
    obtain ⟨a0, a1, a2, a3, a4, a5, a6, a7, a8, a9, a10⟩ := hargs c
    exact same_arrs m m' c a0 a1 a2 a3 a4 a5 a6 a7 a8 a9 a10
  have hs (c : Dev Cert.KernelIdeal.nD) := sound_arrs m c hpre
  exact ⟨fun c => (Cert.KernelIdeal.Gen.dats m 0 c).arrAt 14 Cert.KernelIdeal.cfg0.N, fun c => (Cert.KernelIdeal.Gen.dats m 0 c).arrAt 15 Cert.KernelIdeal.cfg0.N,
    fun c => (Cert.KernelIdeal.Gen.dats m 0 c).arrAt 16 Cert.KernelIdeal.cfg0.N, fun c => (Cert.KernelIdeal.Gen.dats m 0 c).arrAt 17 Cert.KernelIdeal.cfg0.N,
    Cert.KernelIdeal.Value.run_blocks m g,
    (θ_run Cert.ReferenceIdeal.defs _ _).mono
      (fun r h c => ⟨(h c).1.trans (res0 m m' c (hs c) (ha c)), (h c).2.1.trans (res1 m m' c (hs c) (ha c)),
        (h c).2.2.1.trans (res2 m m' c (hs c) (ha c)), (h c).2.2.2.1.trans (res3 m m' c (hs c) (ha c)), (h c).2.2.2.2⟩)
      (Cert.ReferenceIdeal.Value.run_blocks m' g')⟩

end Cert.Algebraic
end
-- ==== Proof.StatsPre.lean ====
/- What the precondition of the maxima's run says of the arrays, element by element. -/
module

public import proofs.«01_k».proof.Proof.PreRead
public import proofs.«01_k».proof.Proof.Gen.Pre_maxima_sound

@[expose] public section

set_option maxRecDepth 16384

noncomputable section

namespace Cert.StatsPre

open Idealize.ShloMosaic Idealize.ShloMosaic.Tactic Cert.Pre_maxima_sound
open Cert.PreRead (and_one of_bool)

variable (a0 : FVec Ideal S7x5760x2880 .fp8e4m3) (a1 : FVec Ideal S7x5760 .f32) (a2 : IVec S7x5760x1440 8)
  (a3 : FVec Ideal S7x5760 .f32) (a4 : FVec Ideal S7x2880 .f32)

theorem at_elt (h : fn (F := Ideal) a0 a1 a2 a3 a4 = fun _ => 1#1) (e : Fin 7) (s : Fin 5760) (q : Fin 2880) :
    (0 : EReal) ≤ a3 (ix2 e s) ∧ (0 : EReal) ≤ a4 (ix2 e q) := by
  have H := congrFun h (ix3 e s q)
  have E : fn (F := Ideal) a0 a1 a2 a3 a4 (ix3 e s q) =
      IntOp.andi (BitVec.ofBool (decide ((0 : EReal) ≤ a3 (ix2 e s)))) (BitVec.ofBool (decide ((0 : EReal) ≤ a4 (ix2 e q)))) := by
    pointwise [fn]
  rw [E] at H
  obtain ⟨h3, h4⟩ := and_one H
  exact ⟨of_bool h3, of_bool h4⟩

end Cert.StatsPre
end
-- ==== Proof.StatsCells.lean ====
/- What one group of columns computes in the call that finds the maxima, element by element. Each reading is of the
   payloads of one group of 256 columns, or of the last 64 columns; the other tiles and groups are the same terms on other
   slices of the arguments. -/
module

public import proofs.«01_k».proof.Proof.Gen.StatsIdeal.Skeleton
public import proofs.«01_k».proof.Proof.Cells

@[expose] public section

set_option maxRecDepth 16384

noncomputable section

namespace Cert.StatsCells

open Idealize.ShloMosaic Idealize.ShloMosaic.TcCoe Idealize.SL.Sem
open Cert.StatsIdeal Cert.StatsIdeal.Gen Cert.Bytes Cert.Scalar
open Cert.Cells (IsWe we_lo we_hi v_low_at v_high_at vLev_if gK b_ninf)

theorem c_tenth : Named.named (F := Ideal) κ "tenth" (φ := .f32) 0x3DCCCCCD#32 = ((1 / 10 : ℝ) : EReal) :=
  IdealRules.named_const.ideal_named_scalar _ _ _ _ rfl
theorem c_row_unit : Named.named (F := Ideal) κ "row_unit" (φ := .f32) 0x3F1FD70A#32 = ((83802195 / 134217728 : ℝ) : EReal) :=
  IdealRules.named_const.ideal_named_scalar _ _ _ _ rfl

/-- The new second moment in the kernel's unit. -/
def vS (lev vr vc gg : EReal) : EReal :=
  lev * min (vr * ((83802195 / 134217728 : ℝ) : EReal)) (vc * ((83802195 / 134217728 : ℝ) : EReal)) + gg * gg

/-- The largest of a family. -/
def top {n : ℕ} (f : Fin n → EReal) : EReal := Finset.fold max (⊥ : EReal) f Finset.univ

theorem top_le {n : ℕ} {f : Fin n → EReal} {z : EReal} : top f ≤ z ↔ ∀ x, f x ≤ z := by
  unfold top
  rw [Finset.fold_max_le]
  exact ⟨fun h x => h.2 x (Finset.mem_univ x), fun h => ⟨bot_le, fun x _ => h x⟩⟩

section cells
variable (we : Vec Ideal S256x256 .bf16) (hwe : IsWe we) (p : Fin 128)

include hwe in
theorem v_at (gs vr : Vec Ideal S1x1x1x128 .f32) (vc : Vec Ideal S1x128x128 .i8) (g : Vec Ideal S1x128x256 .fp8e4m3)
    (vl : Vec Ideal S1x1x256 .f32) (q : Fin 256) :
    k0_pay21 (F := Ideal) (k0_pay5 gs) (k0_pay6 vr) vc we g vl (ix2 p q)
      = vS (vLev (nib (vc (ix3 0 p ⟨q.val / 2, by omega⟩)) q.val)) (vr (ix4 0 0 0 p)) (vl (ix3 0 0 q))
          (gK (g (ix3 0 p q)) (gs (ix4 0 0 0 p))) := by
  pointwise [k0_pay21, k0_pay5, k0_pay6]
  simp only [v_low_at, v_high_at, c_row_unit, c_tenth, dite_eq_ite, ite_self]
  rw [← vLev_if]
  refine congrArg₂ (· + ·) (congrArg₂ (· * ·) (Eq.trans ?_ (pair_sum (fun x => FloatOps.sitofp (F := Ideal) .bf16 ((vc (ix3 0 p x) &&& 0x0F#8) + 1#8))
    (fun x => FloatOps.sitofp (F := Ideal) .bf16 ((vc (ix3 0 p x) >>> 4) + 1#8)) q.val (by omega))) rfl) rfl
  refine congrArg₂ (· + ·) (Finset.sum_congr rfl fun x _ => ?_) (Finset.sum_congr rfl fun x _ => ?_)
  · rw [we_lo hwe _ _ x.isLt]; pointwise []
  · rw [we_hi hwe _ _ x.isLt]; pointwise []

include hwe in
theorem vT_at (gs vr : Vec Ideal S1x1x1x128 .f32) (vc : Vec Ideal S1x128x32 .i8) (g : Vec Ideal S1x128x64 .fp8e4m3)
    (vl : Vec Ideal S1x1x64 .f32) (q : Fin 64) :
    k0_pay220 (F := Ideal) (k0_pay216 vc we) (k0_pay217 (k0_pay5 gs) g) (k0_pay218 (k0_pay6 vr)) (k0_pay219 vl) (ix2 p q)
      = vS (vLev (nib (vc (ix3 0 p ⟨q.val / 2, by omega⟩)) q.val)) (vr (ix4 0 0 0 p)) (vl (ix3 0 0 q))
          (gK (g (ix3 0 p q)) (gs (ix4 0 0 0 p))) := by
  pointwise [k0_pay220, k0_pay219, k0_pay218, k0_pay217, k0_pay216, k0_pay5, k0_pay6]
  simp only [v_low_at, v_high_at, c_row_unit, c_tenth]
  rw [← vLev_if]
  refine congrArg₂ (· + ·) (congrArg₂ (· * ·) (Eq.trans ?_ (pair_sum (fun x => FloatOps.sitofp (F := Ideal) .bf16 ((vc (ix3 0 p x) &&& 0x0F#8) + 1#8))
    (fun x => FloatOps.sitofp (F := Ideal) .bf16 ((vc (ix3 0 p x) >>> 4) + 1#8)) q.val (by omega))) rfl) rfl
  refine congrArg₂ (· + ·) (Finset.sum_congr rfl fun x _ => ?_) (Finset.sum_congr rfl fun x _ => ?_)
  · rw [we_lo hwe _ _ (by omega)]; pointwise []
  · rw [we_hi hwe _ _ (by omega)]; pointwise []

end cells

/-! A column's running maximum takes in a tile's rows. -/

theorem cm_at (gs vr : FVec Ideal S128x128 .f32) (vc : Vec Ideal S1x128x128 .i8) (we : Vec Ideal S256x256 .bf16)
    (g : Vec Ideal S1x128x256 .fp8e4m3) (vl prev : Vec Ideal S1x1x256 .f32) (q : Fin 256) :
    k0_pay23 (F := Ideal) (k0_pay22 gs vr vc we g vl) prev (ix3 0 0 q)
      = max (prev (ix3 0 0 q)) (top fun p : Fin 128 => k0_pay21 gs vr vc we g vl (ix2 p q)) := by
  pointwise [k0_pay23, k0_pay22]
  simp only [b_ninf, top]

theorem cmT_at (a b c : FVec Ideal S128x64 .f32) (d : FVec Ideal S1x64 .f32) (prev : Vec Ideal S1x1x64 .f32) (q : Fin 64) :
    k0_pay1 (k0_pay221 (F := Ideal) a b c d prev) (ix3 0 0 q)
      = max (prev (ix3 0 0 q)) (top fun p : Fin 128 => k0_pay220 a b c d (ix2 p q)) := by
  pointwise [k0_pay1, k0_pay221]
  simp only [b_ninf, top]

/-! A row's maximum: lane by lane over the groups, then over the lanes. -/

/-- A group's two halves. -/
def halves (v : FVec Ideal S128x256 .f32) : FVec Ideal S128x128 .f32 :=
  maximumf (extractStridedSlice S128x128 ![0, 0] v slices_S128x256_o0_0_S128x128)
    (extractStridedSlice S128x128 ![0, 128] v slices_S128x256_o0_128_S128x128)

theorem halves_at (v : FVec Ideal S128x256 .f32) (p l : Fin 128) :
    halves v (ix2 p l) = max (v (ix2 p ⟨l.val, by omega⟩)) (v (ix2 p ⟨128 + l.val, by omega⟩)) := by
  pointwise [halves]

theorem acc_at (a : FVec Ideal S128x128 .f32) (v : FVec Ideal S128x256 .f32) (p l : Fin 128) :
    k0_pay24 (F := Ideal) a v (ix2 p l) = max (a (ix2 p l)) (halves v (ix2 p l)) := by
  pointwise [k0_pay24, halves]

theorem row_at (a : FVec Ideal S128x128 .f32) (v : FVec Ideal S128x64 .f32) (p : Fin 128) :
    k0_pay2 (F := Ideal) a v (ix4 0 0 0 p)
      = (top fun l : Fin 128 => max (a (ix2 p l)) (top fun x : Fin 64 => v (ix2 p x))) * ((1 / 10 : ℝ) : EReal) := by
  pointwise [k0_pay2]
  simp only [b_ninf, top, c_tenth]

theorem last_at (x : Vec Ideal S1x1x2880 .f32) (q : Fin 2880) :
    k0_pay3 (F := Ideal) x (ix3 0 0 q) = x (ix3 0 0 q) * ((1 / 10 : ℝ) : EReal) := by
  pointwise [k0_pay3]
  simp only [c_tenth]

theorem zero_at (q : Fin 2880) : k0_pay4 (F := Ideal) (ix3 0 0 q) = 0 := by
  pointwise [k0_pay4]

end Cert.StatsCells
end
-- ==== Proof.StatsTile.lean ====
/- One grid point's body of the call that finds the maxima, tile by tile: three tiles of 128 rows, each in eleven groups
   of 256 columns and a last one of 64. Each group stores its columns' running maxima over what the buffer holds. -/
module

public import proofs.«01_k».proof.Proof.Gen.StatsIdeal.Frame
public import proofs.«01_k».proof.Proof.StatsCells
public import Idealize.ShloMosaic.Lib.WholeRead

@[expose] public section

set_option maxRecDepth 16384

noncomputable section

namespace Cert.StatsTile

open Idealize.ShloMosaic Idealize.ShloMosaic.TcCoe Idealize.ShloMosaic.Tactic Idealize.SL.Sem
open Cert.StatsIdeal Cert.StatsIdeal.Gen Cert.Bytes Cert.Scalar Cert.StatsCells
open Cert.Cells (IsWe gK)

/-- The body's buffers. -/
structure Refs where
  a2 : Memref sig .tc .vmem S1x384x2880 .fp8e4m3
  h2 : a2.IsWhole
  a3 : Memref sig .tc .vmem S1x1x1x384 .f32
  h3 : a3.IsWhole
  a4 : Memref sig .tc .vmem S1x384x1440 .i8
  h4 : a4.IsWhole
  a5 : Memref sig .tc .vmem S1x1x1x384 .f32
  h5 : a5.IsWhole
  a6 : Memref sig .tc .vmem S1x1x2880 .f32
  h6 : a6.IsWhole
  a7 : Memref sig .tc .vmem S256x256 .bf16
  h7 : a7.IsWhole
  a8 : Memref sig .tc .vmem S1x1x1x384 .f32
  h8 : a8.IsWhole
  a9 : Memref sig .tc .vmem S1x1x2880 .f32
  h9 : a9.IsWhole

/-- What its input buffers hold. -/
structure Ins where
  x0 : Vec Ideal S1x384x2880 .fp8e4m3
  x1 : Vec Ideal S1x1x1x384 .f32
  x2 : Vec Ideal S1x384x1440 .i8
  x3 : Vec Ideal S1x1x1x384 .f32
  x4 : Vec Ideal S1x1x2880 .f32
  x5 : Vec Ideal S256x256 .bf16

/-! The stores of the body's run: at a batch's first block of rows, at a middle one, at the last. -/

abbrev runA (c : Dev nD) (i : grid0.Coords) (R : Refs) (X : Ins) (hc0 : cond0_0 i) (hc1 : ¬cond0_1 i) :=
  kernelRun0_A c i R.a2 R.h2 R.a3 R.h3 R.a4 R.h4 R.a5 R.h5 R.a6 R.h6 R.a7 R.h7 R.a8 R.h8 R.a9 R.h9 hc0 hc1 X.x0 X.x1 X.x2 X.x3 X.x4 X.x5
abbrev runB (c : Dev nD) (i : grid0.Coords) (R : Refs) (X : Ins) (hc0 : ¬cond0_0 i) (hc1 : ¬cond0_1 i) (xo : Vec Ideal S1x1x2880 .f32) :=
  kernelRun0_B c i R.a2 R.h2 R.a3 R.h3 R.a4 R.h4 R.a5 R.h5 R.a6 R.h6 R.a7 R.h7 R.a8 R.h8 R.a9 R.h9 hc0 hc1 X.x0 X.x1 X.x2 X.x3 X.x4 X.x5 xo
abbrev runC (c : Dev nD) (i : grid0.Coords) (R : Refs) (X : Ins) (hc0 : ¬cond0_0 i) (hc1 : cond0_1 i) (xo : Vec Ideal S1x1x2880 .f32) :=
  kernelRun0_C c i R.a2 R.h2 R.a3 R.h3 R.a4 R.h4 R.a5 R.h5 R.a6 R.h6 R.a7 R.h7 R.a8 R.h8 R.a9 R.h9 hc0 hc1 X.x0 X.x1 X.x2 X.x3 X.x4 X.x5 xo

/-! Loads: of rows `r …`, columns `C …`. -/

section loads
variable {sp : Space} {e : EltTy}

theorem inb3 {M N m n : ℕ} {r C : ℕ} (h1 : r + m ≤ M) (h2 : C + n ≤ N) :
    ∀ a, (![0, r, C] : Fin 3 → ℕ) a + (![1, m, n] : Fin 3 → ℕ) a ≤ (![1, M, N] : Fin 3 → ℕ) a := by
  intro a; fin_cases a
  · exact le_rfl
  · exact h1
  · exact h2
theorem inb4 {M m : ℕ} {r : ℕ} (h1 : r + m ≤ M) :
    ∀ a, (![0, 0, 0, r] : Fin 4 → ℕ) a + (![1, 1, 1, m] : Fin 4 → ℕ) a ≤ (![1, 1, 1, M] : Fin 4 → ℕ) a := by
  intro a; fin_cases a
  · exact le_rfl
  · exact le_rfl
  · exact le_rfl
  · exact h1
theorem inb2 {M N m n : ℕ} {r C : ℕ} (h1 : r + m ≤ M) (h2 : C + n ≤ N) :
    ∀ a, (![r, C] : Fin 2 → ℕ) a + (![m, n] : Fin 2 → ℕ) a ≤ (![M, N] : Fin 2 → ℕ) a := by
  intro a; fin_cases a
  · exact h1
  · exact h2

/-- A load of `m` rows from row `r` and `n` columns from column `C`. -/
def ld3 {M N : ℕ} (a : Memref sig .tc sp ⟨3, ![1, M, N]⟩ e) (ha : a.IsWhole) (x : Vec Ideal ⟨3, ![1, M, N]⟩ e) (r C m n : ℕ)
    (h1 : r + m ≤ M) (h2 : C + n ≤ N) : Vec Ideal ⟨3, ![1, m, n]⟩ e :=
  View.readAt (Elt Ideal) a.view (Rect.unit (s := ⟨3, ![1, M, N]⟩) ![0, r, C] ![1, m, n] (inb3 h1 h2)).toLoadRect (ha.unread x)
def ld4 {M : ℕ} (a : Memref sig .tc sp ⟨4, ![1, 1, 1, M]⟩ e) (ha : a.IsWhole) (x : Vec Ideal ⟨4, ![1, 1, 1, M]⟩ e) (r m : ℕ)
    (h1 : r + m ≤ M) : Vec Ideal ⟨4, ![1, 1, 1, m]⟩ e :=
  View.readAt (Elt Ideal) a.view (Rect.unit (s := ⟨4, ![1, 1, 1, M]⟩) ![0, 0, 0, r] ![1, 1, 1, m] (inb4 h1)).toLoadRect (ha.unread x)
def ld2 {M N : ℕ} (a : Memref sig .tc sp ⟨2, ![M, N]⟩ e) (ha : a.IsWhole) (x : Vec Ideal ⟨2, ![M, N]⟩ e) (r C m n : ℕ)
    (h1 : r + m ≤ M) (h2 : C + n ≤ N) : Vec Ideal ⟨2, ![m, n]⟩ e :=
  View.readAt (Elt Ideal) a.view (Rect.unit (s := ⟨2, ![M, N]⟩) ![r, C] ![m, n] (inb2 h1 h2)).toLoadRect (ha.unread x)

theorem ld3_at {M N : ℕ} (a : Memref sig .tc sp ⟨3, ![1, M, N]⟩ e) (ha : a.IsWhole) (x : Vec Ideal ⟨3, ![1, M, N]⟩ e) (r C m n : ℕ)
    (h1 : r + m ≤ M) (h2 : C + n ≤ N) (p : Fin m) (q : Fin n) :
    ld3 a ha x r C m n h1 h2 (ix3 0 p q) = x (ix3 0 ⟨r + p.val, by omega⟩ ⟨C + q.val, by omega⟩) := by
  unfold ld3
  rw [ha.readAt_unread]
  refine congrArg x (funext fun a => Fin.ext ?_)
  fin_cases a
  · rfl
  · show r + 1 * p.val = r + p.val; rw [one_mul]
  · show C + 1 * q.val = C + q.val; rw [one_mul]
theorem ld4_at {M : ℕ} (a : Memref sig .tc sp ⟨4, ![1, 1, 1, M]⟩ e) (ha : a.IsWhole) (x : Vec Ideal ⟨4, ![1, 1, 1, M]⟩ e) (r m : ℕ)
    (h1 : r + m ≤ M) (p : Fin m) :
    ld4 a ha x r m h1 (ix4 0 0 0 p) = x (ix4 0 0 0 ⟨r + p.val, by omega⟩) := by
  unfold ld4
  rw [ha.readAt_unread]
  refine congrArg x (funext fun a => Fin.ext ?_)
  fin_cases a
  · rfl
  · rfl
  · rfl
  · show r + 1 * p.val = r + p.val; rw [one_mul]
theorem ld2_at {M N : ℕ} (a : Memref sig .tc sp ⟨2, ![M, N]⟩ e) (ha : a.IsWhole) (x : Vec Ideal ⟨2, ![M, N]⟩ e) (r C m n : ℕ)
    (h1 : r + m ≤ M) (h2 : C + n ≤ N) (p : Fin m) (q : Fin n) :
    ld2 a ha x r C m n h1 h2 (ix2 p q) = x (ix2 ⟨r + p.val, by omega⟩ ⟨C + q.val, by omega⟩) := by
  unfold ld2
  rw [ha.readAt_unread]
  refine congrArg x (funext fun a => Fin.ext ?_)
  fin_cases a
  · show r + 1 * p.val = r + p.val; rw [one_mul]
  · show C + 1 * q.val = C + q.val; rw [one_mul]

end loads

section defs
variable (R : Refs) (X : Ins) (r : ℕ) (hr : r + 128 ≤ 384)

def gs : FVec Ideal S128x128 .f32 := k0_pay5 (ld4 R.a3 R.h3 X.x1 r 128 hr)
def vr : FVec Ideal S128x128 .f32 := k0_pay6 (ld4 R.a5 R.h5 X.x3 r 128 hr)
def we : Vec Ideal S256x256 .bf16 := ld2 R.a7 R.h7 X.x5 0 0 256 256 (by decide) (by decide)

/-! A group's new second moment, and its columns' maxima taken into what was there. -/

section group
variable (g : Fin 11)

def vW : FVec Ideal S128x256 .f32 :=
  k0_pay21 (gs R X r hr) (vr R X r hr) (ld3 R.a4 R.h4 X.x2 r (128 * g.val) 128 128 hr (by omega)) (we R X)
    (ld3 R.a2 R.h2 X.x0 r (256 * g.val) 128 256 hr (by omega)) (ld3 R.a6 R.h6 X.x4 0 (256 * g.val) 1 256 (by decide) (by omega))
def cmW (prev : Vec Ideal S1x1x256 .f32) : Vec Ideal S1x1x256 .f32 :=
  k0_pay23 (k0_pay22 (gs R X r hr) (vr R X r hr) (ld3 R.a4 R.h4 X.x2 r (128 * g.val) 128 128 hr (by omega)) (we R X)
    (ld3 R.a2 R.h2 X.x0 r (256 * g.val) 128 256 hr (by omega)) (ld3 R.a6 R.h6 X.x4 0 (256 * g.val) 1 256 (by decide) (by omega))) prev

end group

def codesT : FVec Ideal S128x64 .f32 := k0_pay216 (ld3 R.a4 R.h4 X.x2 r 1408 128 32 hr (by decide)) (we R X)
def ggT : FVec Ideal S128x64 .f32 := k0_pay217 (gs R X r hr) (ld3 R.a2 R.h2 X.x0 r 2816 128 64 hr (by decide))
def vrT : FVec Ideal S128x64 .f32 := k0_pay218 (vr R X r hr)
def vlT : FVec Ideal S1x64 .f32 := k0_pay219 (ld3 R.a6 R.h6 X.x4 0 2816 1 64 (by decide) (by decide))
def vT : FVec Ideal S128x64 .f32 := k0_pay220 (codesT R X r hr) (ggT R X r hr) (vrT R X r hr) (vlT R X)
def cmT (prev : Vec Ideal S1x1x64 .f32) : Vec Ideal S1x1x64 .f32 :=
  k0_pay1 (k0_pay221 (codesT R X r hr) (ggT R X r hr) (vrT R X r hr) (vlT R X) prev)

end defs

/-! The stores, the latest first. -/

def groups : List (Fin 11) := [10, 9, 8, 7, 6, 5, 4, 3, 2, 1, 0]

abbrev Stores (S : Shape) (e : EltTy) := List (View.Piece (Elt Ideal) S e)

/-- A group's columns. -/
def gRect (g : Fin 11) : Rect S1x1x2880 := Rect.unit (s := S1x1x2880) ![0, 0, 256 * g.val] S1x1x256.size (inb3 (by decide) (by omega))
/-- The last columns. -/
def tRect : Rect S1x1x2880 := Rect.unit (s := S1x1x2880) ![0, 0, 2816] S1x1x64.size (inb3 (by decide) (by decide))
/-- All columns. -/
def wRect : Rect S1x1x2880 := Rect.unit (s := S1x1x2880) ![0, 0, 0] S1x1x2880.size (inb3 (by decide) (by decide))

section stores
variable (R : Refs) (X : Ins) (r : ℕ) (hr : r + 128 ≤ 384)

/-- A group's store over the stores `H`. -/
def up (g : Fin 11) (H : Stores S1x1x2880 .f32) : Stores S1x1x2880 .f32 :=
  ⟨gRect g, cmW R X r hr g (R.a9.view.readCov H (gRect g).toLoadRect)⟩ :: H
def upT (H : Stores S1x1x2880 .f32) : Stores S1x1x2880 .f32 :=
  ⟨tRect, cmT R X r hr (R.a9.view.readCov H tRect.toLoadRect)⟩ :: H
/-- A tile's stores. -/
def tileOn (H : Stores S1x1x2880 .f32) : Stores S1x1x2880 .f32 := upT R X r hr (groups.foldr (up R X r hr) H)

/-- The first tile's stores over what the point before left. -/
def tile0 (xo : Vec Ideal S1x1x2880 .f32) : Stores S1x1x2880 .f32 :=
  ⟨tRect, cmT R X 0 (by decide) (View.readAt (Elt Ideal) R.a9.view tRect.toLoadRect (R.h9.unread xo))⟩ ::
    groups.map fun g => ⟨gRect g, cmW R X 0 (by decide) g (View.readAt (Elt Ideal) R.a9.view (gRect g).toLoadRect (R.h9.unread xo))⟩

def all7A : Stores S1x1x2880 .f32 :=
  tileOn R X 256 (by decide) (tileOn R X 128 (by decide) (tileOn R X 0 (by decide) [⟨wRect, k0_pay4 (F := Ideal)⟩]))
def all7B (xo : Vec Ideal S1x1x2880 .f32) : Stores S1x1x2880 .f32 :=
  tileOn R X 256 (by decide) (tileOn R X 128 (by decide) (tile0 R X xo))

/-- The lanes' maxima over the groups up to `k`. -/
def acc : (k : ℕ) → k < 11 → FVec Ideal S128x128 .f32
  | 0, h => halves (vW R X r hr ⟨0, h⟩)
  | k + 1, h => k0_pay24 (acc k (by omega)) (vW R X r hr ⟨k + 1, h⟩)

def rowOut : Vec Ideal S1x1x1x128 .f32 := k0_pay2 (acc R X r hr 10 (by decide)) (vT R X r hr)
def tile6 (L : Stores S1x1x1x384 .f32) : Stores S1x1x1x384 .f32 :=
  ⟨Rect.unit (s := S1x1x1x384) ![0, 0, 0, r] S1x1x1x128.size (inb4 hr), rowOut R X r hr⟩ :: L
def all6 : Stores S1x1x1x384 .f32 := tile6 R X 256 (by decide) (tile6 R X 128 (by decide) (tile6 R X 0 (by decide) []))

variable (c : Dev nD) (i : grid0.Coords)

theorem run6A (hc0 : cond0_0 i) (hc1 : ¬cond0_1 i) : (runA c i R X hc0 hc1).1 = all6 R X := by
  sl_kernel_rfl
theorem run6B (hc0 : ¬cond0_0 i) (hc1 : ¬cond0_1 i) (xo) : (runB c i R X hc0 hc1 xo).1 = all6 R X := by
  sl_kernel_rfl
theorem run6C (hc0 : ¬cond0_0 i) (hc1 : cond0_1 i) (xo) : (runC c i R X hc0 hc1 xo).1 = all6 R X := by
  sl_kernel_rfl
theorem run7A (hc0 : cond0_0 i) (hc1 : ¬cond0_1 i) : (runA c i R X hc0 hc1).2.1 = all7A R X := by
  sl_kernel_rfl
theorem run7B (hc0 : ¬cond0_0 i) (hc1 : ¬cond0_1 i) (xo) : (runB c i R X hc0 hc1 xo).2.1 = all7B R X xo := by
  sl_kernel_rfl
theorem run7C (hc0 : ¬cond0_0 i) (hc1 : cond0_1 i) (xo) : (runC c i R X hc0 hc1 xo).2.1
    = ⟨wRect, k0_pay3 (R.a9.view.readCov (all7B R X xo) wRect.toLoadRect)⟩ :: all7B R X xo := by
  sl_kernel_rfl

end stores

end Cert.StatsTile
end
-- ==== Proof.StatsBlock.lean ====
/- What one grid point's body of the call that finds the maxima leaves: its rows' largest new second moments, and its
   columns' running ones. -/
module

public import proofs.«01_k».proof.Proof.StatsTile
public import Idealize.ShloMosaic.Lib.Pipeline.ValueKit.Basic

@[expose] public section

set_option maxRecDepth 16384

noncomputable section

namespace Cert.StatsBlock

open Idealize.ShloMosaic Idealize.ShloMosaic.TcCoe Idealize.ShloMosaic.Tactic Idealize.SL.Sem
open Cert.StatsIdeal Cert.StatsIdeal.Gen Cert.Bytes Cert.Scalar Cert.StatsCells Cert.StatsTile
open Cert.Cells (IsWe gK)

/-- The new second moment of the block's row `p`, column `q`, in the kernel's unit. -/
def VB (X : Ins) (p : Fin 384) (q : Fin 2880) : EReal :=
  vS (vLev (nib (X.x2 (ix3 0 p ⟨q.val / 2, by omega⟩)) q.val)) (X.x3 (ix4 0 0 0 p)) (X.x4 (ix3 0 0 q))
    (gK (X.x0 (ix3 0 p q)) (X.x1 (ix4 0 0 0 p)))

theorem col_at (C n : ℕ) (q : Fin n) (x : Vec Ideal S1x1x2880 .f32) (a : Memref sig .tc .vmem S1x1x2880 .f32) (ha : a.IsWhole)
    (h1 : 0 + 1 ≤ 1) (h2 : C + n ≤ 2880) :
    ld3 a ha x 0 C 1 n h1 h2 (ix3 0 0 q) = x (ix3 0 0 ⟨C + q.val, by omega⟩) := by
  rw [ld3_at]; rfl

section tile
variable (R : Refs) (X : Ins) (hX : IsWe X.x5) (r : ℕ) (hr : r + 128 ≤ 384)

include hX in
theorem we_is : IsWe (we R X) := fun k c => by
  unfold we; rw [ld2_at]; refine Eq.trans ?_ (hX k c); congr 2 <;> exact Fin.ext (Nat.zero_add _)

include hX in
theorem vW_at (g : Fin 11) (p : Fin 128) (q : Fin 256) :
    vW R X r hr g (ix2 p q) = VB X ⟨r + p.val, by omega⟩ ⟨256 * g.val + q.val, by omega⟩ := by
  unfold vW gs vr
  rw [v_at _ (we_is R X hX), col_at, ld3_at, ld3_at, ld4_at, ld4_at]
  have e : (⟨128 * g.val + q.val / 2, by omega⟩ : Fin 1440) = ⟨(256 * g.val + q.val) / 2, by omega⟩ := Fin.ext (by dsimp only; omega)
  have o : nib (X.x2 (ix3 0 ⟨r + p.val, by omega⟩ ⟨(256 * g.val + q.val) / 2, by omega⟩)) q.val
      = nib (X.x2 (ix3 0 ⟨r + p.val, by omega⟩ ⟨(256 * g.val + q.val) / 2, by omega⟩)) (256 * g.val + q.val) := by
    unfold nib; rw [show (256 * g.val + q.val) % 2 = q.val % 2 by omega]
  unfold VB
  rw [← o, ← e]

include hX in
theorem vT_at' (p : Fin 128) (q : Fin 64) :
    vT R X r hr (ix2 p q) = VB X ⟨r + p.val, by omega⟩ ⟨2816 + q.val, by omega⟩ := by
  unfold vT codesT ggT vrT vlT gs vr
  rw [StatsCells.vT_at _ (we_is R X hX), col_at, ld3_at, ld3_at, ld4_at, ld4_at]
  have e : (⟨1408 + q.val / 2, by omega⟩ : Fin 1440) = ⟨(2816 + q.val) / 2, by omega⟩ := Fin.ext (by dsimp only; omega)
  have o : nib (X.x2 (ix3 0 ⟨r + p.val, by omega⟩ ⟨(2816 + q.val) / 2, by omega⟩)) q.val
      = nib (X.x2 (ix3 0 ⟨r + p.val, by omega⟩ ⟨(2816 + q.val) / 2, by omega⟩)) (2816 + q.val) := by
    unfold nib; rw [show (2816 + q.val) % 2 = q.val % 2 by omega]
  unfold VB
  rw [← o, ← e]

/-- The largest of a column in a tile's rows. -/
def TB (q : Fin 2880) : EReal := top fun p : Fin 128 => VB X ⟨r + p.val, by omega⟩ q

include hX in
theorem cmW_at' (g : Fin 11) (prev : Vec Ideal S1x1x256 .f32) (q : Fin 256) :
    cmW R X r hr g prev (ix3 0 0 q) = max (prev (ix3 0 0 q)) (TB X r hr ⟨256 * g.val + q.val, by omega⟩) := by
  unfold cmW
  rw [cm_at]
  exact congrArg (max _) (congrArg top (funext fun p => vW_at R X hX r hr g p q))

include hX in
theorem cmT_at' (prev : Vec Ideal S1x1x64 .f32) (q : Fin 64) :
    cmT R X r hr prev (ix3 0 0 q) = max (prev (ix3 0 0 q)) (TB X r hr ⟨2816 + q.val, by omega⟩) := by
  unfold cmT
  rw [StatsCells.cmT_at]
  exact congrArg (max _) (congrArg top (funext fun p => vT_at' R X hX r hr p q))

end tile

/-! The columns' buffer. -/

theorem emb_unit {C n : ℕ} (h : ∀ a, (![0, 0, C] : Fin 3 → ℕ) a + (![1, 1, n] : Fin 3 → ℕ) a ≤ (![1, 1, 2880] : Fin 3 → ℕ) a)
    (q : Fin n) (h' : C + q.val < 2880) :
    (Rect.unit (s := S1x1x2880) ![0, 0, C] ![1, 1, n] h).emb (ix3 0 0 q) = ix3 0 0 ⟨C + q.val, h'⟩ := by
  funext a
  refine Fin.ext ?_
  fin_cases a
  · rfl
  · rfl
  · show C + 1 * q.val = C + q.val; rw [one_mul]

theorem not_mem_unit {C n : ℕ} (h : ∀ a, (![0, 0, C] : Fin 3 → ℕ) a + (![1, 1, n] : Fin 3 → ℕ) a ≤ (![1, 1, 2880] : Fin 3 → ℕ) a)
    (q : Fin 2880) (hq : q.val < C ∨ C + n ≤ q.val) :
    (ix3 0 0 q : S1x1x2880.Idx) ∉ (Rect.unit (s := S1x1x2880) ![0, 0, C] ![1, 1, n] h).set := by
  rw [Rect.mem_set_unit]
  intro hm
  have := hm 2
  have h1 : C ≤ q.val := this.1
  have h2 : q.val < C + n := this.2
  omega

theorem g_emb (g : Fin 11) (l : Fin 256) (hl : 256 * g.val + l.val < 2880) :
    (gRect g).emb (ix3 0 0 l : S1x1x256.Idx) = ix3 0 0 ⟨256 * g.val + l.val, hl⟩ :=
  emb_unit (C := 256 * g.val) (n := 256) (inb3 (by decide) (by omega)) l hl
theorem t_emb (l : Fin 64) (hl : 2816 + l.val < 2880) :
    tRect.emb (ix3 0 0 l : S1x1x64.Idx) = ix3 0 0 ⟨2816 + l.val, hl⟩ :=
  emb_unit (C := 2816) (n := 64) (inb3 (by decide) (by decide)) l hl
theorem w_emb (q : Fin 2880) : wRect.emb (ix3 0 0 q : S1x1x2880.Idx) = ix3 0 0 q := by
  refine (emb_unit (C := 0) (n := 2880) (inb3 (by decide) (by decide)) q (by omega)).trans ?_
  exact congrArg (ix3 0 0) (Fin.ext (Nat.zero_add _))
theorem g_off (g : Fin 11) (q : Fin 2880) (h : ¬q.val / 256 = g.val) : (ix3 0 0 q : S1x1x2880.Idx) ∉ (gRect g).set :=
  not_mem_unit (C := 256 * g.val) (n := 256) (inb3 (by decide) (by omega)) q (by omega)
theorem t_off (q : Fin 2880) (h : q.val < 2816) : (ix3 0 0 q : S1x1x2880.Idx) ∉ tRect.set :=
  not_mem_unit (C := 2816) (n := 64) (inb3 (by decide) (by decide)) q (Or.inl h)

theorem canon_g (g : Fin 11) (w : Vec Ideal S1x1x256 .f32) (H : Stores S1x1x2880 .f32) (l : Fin 256) (hl : 256 * g.val + l.val < 2880) :
    View.canon (⟨gRect g, w⟩ :: H) (ix3 0 0 ⟨256 * g.val + l.val, hl⟩) = w (ix3 0 0 l) :=
  (congrArg _ (g_emb g l hl).symm).trans (View.canon_cons_emb (gRect g) w H (ix3 0 0 l : S1x1x256.Idx))
theorem canon_t (w : Vec Ideal S1x1x64 .f32) (H : Stores S1x1x2880 .f32) (l : Fin 64) (hl : 2816 + l.val < 2880) :
    View.canon (⟨tRect, w⟩ :: H) (ix3 0 0 ⟨2816 + l.val, hl⟩) = w (ix3 0 0 l) :=
  (congrArg _ (t_emb l hl).symm).trans (View.canon_cons_emb tRect w H (ix3 0 0 l : S1x1x64.Idx))
theorem canon_g_off (g : Fin 11) (w : Vec Ideal S1x1x256 .f32) (H : Stores S1x1x2880 .f32) (q : Fin 2880) (h : ¬q.val / 256 = g.val) :
    View.canon (⟨gRect g, w⟩ :: H) (ix3 0 0 q) = View.canon H (ix3 0 0 q) :=
  View.canon_cons_of_not_mem (⟨gRect g, w⟩ : View.Piece (Elt Ideal) S1x1x2880 .f32) H (g_off g q h)
theorem canon_t_off (w : Vec Ideal S1x1x64 .f32) (H : Stores S1x1x2880 .f32) (q : Fin 2880) (h : q.val < 2816) :
    View.canon (⟨tRect, w⟩ :: H) (ix3 0 0 q) = View.canon H (ix3 0 0 q) :=
  View.canon_cons_of_not_mem (⟨tRect, w⟩ : View.Piece (Elt Ideal) S1x1x2880 .f32) H (t_off q h)
theorem canon_w (w : Vec Ideal S1x1x2880 .f32) (H : Stores S1x1x2880 .f32) (q : Fin 2880) :
    View.canon (⟨wRect, w⟩ :: H) (ix3 0 0 q) = w (ix3 0 0 q) :=
  (congrArg _ (w_emb q).symm).trans (View.canon_cons_emb wRect w H (ix3 0 0 q : S1x1x2880.Idx))

theorem cov_g (R : Refs) (H : Stores S1x1x2880 .f32) (g : Fin 11) (l : Fin 256) (hl : 256 * g.val + l.val < 2880) :
    R.a9.view.readCov H (gRect g).toLoadRect (ix3 0 0 l : S1x1x256.Idx) = View.canon H (ix3 0 0 ⟨256 * g.val + l.val, hl⟩) :=
  (congrFun (View.readCov_eq_canon' R.a9.view H (gRect g).toLoadRect) (ix3 0 0 l : S1x1x256.Idx)).trans (congrArg (View.canon H) (g_emb g l hl))
theorem cov_t (R : Refs) (H : Stores S1x1x2880 .f32) (l : Fin 64) (hl : 2816 + l.val < 2880) :
    R.a9.view.readCov H tRect.toLoadRect (ix3 0 0 l : S1x1x64.Idx) = View.canon H (ix3 0 0 ⟨2816 + l.val, hl⟩) :=
  (congrFun (View.readCov_eq_canon' R.a9.view H tRect.toLoadRect) (ix3 0 0 l : S1x1x64.Idx)).trans (congrArg (View.canon H) (t_emb l hl))
theorem cov_w (R : Refs) (H : Stores S1x1x2880 .f32) (q : Fin 2880) :
    R.a9.view.readCov H wRect.toLoadRect (ix3 0 0 q : S1x1x2880.Idx) = View.canon H (ix3 0 0 q) :=
  (congrFun (View.readCov_eq_canon' R.a9.view H wRect.toLoadRect) (ix3 0 0 q : S1x1x2880.Idx)).trans (congrArg (View.canon H) (w_emb q))
theorem read_g (R : Refs) (xo : Vec Ideal S1x1x2880 .f32) (g : Fin 11) (l : Fin 256) (hl : 256 * g.val + l.val < 2880) :
    View.readAt (Elt Ideal) R.a9.view (gRect g).toLoadRect (R.h9.unread xo) (ix3 0 0 l : S1x1x256.Idx) = xo (ix3 0 0 ⟨256 * g.val + l.val, hl⟩) :=
  (R.h9.readAt_unread xo (gRect g).toLoadRect (ix3 0 0 l : S1x1x256.Idx)).trans (congrArg xo (g_emb g l hl))
theorem read_t (R : Refs) (xo : Vec Ideal S1x1x2880 .f32) (l : Fin 64) (hl : 2816 + l.val < 2880) :
    View.readAt (Elt Ideal) R.a9.view tRect.toLoadRect (R.h9.unread xo) (ix3 0 0 l : S1x1x64.Idx) = xo (ix3 0 0 ⟨2816 + l.val, hl⟩) :=
  (R.h9.readAt_unread xo tRect.toLoadRect (ix3 0 0 l : S1x1x64.Idx)).trans (congrArg xo (t_emb l hl))

theorem inG (g : Fin 11) (q : Fin 2880) (h : q.val / 256 = g.val) : ∃ (l : Fin 256) (hl : 256 * g.val + l.val < 2880), q = ⟨256 * g.val + l.val, hl⟩ :=
  ⟨⟨q.val - 256 * g.val, by omega⟩, by dsimp only; omega, Fin.ext (by dsimp only; omega)⟩
theorem inT (q : Fin 2880) (h : ¬q.val < 2816) : ∃ (l : Fin 64) (hl : 2816 + l.val < 2880), q = ⟨2816 + l.val, hl⟩ :=
  ⟨⟨q.val - 2816, by omega⟩, by dsimp only; omega, Fin.ext (by dsimp only; omega)⟩

section cols
variable (R : Refs) (X : Ins) (hX : IsWe X.x5) (r : ℕ) (hr : r + 128 ≤ 384)

include hX in
theorem up_at (g : Fin 11) (H : Stores S1x1x2880 .f32) (q : Fin 2880) :
    View.canon (up R X r hr g H) (ix3 0 0 q)
      = if q.val / 256 = g.val then max (View.canon H (ix3 0 0 q)) (TB X r hr q) else View.canon H (ix3 0 0 q) := by
  unfold up
  by_cases h : q.val / 256 = g.val
  · rw [if_pos h]
    obtain ⟨l, hl, rfl⟩ := inG g q h
    refine (canon_g g _ H l hl).trans ((cmW_at' R X hX r hr g _ l).trans ?_)
    exact congrArg₂ max (cov_g R H g l hl) rfl
  · rw [if_neg h]
    exact canon_g_off g _ H q h

include hX in
theorem ups_at (H : Stores S1x1x2880 .f32) (q : Fin 2880) (L : List (Fin 11)) (hn : L.Nodup) :
    View.canon (L.foldr (up R X r hr) H) (ix3 0 0 q)
      = if ∃ g ∈ L, q.val / 256 = g.val then max (View.canon H (ix3 0 0 q)) (TB X r hr q) else View.canon H (ix3 0 0 q) := by
  induction L with
  | nil => rw [if_neg (by rintro ⟨_, h, _⟩; exact absurd h List.not_mem_nil)]; rfl
  | cons g L ih =>
    rw [List.foldr_cons, up_at R X hX, ih (List.nodup_cons.mp hn).2]
    by_cases hg : q.val / 256 = g.val
    · rw [if_pos hg, if_neg, if_pos ⟨g, List.mem_cons_self, hg⟩]
      rintro ⟨k, hk, e⟩
      obtain rfl : k = g := Fin.ext (e.symm.trans hg)
      exact (List.nodup_cons.mp hn).1 hk
    · rw [if_neg hg]
      refine if_congr ⟨fun ⟨k, hk, e⟩ => ⟨k, List.mem_cons_of_mem _ hk, e⟩, fun ⟨k, hk, e⟩ => ?_⟩ rfl rfl
      rcases List.mem_cons.mp hk with rfl | hk
      · exact absurd e hg
      · exact ⟨k, hk, e⟩

theorem mem_groups (g : Fin 11) : g ∈ groups := by revert g; decide
theorem groups_nodup : groups.Nodup := by decide

include hX in
theorem tileOn_at (H : Stores S1x1x2880 .f32) (q : Fin 2880) :
    View.canon (tileOn R X r hr H) (ix3 0 0 q) = max (View.canon H (ix3 0 0 q)) (TB X r hr q) := by
  have u := ups_at R X hX r hr H q groups groups_nodup
  unfold tileOn upT
  generalize groups.foldr (up R X r hr) H = K at u ⊢
  by_cases h : q.val < 2816
  · rw [if_pos ⟨⟨q.val / 256, by omega⟩, mem_groups _, rfl⟩] at u
    exact (canon_t_off _ K q h).trans u
  · rw [if_neg (by rintro ⟨g, _, hg⟩; omega)] at u
    rw [← u]
    obtain ⟨l, hl, rfl⟩ := inT q h
    refine (canon_t _ K l hl).trans ((cmT_at' R X hX r hr _ l).trans ?_)
    exact congrArg₂ max (cov_t R K l hl) rfl

/-- A group's store in the first tile. -/
def st0 (xo : Vec Ideal S1x1x2880 .f32) (g : Fin 11) : View.Piece (Elt Ideal) S1x1x2880 .f32 :=
  ⟨gRect g, cmW R X 0 (by decide) g (View.readAt (Elt Ideal) R.a9.view (gRect g).toLoadRect (R.h9.unread xo))⟩

include hX in
theorem st0_at (xo : Vec Ideal S1x1x2880 .f32) (q : Fin 2880) (L : List (Fin 11)) (hL : ∃ g ∈ L, q.val / 256 = g.val) :
    View.canon (L.map (st0 R X xo)) (ix3 0 0 q) = max (xo (ix3 0 0 q)) (TB X 0 (by decide) q) := by
  induction L with
  | nil => obtain ⟨_, h, _⟩ := hL; exact absurd h List.not_mem_nil
  | cons g L ih =>
    rw [List.map_cons, show st0 R X xo g = ⟨gRect g, cmW R X 0 (by decide) g (View.readAt (Elt Ideal) R.a9.view (gRect g).toLoadRect (R.h9.unread xo))⟩ from rfl]
    by_cases h : q.val / 256 = g.val
    · clear ih
      generalize L.map (st0 R X xo) = K
      obtain ⟨l, hl, rfl⟩ := inG g q h
      refine (canon_g g _ K l hl).trans ((cmW_at' R X hX 0 (by decide) g _ l).trans ?_)
      exact congrArg₂ max (read_g R xo g l hl) rfl
    · refine (canon_g_off g _ _ q h).trans (ih ?_)
      obtain ⟨k, hk, e⟩ := hL
      rcases List.mem_cons.mp hk with rfl | hk
      · exact absurd e h
      · exact ⟨k, hk, e⟩

include hX in
theorem tile0_at (xo : Vec Ideal S1x1x2880 .f32) (q : Fin 2880) :
    View.canon (tile0 R X xo) (ix3 0 0 q) = max (xo (ix3 0 0 q)) (TB X 0 (by decide) q) := by
  have u := fun hL => st0_at R X hX xo q groups hL
  have e : tile0 R X xo = ⟨tRect, cmT R X 0 (by decide) (View.readAt (Elt Ideal) R.a9.view tRect.toLoadRect (R.h9.unread xo))⟩ ::
    groups.map (st0 R X xo) := rfl
  rw [e]
  generalize groups.map (st0 R X xo) = K at u ⊢
  by_cases h : q.val < 2816
  · exact (canon_t_off _ K q h).trans (u ⟨⟨q.val / 256, by omega⟩, mem_groups _, rfl⟩)
  · clear u e
    obtain ⟨l, hl, rfl⟩ := inT q h
    refine (canon_t _ K l hl).trans ((cmT_at' R X hX 0 (by decide) _ l).trans ?_)
    exact congrArg₂ max (read_t R xo l hl) rfl

end cols

section outs
variable (R : Refs) (X : Ins) (hX : IsWe X.x5)

/-- The largest of a column in the block's rows. -/
def CB (q : Fin 2880) : EReal := top fun p : Fin 384 => VB X p q

theorem tiles (f : Fin 384 → EReal) (b : EReal) :
    max (max (max b (top fun p : Fin 128 => f ⟨0 + p.val, by omega⟩)) (top fun p : Fin 128 => f ⟨128 + p.val, by omega⟩))
      (top fun p : Fin 128 => f ⟨256 + p.val, by omega⟩) = max b (top f) := by
  refine eq_of_forall_ge_iff fun z => ?_
  simp only [max_le_iff, top_le]
  constructor
  · rintro ⟨⟨⟨hb, h0⟩, h1⟩, h2⟩
    refine ⟨hb, fun p => ?_⟩
    by_cases a : p.val < 128
    · exact (congrArg f (Fin.ext (Nat.zero_add _).symm)).trans_le (h0 ⟨p.val, a⟩)
    · by_cases a' : p.val < 256
      · exact (congrArg f (Fin.ext (by dsimp only; omega))).trans_le (h1 ⟨p.val - 128, by omega⟩)
      · exact (congrArg f (Fin.ext (by dsimp only; omega))).trans_le (h2 ⟨p.val - 256, by omega⟩)
  · rintro ⟨hb, h⟩
    exact ⟨⟨⟨hb, fun _ => h _⟩, fun _ => h _⟩, fun _ => h _⟩

include hX in
theorem all7A_at (q : Fin 2880) : View.canon (all7A R X) (ix3 0 0 q) = max 0 (CB X q) := by
  unfold all7A
  rw [tileOn_at R X hX, tileOn_at R X hX, tileOn_at R X hX]
  refine (congrArg (fun b => max (max (max b _) _) _) ?_).trans (tiles (fun p => VB X p q) 0)
  exact (canon_w _ [] q).trans (zero_at q)

include hX in
theorem all7B_at (xo : Vec Ideal S1x1x2880 .f32) (q : Fin 2880) :
    View.canon (all7B R X xo) (ix3 0 0 q) = max (xo (ix3 0 0 q)) (CB X q) := by
  unfold all7B
  rw [tileOn_at R X hX, tileOn_at R X hX, tile0_at R X hX]
  exact tiles (fun p => VB X p q) _

include hX in
theorem all7C_at (xo : Vec Ideal S1x1x2880 .f32) (q : Fin 2880) :
    View.canon ((⟨wRect, k0_pay3 (F := Ideal) (R.a9.view.readCov (all7B R X xo) wRect.toLoadRect)⟩ : View.Piece (Elt Ideal) S1x1x2880 .f32) :: all7B R X xo)
      (ix3 0 0 q) = max (xo (ix3 0 0 q)) (CB X q) * ((1 / 10 : ℝ) : EReal) := by
  refine (canon_w _ _ q).trans ((last_at _ q).trans ?_)
  exact congrArg (· * _) ((cov_w R _ q).trans (all7B_at R X hX xo q))

/-! The rows. -/

/-- A row's largest. -/
def RB (p : Fin 384) : EReal := top fun q : Fin 2880 => VB X p q

include hX in
theorem acc_le (r : ℕ) (hr : r + 128 ≤ 384) (p : Fin 128) (z : EReal) : ∀ (k : ℕ) (hk : k < 11),
    (∀ l : Fin 128, acc R X r hr k hk (ix2 p l) ≤ z) ↔ ∀ (q : Fin 2880), q.val < 256 * (k + 1) → VB X ⟨r + p.val, by omega⟩ q ≤ z := by
  have half : ∀ g : Fin 11, (∀ l : Fin 128, halves (vW R X r hr g) (ix2 p l) ≤ z) ↔
      ∀ (q : Fin 2880), q.val / 256 = g.val → VB X ⟨r + p.val, by omega⟩ q ≤ z := by
    intro g
    simp only [halves_at, vW_at R X hX, max_le_iff]
    constructor
    · intro h q hq
      by_cases a : q.val - 256 * g.val < 128
      · exact (congrArg _ (Fin.ext (by dsimp only; omega))).trans_le (h ⟨q.val - 256 * g.val, a⟩).1
      · exact (congrArg _ (Fin.ext (by dsimp only; omega))).trans_le (h ⟨q.val - 256 * g.val - 128, by omega⟩).2
    · intro h l
      exact ⟨h _ (by dsimp only; omega), h _ (by dsimp only; omega)⟩
  intro k
  induction k with
  | zero =>
    intro hk
    rw [show acc R X r hr 0 hk = halves (vW R X r hr ⟨0, hk⟩) from rfl, half]
    exact forall_congr' fun q => imp_congr (by dsimp only; omega) Iff.rfl
  | succ k ih =>
    intro hk
    rw [show acc R X r hr (k + 1) hk = k0_pay24 (acc R X r hr k (by omega)) (vW R X r hr ⟨k + 1, hk⟩) from rfl]
    simp only [acc_at, max_le_iff, forall_and, ih (by omega), half]
    constructor
    · rintro ⟨h1, h2⟩ q hq
      by_cases a : q.val < 256 * (k + 1)
      · exact h1 q a
      · exact h2 q (by first | omega | (dsimp only; omega))
    · intro h
      exact ⟨fun q hq => h q (by omega), fun q hq => h q (by first | omega | (dsimp only at hq; omega))⟩

include hX in
theorem rowOut_at (r : ℕ) (hr : r + 128 ≤ 384) (p : Fin 128) :
    rowOut R X r hr (ix4 0 0 0 p) = RB X ⟨r + p.val, by omega⟩ * ((1 / 10 : ℝ) : EReal) := by
  unfold rowOut
  rw [row_at]
  refine congrArg (· * _) (eq_of_forall_ge_iff fun z => ?_)
  unfold RB
  simp only [top_le, max_le_iff, forall_and, acc_le R X hX, vT_at' R X hX]
  constructor
  · rintro ⟨h1, h2⟩ q
    by_cases a : q.val < 2816
    · exact h1 q a
    · exact (congrArg _ (Fin.ext (by dsimp only; omega))).trans_le (h2 0 ⟨q.val - 2816, by omega⟩)
  · intro h
    exact ⟨fun q _ => h q, fun _ _ => h _⟩

/-- The rows' output. -/
def R6 : S1x1x1x384.Idx → EReal := fun y => RB X (y 3) * ((1 / 10 : ℝ) : EReal)

theorem unit4 {r : ℕ} (h : ∀ a, (![0, 0, 0, r] : Fin 4 → ℕ) a + (![1, 1, 1, 128] : Fin 4 → ℕ) a ≤ (![1, 1, 1, 384] : Fin 4 → ℕ) a)
    (x : (⟨4, ![1, 1, 1, 128]⟩ : Shape).Idx) (h' : r + (x 3).val < 384) :
    ((Rect.unit (s := ⟨4, ![1, 1, 1, 384]⟩) ![0, 0, 0, r] ![1, 1, 1, 128] h).emb x 3 : Fin 384) = ⟨r + (x 3).val, h'⟩ :=
  Fin.ext (by show r + 1 * (x 3).val = _; rw [one_mul])

include hX in
theorem agree6 : ∀ p ∈ all6 R X, ∀ x : p.1.shape.Idx, p.2 x = R6 X (p.1.emb x) := by
  have one : ∀ (r : ℕ) (hr : r + 128 ≤ 384) (x : S1x1x1x128.Idx),
      rowOut R X r hr x = R6 X ((Rect.unit (s := S1x1x1x384) ![0, 0, 0, r] S1x1x1x128.size (inb4 hr)).emb x) := by
    intro r hr x
    obtain ⟨a, b, c, p, rfl⟩ : ∃ (a b c : Fin 1) (p : Fin 128), x = ix4 a b c p := ⟨x 0, x 1, x 2, x 3, eq_ix4 x⟩
    obtain rfl : a = 0 := Subsingleton.elim _ _
    obtain rfl : b = 0 := Subsingleton.elim _ _
    obtain rfl : c = 0 := Subsingleton.elim _ _
    refine (rowOut_at R X hX r hr p).trans ?_
    exact congrArg (fun k => RB X k * ((1 / 10 : ℝ) : EReal)) (unit4 (inb4 hr) (ix4 0 0 0 p) (by show r + p.val < 384; omega)).symm
  intro p hp x
  unfold all6 tile6 at hp
  simp only [List.mem_cons, List.not_mem_nil, or_false] at hp
  rcases hp with rfl | rfl | rfl
  · exact one _ _ x
  · exact one _ _ x
  · exact one _ _ x

end outs

end Cert.StatsBlock
end
-- ==== Proof.StatsWindows.lean ====
/- The windows of the call that finds the maxima, and what its blocks hold of the argument arrays. -/
module

public import proofs.«01_k».proof.Proof.Gen.StatsIdeal.Value
public import proofs.«01_k».proof.Proof.StatsBlock
public import proofs.«01_k».proof.Proof.Host
public import Idealize.ShloMosaic.Lib.Pipeline.ValueKit
public import Idealize.ShloMosaic.Lib.Claim

@[expose] public section

set_option maxRecDepth 16384

noncomputable section

namespace Cert.StatsArrays

open Idealize.ShloMosaic Idealize.ShloMosaic.TcCoe Idealize.ShloMosaic.Tactic Idealize.SL.Sem
open Cert.StatsIdeal Cert.StatsIdeal.Gen Cert.Bytes Cert.Scalar Cert.StatsCells Cert.StatsTile Cert.StatsBlock
open Cert.Cells (IsWe gK)

/-! The windows. -/

theorem idx : ∀ t : Fin grid0.N,
  win0_0.index t = ![(grid0.coords t 0).val, (grid0.coords t 1).val, 0]
  ∧ win0_1.index t = ![(grid0.coords t 0).val, (grid0.coords t 1).val, 0, 0]
  ∧ win0_2.index t = ![(grid0.coords t 0).val, (grid0.coords t 1).val, 0]
  ∧ win0_3.index t = ![(grid0.coords t 0).val, (grid0.coords t 1).val, 0, 0]
  ∧ win0_4.index t = ![(grid0.coords t 0).val, 0, 0]
  ∧ win0_5.index t = ![0, 0]
  ∧ win0_6.index t = ![(grid0.coords t 0).val, (grid0.coords t 1).val, 0, 0]
  ∧ win0_7.index t = ![(grid0.coords t 0).val, 0, 0] := by decide +kernel

def pe (t : Fin cfg0.N) : Fin 7 := ⟨(grid0.coords t 0).val, (grid0.coords t 0).isLt⟩
def pj (t : Fin cfg0.N) : Fin 15 := ⟨(grid0.coords t 1).val, (grid0.coords t 1).isLt⟩
def row (t : Fin cfg0.N) (p : Fin 384) : Fin 5760 := ⟨(pj t).val * 384 + p.val, by omega⟩

theorem coords : ∀ t : Fin cfg0.N, (pe t).val = t.val / 15 ∧ (pj t).val = t.val % 15 := by decide +kernel

section blocks
variable (t : Fin cfg0.N) (p : Fin 384)

theorem rd0 (X : (S7x5760x2880).Idx → Elt Ideal .fp8e4m3) (q : Fin 2880) :
    ((cfg0.win 0).blk t).view.read (Elt Ideal) X (ix3 0 p q) = X (ix3 (pe t) (row t p) q) := by
  blk_ext [idx t, pe, pj, row]
theorem rd1 (X : (S7x15x1x384).Idx → Elt Ideal .f32) :
    ((cfg0.win 1).blk t).view.read (Elt Ideal) X (ix4 0 0 0 p) = X (ix4 (pe t) (pj t) 0 p) := by
  blk_ext [idx t, pe, pj, row]
theorem rd2 (X : (S7x5760x1440).Idx → Elt Ideal .i8) (q : Fin 1440) :
    ((cfg0.win 2).blk t).view.read (Elt Ideal) X (ix3 0 p q) = X (ix3 (pe t) (row t p) q) := by
  blk_ext [idx t, pe, pj, row]
theorem rd3 (X : (S7x15x1x384).Idx → Elt Ideal .f32) :
    ((cfg0.win 3).blk t).view.read (Elt Ideal) X (ix4 0 0 0 p) = X (ix4 (pe t) (pj t) 0 p) := by
  blk_ext [idx t, pe, pj, row]
theorem rd4 (X : (S7x1x2880).Idx → Elt Ideal .f32) (q : Fin 2880) :
    ((cfg0.win 4).blk t).view.read (Elt Ideal) X (ix3 0 0 q) = X (ix3 (pe t) 0 q) := by
  blk_ext [idx t, pe, pj, row]
theorem rd5 (X : (S256x256).Idx → Elt Ideal .bf16) (a : Fin 256) (b : Fin 256) :
    ((cfg0.win 5).blk t).view.read (Elt Ideal) X (ix2 a b) = X (ix2 a b) := by
  blk_ext [idx t, pe, pj, row]
theorem rd6 (X : (S7x15x1x384).Idx → Elt Ideal .f32) :
    ((cfg0.win 6).blk t).view.read (Elt Ideal) X (ix4 0 0 0 p) = X (ix4 (pe t) (pj t) 0 p) := by
  blk_ext [idx t, pe, pj, row]
theorem rd7 (X : (S7x1x2880).Idx → Elt Ideal .f32) (q : Fin 2880) :
    ((cfg0.win 7).blk t).view.read (Elt Ideal) X (ix3 0 0 q) = X (ix3 (pe t) 0 q) := by
  blk_ext [idx t, pe, pj, row]

end blocks

/-! The host's arrays. -/

variable (m : (ℓ : Loc nD τ sig) → Buf (Elt Ideal) ℓ) (c : Dev nD)

theorem gs_host (e : Fin 7) (j : Fin 15) (p : Fin 384) : (V m c main_v12 : S7x15x1x384.Idx → EReal) (ix4 e j 0 p) = m ((c : Thread nD τ).loc main_arg1) (ix2 e ⟨j.val * 384 + p.val, by omega⟩) := by
  unfold V
  simp only [List.flatten_cons, List.flatten_nil, List.append_nil, List.cons_append, List.nil_append]
  after_reads_at

theorem vr_host (e : Fin 7) (j : Fin 15) (p : Fin 384) : (V m c main_v13 : S7x15x1x384.Idx → EReal) (ix4 e j 0 p) = m ((c : Thread nD τ).loc main_arg3) (ix2 e ⟨j.val * 384 + p.val, by omega⟩) := by
  unfold V
  simp only [List.flatten_cons, List.flatten_nil, List.append_nil, List.cons_append, List.nil_append]
  after_reads_at

theorem vc_host (e : Fin 7) (q : Fin 2880) : (V m c main_v14 : S7x1x2880.Idx → EReal) (ix3 e 0 q) = m ((c : Thread nD τ).loc main_arg4) (ix2 e q) := by
  unfold V
  simp only [List.flatten_cons, List.flatten_nil, List.append_nil, List.cons_append, List.nil_append]
  after_reads_at

theorem we_host : IsWe (V m c main_v11) := fun a b => by
  unfold V
  simp only [List.flatten_cons, List.flatten_nil, List.append_nil, List.cons_append, List.nil_append]
  after_reads_at
  rw [Host.word_we, Host.select_eq _ _ (by omega) (by omega)]

/-! A grid point's blocks, from the argument arrays. -/

/-- The argument arrays. -/
structure Arrs where
  g : Fin 7 → Fin 5760 → Fin 2880 → EReal
  gs : Fin 7 → Fin 5760 → EReal
  vc : Fin 7 → Fin 5760 → Fin 1440 → BitVec 8
  vr : Fin 7 → Fin 5760 → EReal
  vl : Fin 7 → Fin 2880 → EReal

def arrs : Arrs where
  g e s q := m ((c : Thread nD τ).loc main_arg0) (ix3 e s q)
  gs e s := m ((c : Thread nD τ).loc main_arg1) (ix2 e s)
  vc e s q := m ((c : Thread nD τ).loc main_arg2) (ix3 e s q)
  vr e s := m ((c : Thread nD τ).loc main_arg3) (ix2 e s)
  vl e q := m ((c : Thread nD τ).loc main_arg4) (ix2 e q)

/-- The new second moment in the kernel's unit. -/
def W (A : Arrs) (e : Fin 7) (s : Fin 5760) (q : Fin 2880) : EReal :=
  vS (vLev (nib (A.vc e s ⟨q.val / 2, by omega⟩) q.val)) (A.vr e s) (A.vl e q) (gK (A.g e s q) (A.gs e s))

/-- The memrefs of a grid point. -/
def refs (t : Fin cfg0.N) : Refs := ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t⟩
/-- The input blocks of a grid point. -/
def ins (t : Fin cfg0.N) : Ins := ⟨iblk m c 0 t, iblk m c 1 t, iblk m c 2 t, iblk m c 3 t, iblk m c 4 t, iblk m c 5 t⟩

section blocks
variable (t : Fin cfg0.N) (p : Fin 384)

theorem x0_eq : (ins m c t).x0 = ((cfg0.win 0).blk t).view.read (Elt Ideal) (V m c main_arg0) := by sl_kernel_rfl
theorem x1_eq : (ins m c t).x1 = ((cfg0.win 1).blk t).view.read (Elt Ideal) (V m c main_v12) := by sl_kernel_rfl
theorem x2_eq : (ins m c t).x2 = ((cfg0.win 2).blk t).view.read (Elt Ideal) (V m c main_arg2) := by sl_kernel_rfl
theorem x3_eq : (ins m c t).x3 = ((cfg0.win 3).blk t).view.read (Elt Ideal) (V m c main_v13) := by sl_kernel_rfl
theorem x4_eq : (ins m c t).x4 = ((cfg0.win 4).blk t).view.read (Elt Ideal) (V m c main_v14) := by sl_kernel_rfl
theorem x5_eq : (ins m c t).x5 = ((cfg0.win 5).blk t).view.read (Elt Ideal) (V m c main_v11) := by sl_kernel_rfl
theorem x0_at (q : Fin 2880) : (ins m c t).x0 (ix3 0 p q) = (arrs m c).g (pe t) (row t p) q := by
  rw [x0_eq]; exact (rd0 t p (V m c main_arg0) q).trans (congrFun (V_main_arg0 m c) _)
theorem x2_at (q : Fin 1440) : (ins m c t).x2 (ix3 0 p q) = (arrs m c).vc (pe t) (row t p) q := by
  rw [x2_eq]; exact (rd2 t p (V m c main_arg2) q).trans (congrFun (V_main_arg2 m c) _)
theorem x1_at : (ins m c t).x1 (ix4 0 0 0 p) = (arrs m c).gs (pe t) (row t p) := by
  rw [x1_eq]; exact (rd1 t p (V m c main_v12)).trans (gs_host m c _ _ _)
theorem x3_at : (ins m c t).x3 (ix4 0 0 0 p) = (arrs m c).vr (pe t) (row t p) := by
  rw [x3_eq]; exact (rd3 t p (V m c main_v13)).trans (vr_host m c _ _ _)
theorem x4_at (q : Fin 2880) : (ins m c t).x4 (ix3 0 0 q) = (arrs m c).vl (pe t) q := by
  rw [x4_eq]; exact (rd4 t (V m c main_v14) q).trans (vc_host m c _ _)

theorem VB_eq (q : Fin 2880) : VB (ins m c t) p q = W (arrs m c) (pe t) (row t p) q := by
  unfold VB W; rw [x0_at, x1_at, x2_at, x3_at, x4_at]
theorem isWe : IsWe (ins m c t).x5 := fun a b => by
  rw [x5_eq]; exact (rd5 t (V m c main_v11) a b).trans (we_host m c a b)

end blocks

end Cert.StatsArrays
end
-- ==== Proof.StatsArrays.lean ====
/- The two result arrays of the call that finds the maxima, after the whole grid, element by element. -/
module

public import proofs.«01_k».proof.Proof.Gen.StatsIdeal.Value
public import proofs.«01_k».proof.Proof.StatsBlock
public import proofs.«01_k».proof.Proof.StatsWindows
public import Idealize.ShloMosaic.Lib.Pipeline.ValueKit
public import Idealize.ShloMosaic.Lib.Claim

@[expose] public section

set_option maxRecDepth 16384

noncomputable section

namespace Cert.StatsArrays

open Idealize.ShloMosaic Idealize.ShloMosaic.TcCoe Idealize.ShloMosaic.Tactic Idealize.SL.Sem
open Cert.StatsIdeal Cert.StatsIdeal.Gen Cert.Bytes Cert.Scalar Cert.StatsCells Cert.StatsTile Cert.StatsBlock
open Cert.Cells (IsWe gK)

variable (m : (ℓ : Loc nD τ sig) → Buf (Elt Ideal) ℓ) (c : Dev nD)

theorem fst_of {α β : Type} {x : α × β} {a : α} {b : β} (h : x = (a, b)) : x.1 = a := by rw [h]
theorem snd_of {α β : Type} {x : α × β} {a : α} {b : β} (h : x = (a, b)) : x.2 = b := by rw [h]

/-! What a grid point leaves. -/

section named
variable (i : grid0.Coords) (R : Refs) (X : Ins) (xo : Vec Ideal S1x1x2880 .f32)

/-- All the stores of a batch's last point. -/
def all7C : Stores S1x1x2880 .f32 :=
  ⟨wRect, k0_pay3 (R.a9.view.readCov (all7B R X xo) wRect.toLoadRect)⟩ :: all7B R X xo

theorem all7C_at' (hX : IsWe X.x5) (q : Fin 2880) :
    View.canon (all7C R X xo) (ix3 0 0 q) = max (xo (ix3 0 0 q)) (CB X q) * ((1 / 10 : ℝ) : EReal) :=
  all7C_at R X hX xo q

def nA6 (hc0 : cond0_0 i) (hc1 : ¬cond0_1 i) : Vec Ideal S1x1x1x384 .f32 := out0_A_6 c i R.a2 R.h2 R.a3 R.h3 R.a4 R.h4 R.a5 R.h5 R.a6 R.h6 R.a7 R.h7 R.a8 R.h8 R.a9 R.h9 hc0 hc1 X.x0 X.x1 X.x2 X.x3 X.x4 X.x5
def nA7 (hc0 : cond0_0 i) (hc1 : ¬cond0_1 i) : Vec Ideal S1x1x2880 .f32 := out0_A_7 c i R.a2 R.h2 R.a3 R.h3 R.a4 R.h4 R.a5 R.h5 R.a6 R.h6 R.a7 R.h7 R.a8 R.h8 R.a9 R.h9 hc0 hc1 X.x0 X.x1 X.x2 X.x3 X.x4 X.x5
theorem nA6_eq (hc0 : cond0_0 i) (hc1 : ¬cond0_1 i) : nA6 c i R X hc0 hc1 = View.canon (Val := Elt Ideal) (all6 R X) := by
  unfold nA6 out0_A_6
  rw [View.read_writes_junk_eq_canon]
  exact congrArg (View.canon (Val := Elt Ideal)) (run6A R X c i hc0 hc1)
theorem nA7_eq (hc0 : cond0_0 i) (hc1 : ¬cond0_1 i) : nA7 c i R X hc0 hc1 = View.canon (Val := Elt Ideal) (all7A R X) := by
  unfold nA7 out0_A_7
  rw [View.read_writes_junk_eq_canon]
  exact congrArg (View.canon (Val := Elt Ideal)) (run7A R X c i hc0 hc1)
def nB6 (hc0 : ¬cond0_0 i) (hc1 : ¬cond0_1 i) : Vec Ideal S1x1x1x384 .f32 := out0_B_6 c i R.a2 R.h2 R.a3 R.h3 R.a4 R.h4 R.a5 R.h5 R.a6 R.h6 R.a7 R.h7 R.a8 R.h8 R.a9 R.h9 hc0 hc1 X.x0 X.x1 X.x2 X.x3 X.x4 X.x5 xo
def nB7 (hc0 : ¬cond0_0 i) (hc1 : ¬cond0_1 i) : Vec Ideal S1x1x2880 .f32 := out0_B_7 c i R.a2 R.h2 R.a3 R.h3 R.a4 R.h4 R.a5 R.h5 R.a6 R.h6 R.a7 R.h7 R.a8 R.h8 R.a9 R.h9 hc0 hc1 X.x0 X.x1 X.x2 X.x3 X.x4 X.x5 xo
theorem nB6_eq (hc0 : ¬cond0_0 i) (hc1 : ¬cond0_1 i) : nB6 c i R X xo hc0 hc1 = View.canon (Val := Elt Ideal) (all6 R X) := by
  unfold nB6 out0_B_6
  rw [View.read_writes_junk_eq_canon]
  exact congrArg (View.canon (Val := Elt Ideal)) (run6B R X c i hc0 hc1 xo)
theorem nB7_eq (hc0 : ¬cond0_0 i) (hc1 : ¬cond0_1 i) : nB7 c i R X xo hc0 hc1 = View.canon (Val := Elt Ideal) (all7B R X xo) := by
  unfold nB7 out0_B_7
  rw [View.read_writes_junk_eq_canon]
  exact congrArg (View.canon (Val := Elt Ideal)) (run7B R X c i hc0 hc1 xo)
def nC6 (hc0 : ¬cond0_0 i) (hc1 : cond0_1 i) : Vec Ideal S1x1x1x384 .f32 := out0_C_6 c i R.a2 R.h2 R.a3 R.h3 R.a4 R.h4 R.a5 R.h5 R.a6 R.h6 R.a7 R.h7 R.a8 R.h8 R.a9 R.h9 hc0 hc1 X.x0 X.x1 X.x2 X.x3 X.x4 X.x5 xo
def nC7 (hc0 : ¬cond0_0 i) (hc1 : cond0_1 i) : Vec Ideal S1x1x2880 .f32 := out0_C_7 c i R.a2 R.h2 R.a3 R.h3 R.a4 R.h4 R.a5 R.h5 R.a6 R.h6 R.a7 R.h7 R.a8 R.h8 R.a9 R.h9 hc0 hc1 X.x0 X.x1 X.x2 X.x3 X.x4 X.x5 xo
theorem nC6_eq (hc0 : ¬cond0_0 i) (hc1 : cond0_1 i) : nC6 c i R X xo hc0 hc1 = View.canon (Val := Elt Ideal) (all6 R X) := by
  unfold nC6 out0_C_6
  rw [View.read_writes_junk_eq_canon]
  exact congrArg (View.canon (Val := Elt Ideal)) (run6C R X c i hc0 hc1 xo)
theorem nC7_eq (hc0 : ¬cond0_0 i) (hc1 : cond0_1 i) : nC7 c i R X xo hc0 hc1 = View.canon (Val := Elt Ideal) (all7C R X xo) := by
  unfold nC7 out0_C_7
  rw [View.read_writes_junk_eq_canon]
  exact congrArg (View.canon (Val := Elt Ideal)) (run7C R X c i hc0 hc1 xo)

end named

theorem pA (t : Fin cfg0.N) (h0 : t.val % 15 = 0) (h1 : ¬t.val % 15 = 14) : outsAt0 m c t.val t.isLt
    = (nA6 c (grid0.coords t) (refs t) (ins m c t) ((hcond0_0 t).mpr h0) (fun h => h1 ((hcond0_1 t).mp h)), nA7 c (grid0.coords t) (refs t) (ins m c t) ((hcond0_0 t).mpr h0) (fun h => h1 ((hcond0_1 t).mp h))) :=
  (outsAt0_A m c t h0 h1).trans (by sl_kernel_rfl)
theorem o6A (t : Fin cfg0.N) (h0 : t.val % 15 = 0) (h1 : ¬t.val % 15 = 14) :
    (outsAt0 m c t.val t.isLt).1 = View.canon (Val := Elt Ideal) (all6 (refs t) (ins m c t)) :=
  (fst_of (pA m c t h0 h1)).trans (nA6_eq c (grid0.coords t) (refs t) (ins m c t) ((hcond0_0 t).mpr h0) (fun h => h1 ((hcond0_1 t).mp h)))
theorem o7A (t : Fin cfg0.N) (h0 : t.val % 15 = 0) (h1 : ¬t.val % 15 = 14) (q : Fin 2880) :
    (outsAt0 m c t.val t.isLt).2 (ix3 0 0 q) = max 0 (CB (ins m c t) q) :=
  (congrFun ((snd_of (pA m c t h0 h1)).trans (nA7_eq c (grid0.coords t) (refs t) (ins m c t) ((hcond0_0 t).mpr h0) (fun h => h1 ((hcond0_1 t).mp h)))) (ix3 0 0 q)).trans
    (all7A_at (refs t) (ins m c t) (isWe m c t) q)
theorem pB (t : Fin cfg0.N) (h0 : ¬t.val % 15 = 0) (h1 : ¬t.val % 15 = 14) : outsAt0 m c t.val t.isLt
    = (nB6 c (grid0.coords t) (refs t) (ins m c t) (outsAt0 m c (t.val - 1) (Nat.lt_of_le_of_lt (Nat.sub_le _ _) t.isLt)).2 (fun h => h0 ((hcond0_0 t).mp h)) (fun h => h1 ((hcond0_1 t).mp h)), nB7 c (grid0.coords t) (refs t) (ins m c t) (outsAt0 m c (t.val - 1) (Nat.lt_of_le_of_lt (Nat.sub_le _ _) t.isLt)).2 (fun h => h0 ((hcond0_0 t).mp h)) (fun h => h1 ((hcond0_1 t).mp h))) :=
  (outsAt0_B m c t h0 h1).trans (by sl_kernel_rfl)
theorem o6B (t : Fin cfg0.N) (h0 : ¬t.val % 15 = 0) (h1 : ¬t.val % 15 = 14) :
    (outsAt0 m c t.val t.isLt).1 = View.canon (Val := Elt Ideal) (all6 (refs t) (ins m c t)) :=
  (fst_of (pB m c t h0 h1)).trans (nB6_eq c (grid0.coords t) (refs t) (ins m c t) (outsAt0 m c (t.val - 1) (Nat.lt_of_le_of_lt (Nat.sub_le _ _) t.isLt)).2 (fun h => h0 ((hcond0_0 t).mp h)) (fun h => h1 ((hcond0_1 t).mp h)))
theorem o7B (t : Fin cfg0.N) (h0 : ¬t.val % 15 = 0) (h1 : ¬t.val % 15 = 14) (q : Fin 2880) :
    (outsAt0 m c t.val t.isLt).2 (ix3 0 0 q) = max ((outsAt0 m c (t.val - 1) (Nat.lt_of_le_of_lt (Nat.sub_le _ _) t.isLt)).2 (ix3 0 0 q)) (CB (ins m c t) q) :=
  (congrFun ((snd_of (pB m c t h0 h1)).trans (nB7_eq c (grid0.coords t) (refs t) (ins m c t) (outsAt0 m c (t.val - 1) (Nat.lt_of_le_of_lt (Nat.sub_le _ _) t.isLt)).2 (fun h => h0 ((hcond0_0 t).mp h)) (fun h => h1 ((hcond0_1 t).mp h)))) (ix3 0 0 q)).trans
    (all7B_at (refs t) (ins m c t) (isWe m c t) (outsAt0 m c (t.val - 1) (Nat.lt_of_le_of_lt (Nat.sub_le _ _) t.isLt)).2 q)
theorem pC (t : Fin cfg0.N) (h0 : ¬t.val % 15 = 0) (h1 : t.val % 15 = 14) : outsAt0 m c t.val t.isLt
    = (nC6 c (grid0.coords t) (refs t) (ins m c t) (outsAt0 m c (t.val - 1) (Nat.lt_of_le_of_lt (Nat.sub_le _ _) t.isLt)).2 (fun h => h0 ((hcond0_0 t).mp h)) ((hcond0_1 t).mpr h1), nC7 c (grid0.coords t) (refs t) (ins m c t) (outsAt0 m c (t.val - 1) (Nat.lt_of_le_of_lt (Nat.sub_le _ _) t.isLt)).2 (fun h => h0 ((hcond0_0 t).mp h)) ((hcond0_1 t).mpr h1)) :=
  (outsAt0_C m c t h0 h1).trans (by sl_kernel_rfl)
theorem o6C (t : Fin cfg0.N) (h0 : ¬t.val % 15 = 0) (h1 : t.val % 15 = 14) :
    (outsAt0 m c t.val t.isLt).1 = View.canon (Val := Elt Ideal) (all6 (refs t) (ins m c t)) :=
  (fst_of (pC m c t h0 h1)).trans (nC6_eq c (grid0.coords t) (refs t) (ins m c t) (outsAt0 m c (t.val - 1) (Nat.lt_of_le_of_lt (Nat.sub_le _ _) t.isLt)).2 (fun h => h0 ((hcond0_0 t).mp h)) ((hcond0_1 t).mpr h1))
theorem o7C (t : Fin cfg0.N) (h0 : ¬t.val % 15 = 0) (h1 : t.val % 15 = 14) (q : Fin 2880) :
    (outsAt0 m c t.val t.isLt).2 (ix3 0 0 q) = max ((outsAt0 m c (t.val - 1) (Nat.lt_of_le_of_lt (Nat.sub_le _ _) t.isLt)).2 (ix3 0 0 q)) (CB (ins m c t) q) * ((1 / 10 : ℝ) : EReal) :=
  (congrFun ((snd_of (pC m c t h0 h1)).trans (nC7_eq c (grid0.coords t) (refs t) (ins m c t) (outsAt0 m c (t.val - 1) (Nat.lt_of_le_of_lt (Nat.sub_le _ _) t.isLt)).2 (fun h => h0 ((hcond0_0 t).mp h)) ((hcond0_1 t).mpr h1))) (ix3 0 0 q)).trans
    (all7C_at' (refs t) (ins m c t) (outsAt0 m c (t.val - 1) (Nat.lt_of_le_of_lt (Nat.sub_le _ _) t.isLt)).2 (isWe m c t) q)
theorem o6 (t : Fin cfg0.N) : (outsAt0 m c t.val t.isLt).1 = View.canon (Val := Elt Ideal) (all6 (refs t) (ins m c t)) := by
  by_cases h0 : t.val % 15 = 0
  · exact o6A m c t h0 (by omega)
  · by_cases h1 : t.val % 15 = 14
    · exact o6C m c t h0 h1
    · exact o6B m c t h0 h1

/-! The rows' array. -/

theorem rows_of (p : Fin 384) (t : Fin cfg0.N) : (outsAt0 m c t.val t.isLt).1 (ix4 0 0 0 p)
    = (top fun q : Fin 2880 => W (arrs m c) (pe t) (row t p) q) * ((1 / 10 : ℝ) : EReal) := by
  rw [o6]
  refine (View.canon_apply_of_pieces (Val := Elt Ideal) (S := S1x1x1x384) (e := .f32) (R6 (ins m c t)) _
    (agree6 (refs t) (ins m c t) (isWe m c t)) (ix4 0 0 0 p) ?_).trans ?_
  · exact View.cover_of_tiledL (all6 (refs t) (ins m c t)) S1x1x1x128.size (by sl_kernel_rfl) _
  · exact congrArg (fun f => top f * ((1 / 10 : ℝ) : EReal)) (funext fun q => VB_eq m c t p q)

theorem points : ∀ (e : Fin 7) (j : Fin 15), ∃ t : Fin cfg0.N, pe t = e ∧ pj t = j := by decide +kernel

/-- Result 5 in the kernel's layout. -/
theorem out6 (e : Fin 7) (j : Fin 15) (p : Fin 384) :
    ((dats m 0 c).arrAt 6 cfg0.N : S7x15x1x384.Idx → Elt Ideal .f32) (ix4 e j 0 p)
      = (top fun q : Fin 2880 => W (arrs m c) e ⟨j.val * 384 + p.val, by omega⟩ q) * ((1 / 10 : ℝ) : EReal) := by
  obtain ⟨t, rfl, rfl⟩ := points e j
  rw [← rd6 t p ((dats m 0 c).arrAt 6 cfg0.N), Value.blocks6 m c t (flush0_6 t), Value.flushed6]
  exact rows_of m c p t

/-! The columns' array. -/

/-- The largest of a column over the rows so far. -/
theorem cols_le (q : Fin 2880) (z : EReal) : ∀ (n : ℕ) (hn : n < cfg0.N), ¬n % 15 = 14 →
    ((outsAt0 m c n hn).2 (ix3 0 0 q) ≤ z ↔ 0 ≤ z ∧ ∀ s : Fin 5760, s.val < 384 * (n % 15 + 1) → W (arrs m c) (pe ⟨n, hn⟩) s q ≤ z) := by
  have blk : ∀ t : Fin cfg0.N, CB (ins m c t) q ≤ z ↔ ∀ s : Fin 5760, s.val / 384 = t.val % 15 → W (arrs m c) (pe t) s q ≤ z := by
    intro t
    have hj := (coords t).2
    unfold CB
    rw [top_le]
    simp only [VB_eq]
    constructor
    · intro h s hs
      have := h ⟨s.val % 384, by omega⟩
      rwa [show row t ⟨s.val % 384, by omega⟩ = s from Fin.ext (by show (pj t).val * 384 + s.val % 384 = s.val; omega)] at this
    · intro h p
      exact h _ (by show ((pj t).val * 384 + p.val) / 384 = _; omega)
  intro n
  induction n with
  | zero =>
    intro hn h1
    rw [o7A m c ⟨0, hn⟩ rfl h1, max_le_iff, blk]
    refine and_congr Iff.rfl (forall_congr' fun s => imp_congr ?_ Iff.rfl)
    show s.val / 384 = 0 % 15 ↔ s.val < 384 * (0 % 15 + 1)
    omega
  | succ n ih =>
    intro hn h1
    by_cases h0 : (n + 1) % 15 = 0
    · rw [o7A m c ⟨n + 1, hn⟩ h0 h1, max_le_iff, blk]
      refine and_congr Iff.rfl (forall_congr' fun s => imp_congr ?_ Iff.rfl)
      show s.val / 384 = (n + 1) % 15 ↔ s.val < 384 * ((n + 1) % 15 + 1)
      omega
    · have e : pe ⟨n, by omega⟩ = pe ⟨n + 1, hn⟩ := Fin.ext (by
        rw [(coords _).1, (coords _).1]; show n / 15 = (n + 1) / 15; omega)
      rw [o7B m c ⟨n + 1, hn⟩ h0 h1, max_le_iff, blk]
      rw [show (outsAt0 m c ((⟨n + 1, hn⟩ : Fin cfg0.N).val - 1) (lt_of_le_of_lt (Nat.sub_le _ _) hn)) = outsAt0 m c n (by omega) from rfl,
        ih (by omega) (by omega), e]
      constructor
      · rintro ⟨⟨hz, h⟩, h'⟩
        refine ⟨hz, fun s hs => ?_⟩
        by_cases a : s.val < 384 * (n % 15 + 1)
        · exact h s a
        · exact h' s (by show s.val / 384 = (n + 1) % 15; omega)
      · rintro ⟨hz, h⟩
        exact ⟨⟨hz, fun s hs => h s (by omega)⟩, fun s hs => h s (by change s.val / 384 = (n + 1) % 15 at hs; omega)⟩

theorem cols_of (q : Fin 2880) (t : Fin cfg0.N) (h1 : t.val % 15 = 14) :
    (outsAt0 m c t.val t.isLt).2 (ix3 0 0 q)
      = max 0 (top fun s : Fin 5760 => W (arrs m c) (pe t) s q) * ((1 / 10 : ℝ) : EReal) := by
  rw [o7C m c t (by omega) h1]
  refine congrArg (· * _) (eq_of_forall_ge_iff fun z => ?_)
  have ht := t.isLt
  have e : pe ⟨t.val - 1, by omega⟩ = pe t := Fin.ext (by
    rw [(coords _).1, (coords _).1]; show (t.val - 1) / 15 = t.val / 15; omega)
  rw [max_le_iff, max_le_iff, cols_le m c q z (t.val - 1) (by omega) (by omega), e, top_le]
  unfold CB
  rw [top_le]
  simp only [VB_eq]
  have hj := (coords t).2
  constructor
  · rintro ⟨⟨hz, h⟩, h'⟩
    refine ⟨hz, fun s => ?_⟩
    by_cases a : s.val < 384 * 14
    · exact h s (by omega)
    · have := h' ⟨s.val - 384 * 14, by omega⟩
      rwa [show row t ⟨s.val - 384 * 14, by omega⟩ = s from Fin.ext (by show (pj t).val * 384 + (s.val - 384 * 14) = s.val; omega)] at this
  · rintro ⟨hz, h⟩
    exact ⟨⟨hz, fun s _ => h s⟩, fun p => h _⟩

theorem last : ∀ e : Fin 7, ∃ t : Fin cfg0.N, pe t = e ∧ t.val % 15 = 14 ∧ (cfg0.win 7).flush t = true := by decide +kernel
theorem flush7 : ∀ t t' : Fin cfg0.N, (cfg0.win 7).flush t = true → (cfg0.win 7).flush t' = true → win0_7.index t = win0_7.index t' → t = t' := by
  decide +kernel

theorem disjoint7 : ∀ t t' : Fin cfg0.N, (cfg0.win 7).flush t = true → (cfg0.win 7).flush t' = true → t ≠ t' →
    Disjoint ((cfg0.win 7).blk t).view.set ((cfg0.win 7).blk t').view.set :=
  fun t t' h h' hne => (cfg0.win 7).disjoint_blk fun e => hne (flush7 t t' h h' e)

/-- Result 6 in the kernel's layout. -/
theorem out7 (e : Fin 7) (q : Fin 2880) :
    ((dats m 0 c).arrAt 7 cfg0.N : S7x1x2880.Idx → Elt Ideal .f32) (ix3 e 0 q)
      = max 0 (top fun s : Fin 5760 => W (arrs m c) e s q) * ((1 / 10 : ℝ) : EReal) := by
  obtain ⟨t, rfl, h1, hf⟩ := last e
  rw [← rd7 t ((dats m 0 c).arrAt 7 cfg0.N) q, (dats m 0 c).read_blk_arrAt_eq_flushed 7 disjoint7 cfg0.N t t.isLt hf, Value.flushed7]
  exact cols_of m c q t h1

end Cert.StatsArrays
end
-- ==== Proof.StatsRefValue.lean ====
/- The reference of the maxima's run: the two result arrays after it, as functions of the argument arrays. -/
module

public import proofs.«01_k».proof.Proof.Gen.StatsReferenceIdeal.Frame
public import Idealize.ShloMosaic.Lib.Pipeline.Value

@[expose] public section

noncomputable section

namespace Cert.StatsRefValue

open Cert.StatsReferenceIdeal Cert.StatsReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S7x15x1x384.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S7x1x2880.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S7x5760x2880.Idx) : ((cfg0.win 0).blk t).view.emb j = j := by
  obtain ⟨e0, e1, e2⟩ := idx_zero0 t
  funext a; apply Fin.ext
  match a with
  | ⟨0, _⟩ => show win0_0.index t (0 : Fin 3) * 7 + 1 * (j 0).val = (j 0).val; omega
  | ⟨1, _⟩ => show win0_0.index t (1 : Fin 3) * 5760 + 1 * (j 1).val = (j 1).val; omega
  | ⟨2, _⟩ => show win0_0.index t (2 : Fin 3) * 2880 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S7x5760.Idx) : ((cfg0.win 1).blk t).view.emb j = j := by
  obtain ⟨e0, e1⟩ := idx_zero1 t
  funext a; apply Fin.ext
  match a with
  | ⟨0, _⟩ => show win0_1.index t (0 : Fin 2) * 7 + 1 * (j 0).val = (j 0).val; omega
  | ⟨1, _⟩ => show win0_1.index t (1 : Fin 2) * 5760 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S7x5760x1440.Idx) : ((cfg0.win 2).blk t).view.emb j = j := by
  obtain ⟨e0, e1, e2⟩ := idx_zero2 t
  funext a; apply Fin.ext
  match a with
  | ⟨0, _⟩ => show win0_2.index t (0 : Fin 3) * 7 + 1 * (j 0).val = (j 0).val; omega
  | ⟨1, _⟩ => show win0_2.index t (1 : Fin 3) * 5760 + 1 * (j 1).val = (j 1).val; omega
  | ⟨2, _⟩ => show win0_2.index t (2 : Fin 3) * 1440 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S7x5760.Idx) : ((cfg0.win 3).blk t).view.emb j = j := by
  obtain ⟨e0, e1⟩ := idx_zero3 t
  funext a; apply Fin.ext
  match a with
  | ⟨0, _⟩ => show win0_3.index t (0 : Fin 2) * 7 + 1 * (j 0).val = (j 0).val; omega
  | ⟨1, _⟩ => show win0_3.index t (1 : Fin 2) * 5760 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S7x2880.Idx) : ((cfg0.win 4).blk t).view.emb j = j := by
  obtain ⟨e0, e1⟩ := idx_zero4 t
  funext a; apply Fin.ext
  match a with
  | ⟨0, _⟩ => show win0_4.index t (0 : Fin 2) * 7 + 1 * (j 0).val = (j 0).val; omega
  | ⟨1, _⟩ => show win0_4.index t (1 : Fin 2) * 2880 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S7x15x1x384.Idx) : ((cfg0.win 5).blk t).view.emb j = j := by
  obtain ⟨e0, e1, e2, e3⟩ := idx_zero5 t
  funext a; apply Fin.ext
  match a with
  | ⟨0, _⟩ => show win0_5.index t (0 : Fin 4) * 7 + 1 * (j 0).val = (j 0).val; omega
  | ⟨1, _⟩ => show win0_5.index t (1 : Fin 4) * 15 + 1 * (j 1).val = (j 1).val; omega
  | ⟨2, _⟩ => show win0_5.index t (2 : Fin 4) * 1 + 1 * (j 2).val = (j 2).val; omega
  | ⟨3, _⟩ => show win0_5.index t (3 : Fin 4) * 384 + 1 * (j 3).val = (j 3).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S7x1x2880.Idx) : ((cfg0.win 6).blk t).view.emb j = j := by
  obtain ⟨e0, e1, e2⟩ := idx_zero6 t
  funext a; apply Fin.ext
  match a with
  | ⟨0, _⟩ => show win0_6.index t (0 : Fin 3) * 7 + 1 * (j 0).val = (j 0).val; omega
  | ⟨1, _⟩ => show win0_6.index t (1 : Fin 3) * 1 + 1 * (j 1).val = (j 1).val; omega
  | ⟨2, _⟩ => show win0_6.index t (2 : Fin 3) * 2880 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S7x5760x2880 .fp8e4m3) (a1 : Vec F S7x5760 .f32) (a2 : Vec F S7x5760x1440 .i8) (a3 : Vec F S7x5760 .f32) (a4 : Vec F S7x2880 .f32) : Vec F S7x15x1x384 .f32 :=
  k0_pay2 (k0_pay11 a0 a1 a2 a3 a4) (k0_pay12 a0 a1 a2 a3 a4) a3 (k0_pay13 a0 a1 a2 a3 a4) (k0_pay14 a0 a1 a2 a3 a4)

/-- A load of the whole of a block reads the block, and the one store through the whole rectangle leaves its payload. -/
theorem out5_eq (a0 : Vec F S7x5760x2880 .fp8e4m3) (a1 : Vec F S7x5760 .f32) (a2 : Vec F S7x5760x1440 .i8) (a3 : Vec F S7x5760 .f32) (a4 : Vec F S7x2880 .f32) : out0_5 (F := F) a0 a1 a2 a3 a4 = G5 a0 a1 a2 a3 a4 := by
  unfold out0_5
  rw [View.canon_unit_zero hz5, View.ld_unit_zero (S := S7x5760) hz3 _ a3]

/-- Cutting the point's block out of `X` and reading `X` through the block's view give the same. -/
theorem cut5_eq (t : Fin cfg0.N) (X : Vec F S7x15x1x384 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S7x15x1x384.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S7x5760x2880 .fp8e4m3) (a1 : Vec F S7x5760 .f32) (a2 : Vec F S7x5760x1440 .i8) (a3 : Vec F S7x5760 .f32) (a4 : Vec F S7x2880 .f32) : Vec F S7x1x2880 .f32 :=
  k0_pay3 (k0_pay11 a0 a1 a2 a3 a4) (k0_pay12 a0 a1 a2 a3 a4) a3 (k0_pay13 a0 a1 a2 a3 a4) (k0_pay14 a0 a1 a2 a3 a4)

/-- A load of the whole of a block reads the block, and the one store through the whole rectangle leaves its payload. -/
theorem out6_eq (a0 : Vec F S7x5760x2880 .fp8e4m3) (a1 : Vec F S7x5760 .f32) (a2 : Vec F S7x5760x1440 .i8) (a3 : Vec F S7x5760 .f32) (a4 : Vec F S7x2880 .f32) : out0_6 (F := F) a0 a1 a2 a3 a4 = G6 a0 a1 a2 a3 a4 := by
  unfold out0_6
  rw [View.canon_unit_zero hz6, View.ld_unit_zero (S := S7x5760) hz3 _ a3]

/-- Cutting the point's block out of `X` and reading `X` through the block's view give the same. -/
theorem cut6_eq (t : Fin cfg0.N) (X : Vec F S7x1x2880 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S7x1x2880.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

end Cert.StatsRefValue
end
-- ==== Proof.StatsRef.lean ====
/- The reference of the maxima's run: its two result arrays, element by element. -/
module

public import proofs.«01_k».proof.Proof.RefPay
public import proofs.«01_k».proof.Proof.RefOut
public import proofs.«01_k».proof.Proof.StatsCells
public import proofs.«01_k».proof.Proof.StatsRefValue
public import Idealize.ShloMosaic.Lib.Pointwise

@[expose] public section

set_option maxRecDepth 16384

noncomputable section

namespace Cert.StatsRef

open Idealize.ShloMosaic Idealize.ShloMosaic.TcCoe Idealize.ShloMosaic.Tactic Idealize.SL.Sem
open Cert.StatsReferenceIdeal Cert.StatsReferenceIdeal.Gen Cert.Scalar
open Cert.StatsCells (top top_le)
open Cert.Cells (b_ninf)

theorem c_olb2 : Named.named (F := Ideal) κ "one_less_beta2" (φ := .f32) 0x3A83126F#32 = ((1 / 1000 : ℝ) : EReal) :=
  IdealRules.named_const.ideal_named_scalar _ _ _ _ rfl

/-- The new second moment, as it is written down. -/
def vT (lev vr vl gg : EReal) : EReal :=
  Ideal.ofBits .f32 0x3F7FBE77#32 * (lev * Ideal.ofBits .f32 0x3D800000#32 * min vr vl) + ((1 / 1000 : ℝ) : EReal) * gg * gg

section pay
variable (a0 : Vec Ideal S7x5760x2880 .fp8e4m3) (a1 : Vec Ideal S7x5760 .f32) (a2 : Vec Ideal S7x5760x1440 .i8) (a3 : Vec Ideal S7x5760 .f32) (a4 : Vec Ideal S7x2880 .f32)
variable (e : Fin 7) (s : Fin 5760) (h : Fin 1440)

theorem g_odd : k0_pay6 a0 a1 (ix3 e s h) = a0 (ix3 e s ⟨h.val * 2 + 1, by omega⟩) * a1 (ix2 e s) := by
  pointwise [k0_pay6, k0_pay4, k0_pay5]
theorem l_at (k : Fin 2) : k0_pay7 a4 (ix3 e h k) = a4 (ix2 e ⟨h.val * 2 + k.val, by omega⟩) := by
  pointwise [k0_pay7]
theorem v_even : k0_pay9 a0 a1 a4 a2 a3 (ix3 e s h)
    = vT (vLev (a2 (ix3 e s h) &&& 0x0F#8)) (a3 (ix2 e s)) (a4 (ix2 e ⟨h.val * 2, by omega⟩)) (a0 (ix3 e s ⟨h.val * 2, by omega⟩) * a1 (ix2 e s)) := by
  pointwise [k0_pay9, k0_pay4, k0_pay5, k0_pay7, k0_pay8]
  rw [Cert.RefPay.vlev_low, c_olb2]; rfl
theorem v_odd' (gg : FVec Ideal S7x5760x1440 .f32) (vl : FVec Ideal S7x1440x2 .f32) : k0_pay1 gg vl a3 (k0_pay10 a2) (ix3 e s h)
    = vT (vLev (a2 (ix3 e s h) >>> 4)) (a3 (ix2 e s)) (vl (ix3 e h 1)) (gg (ix3 e s h)) := by
  pointwise [k0_pay1, k0_pay10, k0_pay8]
  rw [Cert.RefPay.vlev_high, c_olb2]; rfl
theorem v_odd : k0_pay1 (k0_pay6 a0 a1) (k0_pay7 a4) a3 (k0_pay10 a2) (ix3 e s h)
    = vT (vLev (a2 (ix3 e s h) >>> 4)) (a3 (ix2 e s)) (a4 (ix2 e ⟨h.val * 2 + 1, by omega⟩)) (a0 (ix3 e s ⟨h.val * 2 + 1, by omega⟩) * a1 (ix2 e s)) := by
  rw [v_odd', l_at, g_odd]; rfl

/-- The new second moment over the arrays. -/
def RV (q : Fin 2880) : EReal :=
  vT (vLev (nib (a2 (ix3 e s ⟨q.val / 2, by omega⟩)) q.val)) (a3 (ix2 e s)) (a4 (ix2 e q)) (a0 (ix3 e s q) * a1 (ix2 e s))

theorem v_even_RV : k0_pay9 a0 a1 a4 a2 a3 (ix3 e s h) = RV a0 a1 a2 a3 a4 e s ⟨h.val * 2, by omega⟩ := by
  rw [v_even]; unfold RV; dsimp only; rw [Cert.RefOut.nib_even, Cert.RefOut.half_even]
theorem v_odd_RV : k0_pay1 (k0_pay6 a0 a1) (k0_pay7 a4) a3 (k0_pay10 a2) (ix3 e s h) = RV a0 a1 a2 a3 a4 e s ⟨h.val * 2 + 1, by omega⟩ := by
  rw [v_odd]; unfold RV; dsimp only; rw [Cert.RefOut.nib_odd, Cert.RefOut.half_odd]

end pay

/-! The two reductions. -/

section red
variable (v w : FVec Ideal S7x5760x1440 .f32) (e : Fin 7)

theorem red_row (s : Fin 5760) : multiReduction .maximumf [2] S7x5760 v 0xFF800000#32 reduces_S7x5760x1440_S7x5760 (.inl rfl) rfl (ix2 e s)
    = top fun h : Fin 1440 => v (ix3 e s h) := by
  pointwise
  simp only [b_ninf, top]
theorem red_col (h : Fin 1440) : multiReduction .maximumf [1] S7x1440 v 0xFF800000#32 reduces_S7x5760x1440_S7x1440 (.inl rfl) rfl (ix2 e h)
    = top fun s : Fin 5760 => v (ix3 e s h) := by
  pointwise
  simp only [b_ninf, top]
theorem rows_at (x y : FVec Ideal S7x5760 .f32) (j : Fin 15) (p : Fin 384) :
    shapeCast S7x15x1x384 (maximumf x y) shapeCasts_S7x5760_S7x15x1x384 (ix4 e j 0 p)
      = max (x (ix2 e ⟨j.val * 384 + p.val, by omega⟩)) (y (ix2 e ⟨j.val * 384 + p.val, by omega⟩)) := by
  pointwise
theorem cols_at (x y : FVec Ideal S7x1440 .f32) (q : Fin 2880) :
    shapeCast S7x1x2880 (shapeCast S7x2880 (concatenate S7x1440x2 2 [⟨S7x1440x1, shapeCast S7x1440x1 x shapeCasts_S7x1440_S7x1440x1⟩,
        ⟨S7x1440x1, shapeCast S7x1440x1 y shapeCasts_S7x1440_S7x1440x1⟩] concatenates_S7x1440x1_S7x1440x1_S7x1440x2_d2) shapeCasts_S7x1440x2_S7x2880)
        shapeCasts_S7x2880_S7x1x2880 (ix3 e 0 q)
      = if q.val % 2 = 0 then x (ix2 e ⟨q.val / 2, by omega⟩) else y (ix2 e ⟨q.val / 2, by omega⟩) := by
  pointwise
  by_cases h : q.val % 2 = 0
  · rw [dif_pos (by omega), if_pos h]
  · rw [dif_neg (by omega), if_neg h]
end red

theorem top_pairs (f : Fin 2880 → EReal) :
    max (top fun h : Fin 1440 => f ⟨h.val * 2, by omega⟩) (top fun h : Fin 1440 => f ⟨h.val * 2 + 1, by omega⟩) = top f := by
  refine eq_of_forall_ge_iff fun z => ?_
  rw [max_le_iff, top_le, top_le, top_le]
  refine ⟨fun H q => ?_, fun H => ⟨fun h => H _, fun h => H _⟩⟩
  by_cases hq : q.val % 2 = 0
  · have h := H.1 ⟨q.val / 2, by omega⟩
    rwa [show (⟨q.val / 2 * 2, by omega⟩ : Fin 2880) = q from Fin.ext (by show q.val / 2 * 2 = q.val; omega)] at h
  · have h := H.2 ⟨q.val / 2, by omega⟩
    rwa [show (⟨q.val / 2 * 2 + 1, by omega⟩ : Fin 2880) = q from Fin.ext (by show q.val / 2 * 2 + 1 = q.val; omega)] at h

theorem ld_0 {φ : EltTy} (x : Vec Ideal S7x5760x2880 φ) : View.ld x r0_0 = x := View.ld_unit_zero (by decide) _ _
theorem ld_1 {φ : EltTy} (x : Vec Ideal S7x5760 φ) : View.ld x r0_1 = x := View.ld_unit_zero (by decide) _ _
theorem ld_2 {φ : EltTy} (x : Vec Ideal S7x2880 φ) : View.ld x r0_2 = x := View.ld_unit_zero (by decide) _ _
theorem ld_3 {φ : EltTy} (x : Vec Ideal S7x5760x1440 φ) : View.ld x r0_3 = x := View.ld_unit_zero (by decide) _ _

section arrays
variable (a0 : Vec Ideal S7x5760x2880 .fp8e4m3) (a1 : Vec Ideal S7x5760 .f32) (a2 : Vec Ideal S7x5760x1440 .i8) (a3 : Vec Ideal S7x5760 .f32) (a4 : Vec Ideal S7x2880 .f32)
variable (e : Fin 7)

theorem G5_at (j : Fin 15) (p : Fin 384) : Cert.StatsRefValue.G5 a0 a1 a2 a3 a4 (ix4 e j 0 p) = top (RV a0 a1 a2 a3 a4 e ⟨j.val * 384 + p.val, by omega⟩) := by
  unfold Cert.StatsRefValue.G5 k0_pay11 k0_pay12 k0_pay13 k0_pay14
  rw [ld_0, ld_1, ld_1, ld_2, ld_3]
  unfold k0_pay2
  refine (rows_at e _ _ j p).trans ?_
  rw [red_row, red_row]
  simp only [v_even_RV, v_odd_RV]
  exact top_pairs _

theorem G6_at (q : Fin 2880) : Cert.StatsRefValue.G6 a0 a1 a2 a3 a4 (ix3 e 0 q) = top fun s : Fin 5760 => RV a0 a1 a2 a3 a4 e s q := by
  unfold Cert.StatsRefValue.G6 k0_pay11 k0_pay12 k0_pay13 k0_pay14
  rw [ld_0, ld_1, ld_1, ld_2, ld_3]
  unfold k0_pay3
  refine (cols_at e _ _ q).trans ?_
  rw [red_col, red_col]
  simp only [v_even_RV, v_odd_RV]
  by_cases hq : q.val % 2 = 0
  · rw [if_pos hq]
    simp only [show (⟨q.val / 2 * 2, by omega⟩ : Fin 2880) = q from Fin.ext (by show q.val / 2 * 2 = q.val; omega)]
  · rw [if_neg hq]
    simp only [show (⟨q.val / 2 * 2 + 1, by omega⟩ : Fin 2880) = q from Fin.ext (by show q.val / 2 * 2 + 1 = q.val; omega)]
end arrays

end Cert.StatsRef
end
-- ==== Proof.StatsEquation.lean ====
/- The maxima the kernel finds are the reference's. -/
module

public import proofs.«01_k».proof.Proof.Equation
public import proofs.«01_k».proof.Proof.StatsRef

@[expose] public section

set_option maxRecDepth 16384

noncomputable section

namespace Cert.StatsEquation

open Idealize.ShloMosaic Cert.Scalar Cert.Cells Cert.StatsCells Cert.StatsRef
open Cert.Equation (b_beta2 b_sixteenth min_mul_real fold_consts sq_nonneg)

/-- One element, in the kernel's unit and in the reference's. -/
theorem v_eq (lev vr vl g gs : EReal) : vS lev vr vl (gK g gs) * ((1 / 10 : ℝ) : EReal) = vT lev vr vl (g * gs) := by
  unfold vS gK vT
  rw [b_beta2, b_sixteenth, min_mul_real _ _ _ (by norm_num), mul_comm,
    EReal.left_distrib_of_nonneg_of_ne_top (EReal.coe_nonneg.2 (by norm_num)) (EReal.coe_ne_top _)]
  congr 1
  · rw [show ((1 / 10 : ℝ) : EReal) * (lev * (min vr vl * ((83802195 / 134217728 : ℝ) : EReal)))
        = ((1 / 10 : ℝ) : EReal) * (((83802195 / 134217728 : ℝ) : EReal) * (lev * min vr vl)) by ac_rfl,
      show ((16760439 / 16777216 : ℝ) : EReal) * (lev * ((1 / 16 : ℝ) : EReal) * min vr vl)
        = ((16760439 / 16777216 : ℝ) : EReal) * (((1 / 16 : ℝ) : EReal) * (lev * min vr vl)) by ac_rfl,
      fold_consts _ _ _ _ rfl, fold_consts _ _ _ _ rfl]
    norm_num
  · rw [show ((1 / 10 : ℝ) : EReal) * (g * (gs * ((1 / 10 : ℝ) : EReal)) * (g * (gs * ((1 / 10 : ℝ) : EReal))))
        = ((1 / 10 : ℝ) : EReal) * (((1 / 10 : ℝ) : EReal) * (((1 / 10 : ℝ) : EReal) * ((g * gs) * (g * gs)))) by ac_rfl,
      fold_consts _ _ _ _ rfl, fold_consts _ _ _ _ rfl, mul_assoc _ (g * gs) (g * gs)]
    norm_num

theorem v_nonneg {lev vr vl : EReal} (gg : EReal) (h : 0 ≤ lev) (hr : 0 ≤ vr) (hl : 0 ≤ vl) : 0 ≤ vS lev vr vl gg := by
  unfold vS
  rw [min_mul_real _ _ _ (by norm_num)]
  exact add_nonneg (EReal.mul_nonneg h (EReal.mul_nonneg (le_min hr hl) (EReal.coe_nonneg.2 (by norm_num)))) (sq_nonneg _)

/-- Scaling the largest of a family scales the family. -/
theorem top_mul {n : ℕ} (f : Fin n → EReal) (r : ℝ) (hr : 0 < r) : top f * (r : EReal) = top fun x => f x * (r : EReal) := by
  have hm : Monotone fun x : EReal => x * (r : EReal) := fun x y hxy => mul_le_mul_of_nonneg_right hxy (EReal.coe_nonneg.2 hr.le)
  have h := Finset.fold_hom (op := max) (op' := max) (m := fun x : EReal => x * (r : EReal)) (b := (⊥ : EReal)) (f := f) (s := Finset.univ)
    (fun x y => hm.map_max)
  unfold top
  rw [← h, EReal.bot_mul_coe_of_pos hr]

theorem top_nonneg {n : ℕ} (f : Fin (n + 1) → EReal) (h : ∀ x, 0 ≤ f x) : 0 ≤ top f :=
  (h 0).trans (top_le.1 le_rfl 0)

end Cert.StatsEquation
end
-- ==== Proof.StatsAlgebraic.lean ====
/- The value claim of the maxima's run: on sound maxima the kernel's new row and column maxima are the reference's. -/
module

public import proofs.«01_k».proof.Proof.StatsPre
public import proofs.«01_k».proof.Proof.StatsArrays
public import proofs.«01_k».proof.Proof.StatsEquation
public import proofs.«01_k».proof.Proof.Gen.StatsIdeal
public import proofs.«01_k».proof.Proof.Gen.StatsReferenceIdeal

@[expose] public section

set_option maxRecDepth 16384

noncomputable section

namespace Cert.StatsAlgebraic

open Idealize.ShloMosaic Idealize.SL.Sem Cert.Scalar Cert.Cells Cert.StatsCells Cert.StatsArrays Cert.StatsEquation

theorem ext4 {n0 n1 n3 : ℕ} {α : Type} {x y : (⟨4, ![n0, n1, 1, n3]⟩ : Shape).Idx → α}
    (h : ∀ (a : Fin n0) (b : Fin n1) (d : Fin n3), x (ix4 a b 0 d) = y (ix4 a b 0 d)) : x = y := by
  funext i
  have e : i = ix4 (i 0) (i 1) (0 : Fin 1) (i 3) := by
    funext a
    match a with
    | ⟨0, _⟩ => rfl
    | ⟨1, _⟩ => rfl
    | ⟨2, _⟩ => exact Subsingleton.elim (α := Fin 1) _ _
    | ⟨3, _⟩ => rfl
  rw [e]
  exact h _ _ _
theorem ext3' {n0 n2 : ℕ} {α : Type} {x y : (⟨3, ![n0, 1, n2]⟩ : Shape).Idx → α}
    (h : ∀ (a : Fin n0) (d : Fin n2), x (ix3 a 0 d) = y (ix3 a 0 d)) : x = y := by
  funext i
  have e : i = ix3 (i 0) (0 : Fin 1) (i 2) := by
    funext a
    match a with
    | ⟨0, _⟩ => rfl
    | ⟨1, _⟩ => exact Subsingleton.elim (α := Fin 1) _ _
    | ⟨2, _⟩ => rfl
  rw [e]
  exact h _ _

section core
variable (m : (ℓ : Loc Cert.StatsIdeal.nD Cert.StatsIdeal.τ Cert.StatsIdeal.sig) → Buf (Elt Ideal) ℓ)
  (m' : (ℓ : Loc Cert.StatsReferenceIdeal.nD Cert.StatsReferenceIdeal.τ Cert.StatsReferenceIdeal.sig) → Buf (Elt Ideal) ℓ)
  (c : Dev Cert.StatsIdeal.nD)

/-- The two programs are launched on the same arrays. -/
def Same : Prop :=
  m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
  ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
  ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
  ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)
  ∧ m' ((c.tc : Thread Cert.StatsReferenceIdeal.nD Cert.StatsReferenceIdeal.τ).loc Cert.StatsReferenceIdeal.main_arg4) = m ((c.tc : Thread Cert.StatsIdeal.nD Cert.StatsIdeal.τ).loc Cert.StatsIdeal.main_arg4)

/-- One element of the reference, from the kernel's arrays. -/
theorem RV_eq (e : Fin 7) (s : Fin 5760) (q : Fin 2880) :
    Cert.StatsRef.RV (m ((c.tc : Thread Cert.StatsIdeal.nD Cert.StatsIdeal.τ).loc Cert.StatsIdeal.main_arg0)) (m ((c.tc : Thread Cert.StatsIdeal.nD Cert.StatsIdeal.τ).loc Cert.StatsIdeal.main_arg1))
      (m ((c.tc : Thread Cert.StatsIdeal.nD Cert.StatsIdeal.τ).loc Cert.StatsIdeal.main_arg2)) (m ((c.tc : Thread Cert.StatsIdeal.nD Cert.StatsIdeal.τ).loc Cert.StatsIdeal.main_arg3))
      (m ((c.tc : Thread Cert.StatsIdeal.nD Cert.StatsIdeal.τ).loc Cert.StatsIdeal.main_arg4)) e s q
    = W (arrs m c) e s q * ((1 / 10 : ℝ) : EReal) := by
  unfold Cert.StatsRef.RV W
  exact (v_eq _ _ _ _ _).symm

theorem W_nonneg (h : Cert.Pre_StatsIdeal_maxima_sound m) (e : Fin 7) (s : Fin 5760) (q : Fin 2880) : 0 ≤ W (arrs m c) e s q := by
  have H := Cert.StatsPre.at_elt _ _ _ _ _ (h c) e s q
  unfold W
  exact v_nonneg _ (Cert.Equation.vLev_nonneg _ _) H.1 H.2

variable (hs : Same m m' c)

include hs in
theorem res0 : ((Cert.StatsReferenceIdeal.Gen.dats m' 0 c).arrAt 5 Cert.StatsReferenceIdeal.cfg0.N : Cert.StatsIdeal.S7x15x1x384.Idx → Elt Ideal .f32)
    = (Cert.StatsIdeal.Gen.dats m 0 c).arrAt 6 Cert.StatsIdeal.cfg0.N := by
  obtain ⟨a0, a1, a2, a3, a4⟩ := hs
  refine ext4 fun e j p => ?_
  refine (congrFun (Cert.StatsRefValue.final5 m' c) (ix4 e j 0 p)).trans (Eq.trans ?_ (out6 m c e j p).symm)
  rw [a0, a1, a2, a3, a4]
  refine (Cert.StatsRef.G5_at _ _ _ _ _ e j p).trans ?_
  rw [top_mul _ _ (by norm_num)]
  exact congrArg top (funext fun q => RV_eq m c e _ q)

include hs in
theorem res1 (h : Cert.Pre_StatsIdeal_maxima_sound m) : ((Cert.StatsReferenceIdeal.Gen.dats m' 0 c).arrAt 6 Cert.StatsReferenceIdeal.cfg0.N : Cert.StatsIdeal.S7x1x2880.Idx → Elt Ideal .f32)
    = (Cert.StatsIdeal.Gen.dats m 0 c).arrAt 7 Cert.StatsIdeal.cfg0.N := by
  obtain ⟨a0, a1, a2, a3, a4⟩ := hs
  refine ext3' fun e q => ?_
  refine (congrFun (Cert.StatsRefValue.final6 m' c) (ix3 e 0 q)).trans (Eq.trans ?_ (out7 m c e q).symm)
  rw [a0, a1, a2, a3, a4, max_eq_right (top_nonneg (n := 5759) _ fun s => W_nonneg m c h e s q)]
  refine (Cert.StatsRef.G6_at _ _ _ _ _ e q).trans ?_
  rw [top_mul _ _ (by norm_num)]
  exact congrArg top (funext fun s => RV_eq m c e s q)

end core

/-- On sound maxima, run from the same arguments, kernel and reference leave the same two results. -/
theorem algebraic : Cert.algebraic_StatsIdeal_StatsReferenceIdeal_pre_maxima_sound
    (hStatsIdeal := Cert.StatsIdeal.Gen.facts) (hStatsReferenceIdeal := Cert.StatsReferenceIdeal.Gen.facts) (hPre_maxima_sound := Cert.Pre_maxima_sound.Gen.facts) := by
  intro m g m' g' hpre hargs
  exact ⟨fun c => (Cert.StatsIdeal.Gen.dats m 0 c).arrAt 6 Cert.StatsIdeal.cfg0.N, fun c => (Cert.StatsIdeal.Gen.dats m 0 c).arrAt 7 Cert.StatsIdeal.cfg0.N,
    Cert.StatsIdeal.Value.run_blocks m g,
    (θ_run Cert.StatsReferenceIdeal.defs _ _).mono
      (fun r h c => ⟨(h c).1.trans (res0 m m' c (hargs c)), (h c).2.1.trans (res1 m m' c (hargs c) hpre), (h c).2.2⟩)
      (Cert.StatsRefValue.run_blocks m' g')⟩

end Cert.StatsAlgebraic
end
-- ==== Proof.lean ====
/- The certificate: the claims of Defs.lean, each from the module that proves it. -/
module

public import proofs.«01_k».proof.Defs
public import proofs.«01_k».proof.Proof.Consts
public import proofs.«01_k».proof.Proof.Algebraic
public import proofs.«01_k».proof.Proof.StatsAlgebraic
public import proofs.«01_k».proof.Proof.Gen.Pre_states_sound
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_maxima_sound
public import proofs.«01_k».proof.Proof.Gen.StatsIdeal.Value
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsReference
public import proofs.«01_k».proof.Proof.Gen.StatsReference.Skeleton
public import proofs.«01_k».proof.Proof.Gen.StatsReference.Launch
public import proofs.«01_k».proof.Proof.Gen.StatsReference.Points
public import proofs.«01_k».proof.Proof.Gen.StatsReference.Frame
public import proofs.«01_k».proof.Proof.Gen.StatsReferenceIdeal
public import proofs.«01_k».proof.Proof.Gen.StatsReferenceIdeal.Skeleton
public import proofs.«01_k».proof.Proof.Gen.StatsReferenceIdeal.Launch
public import proofs.«01_k».proof.Proof.Gen.StatsReferenceIdeal.Points
public import proofs.«01_k».proof.Proof.Gen.StatsReferenceIdeal.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.Reference.Gen.facts, Cert.ReferenceIdeal.Gen.facts,
    Cert.Stats.Gen.facts, Cert.StatsIdeal.Gen.facts, Cert.StatsReference.Gen.facts, Cert.StatsReferenceIdeal.Gen.facts,
    Cert.Pre_states_sound.Gen.facts, Cert.Pre_maxima_sound.Gen.facts,
    fun m ρ _ => Cert.Kernel.Gen.frame m ρ, fun m ρ _ => Cert.KernelIdeal.Gen.frame m ρ, fun m ρ _ => Cert.KernelIdeal.Gen.frame m ρ,
    fun m ρ _ => Cert.Reference.Gen.frame m ρ, fun m ρ _ => Cert.ReferenceIdeal.Gen.frame m ρ, fun m ρ _ => Cert.ReferenceIdeal.Gen.frame m ρ,
    fun m ρ _ => Cert.Stats.Gen.frame m ρ, fun m ρ _ => Cert.StatsIdeal.Gen.frame m ρ, fun m ρ _ => Cert.StatsIdeal.Gen.frame m ρ,
    fun m ρ _ => Cert.StatsReference.Gen.frame m ρ, fun m ρ _ => Cert.StatsReferenceIdeal.Gen.frame m ρ, fun m ρ _ => Cert.StatsReferenceIdeal.Gen.frame m ρ,
    Cert.Consts.preserves_kernel, Cert.Consts.preserves_reference, Cert.Algebraic.algebraic,
    Cert.Consts.preserves_stats, Cert.Consts.preserves_stats_reference, Cert.StatsAlgebraic.algebraic⟩

end Cert.Proof

end
